-- ==== Defs.lean ====
def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_finite_scores [hPre_finite_scores : Cert.Pre_finite_scores.Facts] (m : (ℓ : Loc Cert.FoxIdeal.nD Cert.FoxIdeal.τ Cert.FoxIdeal.sig) → Buf (Elt Ideal) ℓ) : Prop :=
  ∀ c : Dev Cert.FoxIdeal.nD,
    (Cert.Pre_finite_scores.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4))) = (fun _ => 1#1)

def Pre_FoxReferenceIdeal (m : (ℓ : Loc Cert.FoxReferenceIdeal.nD Cert.FoxReferenceIdeal.τ Cert.FoxReferenceIdeal.sig) → Buf (Elt Ideal) ℓ) : Prop :=
  True

def Pre_FoxReferenceIdeal_finite_scores [hPre_finite_scores : Cert.Pre_finite_scores.Facts] (m : (ℓ : Loc Cert.FoxReferenceIdeal.nD Cert.FoxReferenceIdeal.τ Cert.FoxReferenceIdeal.sig) → Buf (Elt Ideal) ℓ) : Prop :=
  ∀ c : Dev Cert.FoxReferenceIdeal.nD,
    (Cert.Pre_finite_scores.fn (F := Ideal) (m ((c.tc : Thread Cert.FoxReferenceIdeal.nD Cert.FoxReferenceIdeal.τ).loc Cert.FoxReferenceIdeal.main_arg0)) (m ((c.tc : Thread Cert.FoxReferenceIdeal.nD Cert.FoxReferenceIdeal.τ).loc Cert.FoxReferenceIdeal.main_arg1)) (m ((c.tc : Thread Cert.FoxReferenceIdeal.nD Cert.FoxReferenceIdeal.τ).loc Cert.FoxReferenceIdeal.main_arg2)) (m ((c.tc : Thread Cert.FoxReferenceIdeal.nD Cert.FoxReferenceIdeal.τ).loc Cert.FoxReferenceIdeal.main_arg3)) (m ((c.tc : Thread Cert.FoxReferenceIdeal.nD Cert.FoxReferenceIdeal.τ).loc Cert.FoxReferenceIdeal.main_arg4))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Xattn (m : (ℓ : Loc Cert.Xattn.nD Cert.Xattn.τ Cert.Xattn.sig) → Buf (Elt Bits) ℓ) : Prop :=
  True

def Pre_XattnIdeal (m : (ℓ : Loc Cert.XattnIdeal.nD Cert.XattnIdeal.τ Cert.XattnIdeal.sig) → Buf (Elt Ideal) ℓ) : Prop :=
  True

def Pre_XattnReferenceIdeal (m : (ℓ : Loc Cert.XattnReferenceIdeal.nD Cert.XattnReferenceIdeal.τ Cert.XattnReferenceIdeal.sig) → Buf (Elt Ideal) ℓ) : Prop :=
  True

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2)
      ∧ r.2.mem ((c.tc : Thread Cert.Fox.nD Cert.Fox.τ).loc Cert.Fox.main_arg3) = m ((c.tc : Thread Cert.Fox.nD Cert.Fox.τ).loc Cert.Fox.main_arg3)
      ∧ r.2.mem ((c.tc : Thread Cert.Fox.nD Cert.Fox.τ).loc Cert.Fox.main_arg4) = m ((c.tc : Thread Cert.Fox.nD Cert.Fox.τ).loc Cert.Fox.main_arg4))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
      ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ r.2.sem = fun _ => 0)

def quiescent_FoxIdeal_pre_finite_scores [hFoxIdeal : Cert.FoxIdeal.Facts] [hPre_finite_scores : Cert.Pre_finite_scores.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_finite_scores m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
      ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ r.2.sem = fun _ => 0)

def quiescent_FoxReferenceIdeal [hFoxReferenceIdeal : Cert.FoxReferenceIdeal.Facts] : Prop :=
  ∀ (m : (ℓ : Loc Cert.FoxReferenceIdeal.nD Cert.FoxReferenceIdeal.τ Cert.FoxReferenceIdeal.sig) → Buf (Elt Ideal) ℓ) (g : Dev Cert.FoxReferenceIdeal.nD → PrngReg), Pre_FoxReferenceIdeal m →
    θ_run (Cert.FoxReferenceIdeal.defs (F := Ideal)) (onTc (τ := Cert.FoxReferenceIdeal.τ) (Cert.FoxReferenceIdeal.main (F := Ideal))) ⟨m, fun _ => 0, g⟩ (fun r => (∀ c : Dev Cert.FoxReferenceIdeal.nD,
      r.2.mem ((c.tc : Thread Cert.FoxReferenceIdeal.nD Cert.FoxReferenceIdeal.τ).loc Cert.FoxReferenceIdeal.main_arg0) = m ((c.tc : Thread Cert.FoxReferenceIdeal.nD Cert.FoxReferenceIdeal.τ).loc Cert.FoxReferenceIdeal.main_arg0)
      ∧ r.2.mem ((c.tc : Thread Cert.FoxReferenceIdeal.nD Cert.FoxReferenceIdeal.τ).loc Cert.FoxReferenceIdeal.main_arg1) = m ((c.tc : Thread Cert.FoxReferenceIdeal.nD Cert.FoxReferenceIdeal.τ).loc Cert.FoxReferenceIdeal.main_arg1)
      ∧ r.2.mem ((c.tc : Thread Cert.FoxReferenceIdeal.nD Cert.FoxReferenceIdeal.τ).loc Cert.FoxReferenceIdeal.main_arg2) = m ((c.tc : Thread Cert.FoxReferenceIdeal.nD Cert.FoxReferenceIdeal.τ).loc Cert.FoxReferenceIdeal.main_arg2)
      ∧ r.2.mem ((c.tc : Thread Cert.FoxReferenceIdeal.nD Cert.FoxReferenceIdeal.τ).loc Cert.FoxReferenceIdeal.main_arg3) = m ((c.tc : Thread Cert.FoxReferenceIdeal.nD Cert.FoxReferenceIdeal.τ).loc Cert.FoxReferenceIdeal.main_arg3)
      ∧ r.2.mem ((c.tc : Thread Cert.FoxReferenceIdeal.nD Cert.FoxReferenceIdeal.τ).loc Cert.FoxReferenceIdeal.main_arg4) = m ((c.tc : Thread Cert.FoxReferenceIdeal.nD Cert.FoxReferenceIdeal.τ).loc Cert.FoxReferenceIdeal.main_arg4))
      ∧ r.2.sem = fun _ => 0)

def quiescent_FoxReferenceIdeal_pre_finite_scores [hFoxReferenceIdeal : Cert.FoxReferenceIdeal.Facts] [hPre_finite_scores : Cert.Pre_finite_scores.Facts] : Prop :=
  ∀ (m : (ℓ : Loc Cert.FoxReferenceIdeal.nD Cert.FoxReferenceIdeal.τ Cert.FoxReferenceIdeal.sig) → Buf (Elt Ideal) ℓ) (g : Dev Cert.FoxReferenceIdeal.nD → PrngReg), Pre_FoxReferenceIdeal_finite_scores m →
    θ_run (Cert.FoxReferenceIdeal.defs (F := Ideal)) (onTc (τ := Cert.FoxReferenceIdeal.τ) (Cert.FoxReferenceIdeal.main (F := Ideal))) ⟨m, fun _ => 0, g⟩ (fun r => (∀ c : Dev Cert.FoxReferenceIdeal.nD,
      r.2.mem ((c.tc : Thread Cert.FoxReferenceIdeal.nD Cert.FoxReferenceIdeal.τ).loc Cert.FoxReferenceIdeal.main_arg0) = m ((c.tc : Thread Cert.FoxReferenceIdeal.nD Cert.FoxReferenceIdeal.τ).loc Cert.FoxReferenceIdeal.main_arg0)
      ∧ r.2.mem ((c.tc : Thread Cert.FoxReferenceIdeal.nD Cert.FoxReferenceIdeal.τ).loc Cert.FoxReferenceIdeal.main_arg1) = m ((c.tc : Thread Cert.FoxReferenceIdeal.nD Cert.FoxReferenceIdeal.τ).loc Cert.FoxReferenceIdeal.main_arg1)
      ∧ r.2.mem ((c.tc : Thread Cert.FoxReferenceIdeal.nD Cert.FoxReferenceIdeal.τ).loc Cert.FoxReferenceIdeal.main_arg2) = m ((c.tc : Thread Cert.FoxReferenceIdeal.nD Cert.FoxReferenceIdeal.τ).loc Cert.FoxReferenceIdeal.main_arg2)
      ∧ r.2.mem ((c.tc : Thread Cert.FoxReferenceIdeal.nD Cert.FoxReferenceIdeal.τ).loc Cert.FoxReferenceIdeal.main_arg3) = m ((c.tc : Thread Cert.FoxReferenceIdeal.nD Cert.FoxReferenceIdeal.τ).loc Cert.FoxReferenceIdeal.main_arg3)
      ∧ r.2.mem ((c.tc : Thread Cert.FoxReferenceIdeal.nD Cert.FoxReferenceIdeal.τ).loc Cert.FoxReferenceIdeal.main_arg4) = m ((c.tc : Thread Cert.FoxReferenceIdeal.nD Cert.FoxReferenceIdeal.τ).loc Cert.FoxReferenceIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_Xattn [hXattn : Cert.Xattn.Facts] : Prop :=
  ∀ (m : (ℓ : Loc Cert.Xattn.nD Cert.Xattn.τ Cert.Xattn.sig) → Buf (Elt Bits) ℓ) (g : Dev Cert.Xattn.nD → PrngReg), Pre_Xattn m →
    θ_run (Cert.Xattn.defs (F := Bits)) (onTc (τ := Cert.Xattn.τ) (Cert.Xattn.main (F := Bits))) ⟨m, fun _ => 0, g⟩ (fun r => (∀ c : Dev Cert.Xattn.nD,
      r.2.mem ((c.tc : Thread Cert.Xattn.nD Cert.Xattn.τ).loc Cert.Xattn.main_arg0) = m ((c.tc : Thread Cert.Xattn.nD Cert.Xattn.τ).loc Cert.Xattn.main_arg0)
      ∧ r.2.mem ((c.tc : Thread Cert.Xattn.nD Cert.Xattn.τ).loc Cert.Xattn.main_arg1) = m ((c.tc : Thread Cert.Xattn.nD Cert.Xattn.τ).loc Cert.Xattn.main_arg1)
      ∧ r.2.mem ((c.tc : Thread Cert.Xattn.nD Cert.Xattn.τ).loc Cert.Xattn.main_arg2) = m ((c.tc : Thread Cert.Xattn.nD Cert.Xattn.τ).loc Cert.Xattn.main_arg2)
      ∧ r.2.mem ((c.tc : Thread Cert.Xattn.nD Cert.Xattn.τ).loc Cert.Xattn.main_arg3) = m ((c.tc : Thread Cert.Xattn.nD Cert.Xattn.τ).loc Cert.Xattn.main_arg3)
      ∧ r.2.mem ((c.tc : Thread Cert.Xattn.nD Cert.Xattn.τ).loc Cert.Xattn.main_arg4) = m ((c.tc : Thread Cert.Xattn.nD Cert.Xattn.τ).loc Cert.Xattn.main_arg4)
      ∧ r.2.mem ((c.tc : Thread Cert.Xattn.nD Cert.Xattn.τ).loc Cert.Xattn.main_arg5) = m ((c.tc : Thread Cert.Xattn.nD Cert.Xattn.τ).loc Cert.Xattn.main_arg5)
      ∧ r.2.mem ((c.tc : Thread Cert.Xattn.nD Cert.Xattn.τ).loc Cert.Xattn.main_arg6) = m ((c.tc : Thread Cert.Xattn.nD Cert.Xattn.τ).loc Cert.Xattn.main_arg6)
      ∧ r.2.mem ((c.tc : Thread Cert.Xattn.nD Cert.Xattn.τ).loc Cert.Xattn.main_arg7) = m ((c.tc : Thread Cert.Xattn.nD Cert.Xattn.τ).loc Cert.Xattn.main_arg7)
      ∧ r.2.mem ((c.tc : Thread Cert.Xattn.nD Cert.Xattn.τ).loc Cert.Xattn.main_arg8) = m ((c.tc : Thread Cert.Xattn.nD Cert.Xattn.τ).loc Cert.Xattn.main_arg8)
      ∧ r.2.mem ((c.tc : Thread Cert.Xattn.nD Cert.Xattn.τ).loc Cert.Xattn.main_arg9) = m ((c.tc : Thread Cert.Xattn.nD Cert.Xattn.τ).loc Cert.Xattn.main_arg9)
      ∧ r.2.mem ((c.tc : Thread Cert.Xattn.nD Cert.Xattn.τ).loc Cert.Xattn.main_arg10) = m ((c.tc : Thread Cert.Xattn.nD Cert.Xattn.τ).loc Cert.Xattn.main_arg10)
      ∧ r.2.mem ((c.tc : Thread Cert.Xattn.nD Cert.Xattn.τ).loc Cert.Xattn.main_arg11) = m ((c.tc : Thread Cert.Xattn.nD Cert.Xattn.τ).loc Cert.Xattn.main_arg11)
      ∧ r.2.mem ((c.tc : Thread Cert.Xattn.nD Cert.Xattn.τ).loc Cert.Xattn.main_arg12) = m ((c.tc : Thread Cert.Xattn.nD Cert.Xattn.τ).loc Cert.Xattn.main_arg12))
      ∧ r.2.sem = fun _ => 0)

def quiescent_XattnIdeal [hXattnIdeal : Cert.XattnIdeal.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
      ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
      ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4)
      ∧ r.2.mem ((c.tc : Thread Cert.XattnIdeal.nD Cert.XattnIdeal.τ).loc Cert.XattnIdeal.main_arg5) = m ((c.tc : Thread Cert.XattnIdeal.nD Cert.XattnIdeal.τ).loc Cert.XattnIdeal.main_arg5)
      ∧ r.2.mem ((c.tc : Thread Cert.XattnIdeal.nD Cert.XattnIdeal.τ).loc Cert.XattnIdeal.main_arg6) = m ((c.tc : Thread Cert.XattnIdeal.nD Cert.XattnIdeal.τ).loc Cert.XattnIdeal.main_arg6)
      ∧ r.2.mem ((c.tc : Thread Cert.XattnIdeal.nD Cert.XattnIdeal.τ).loc Cert.XattnIdeal.main_arg7) = m ((c.tc : Thread Cert.XattnIdeal.nD Cert.XattnIdeal.τ).loc Cert.XattnIdeal.main_arg7)
      ∧ r.2.mem ((c.tc : Thread Cert.XattnIdeal.nD Cert.XattnIdeal.τ).loc Cert.XattnIdeal.main_arg8) = m ((c.tc : Thread Cert.XattnIdeal.nD Cert.XattnIdeal.τ).loc Cert.XattnIdeal.main_arg8)
      ∧ r.2.mem ((c.tc : Thread Cert.XattnIdeal.nD Cert.XattnIdeal.τ).loc Cert.XattnIdeal.main_arg9) = m ((c.tc : Thread Cert.XattnIdeal.nD Cert.XattnIdeal.τ).loc Cert.XattnIdeal.main_arg9)
      ∧ r.2.mem ((c.tc : Thread Cert.XattnIdeal.nD Cert.XattnIdeal.τ).loc Cert.XattnIdeal.main_arg10) = m ((c.tc : Thread Cert.XattnIdeal.nD Cert.XattnIdeal.τ).loc Cert.XattnIdeal.main_arg10)
      ∧ r.2.mem ((c.tc : Thread Cert.XattnIdeal.nD Cert.XattnIdeal.τ).loc Cert.XattnIdeal.main_arg11) = m ((c.tc : Thread Cert.XattnIdeal.nD Cert.XattnIdeal.τ).loc Cert.XattnIdeal.main_arg11)
      ∧ r.2.mem ((c.tc : Thread Cert.XattnIdeal.nD Cert.XattnIdeal.τ).loc Cert.XattnIdeal.main_arg12) = m ((c.tc : Thread Cert.XattnIdeal.nD Cert.XattnIdeal.τ).loc Cert.XattnIdeal.main_arg12))
      ∧ r.2.sem = fun _ => 0)

def quiescent_XattnReferenceIdeal [hXattnReferenceIdeal : Cert.XattnReferenceIdeal.Facts] : Prop :=
  ∀ (m : (ℓ : Loc Cert.XattnReferenceIdeal.nD Cert.XattnReferenceIdeal.τ Cert.XattnReferenceIdeal.sig) → Buf (Elt Ideal) ℓ) (g : Dev Cert.XattnReferenceIdeal.nD → PrngReg), Pre_XattnReferenceIdeal m →
    θ_run (Cert.XattnReferenceIdeal.defs (F := Ideal)) (onTc (τ := Cert.XattnReferenceIdeal.τ) (Cert.XattnReferenceIdeal.main (F := Ideal))) ⟨m, fun _ => 0, g⟩ (fun r => (∀ c : Dev Cert.XattnReferenceIdeal.nD,
      r.2.mem ((c.tc : Thread Cert.XattnReferenceIdeal.nD Cert.XattnReferenceIdeal.τ).loc Cert.XattnReferenceIdeal.main_arg0) = m ((c.tc : Thread Cert.XattnReferenceIdeal.nD Cert.XattnReferenceIdeal.τ).loc Cert.XattnReferenceIdeal.main_arg0)
      ∧ r.2.mem ((c.tc : Thread Cert.XattnReferenceIdeal.nD Cert.XattnReferenceIdeal.τ).loc Cert.XattnReferenceIdeal.main_arg1) = m ((c.tc : Thread Cert.XattnReferenceIdeal.nD Cert.XattnReferenceIdeal.τ).loc Cert.XattnReferenceIdeal.main_arg1)
      ∧ r.2.mem ((c.tc : Thread Cert.XattnReferenceIdeal.nD Cert.XattnReferenceIdeal.τ).loc Cert.XattnReferenceIdeal.main_arg2) = m ((c.tc : Thread Cert.XattnReferenceIdeal.nD Cert.XattnReferenceIdeal.τ).loc Cert.XattnReferenceIdeal.main_arg2)
      ∧ r.2.mem ((c.tc : Thread Cert.XattnReferenceIdeal.nD Cert.XattnReferenceIdeal.τ).loc Cert.XattnReferenceIdeal.main_arg3) = m ((c.tc : Thread Cert.XattnReferenceIdeal.nD Cert.XattnReferenceIdeal.τ).loc Cert.XattnReferenceIdeal.main_arg3)
      ∧ r.2.mem ((c.tc : Thread Cert.XattnReferenceIdeal.nD Cert.XattnReferenceIdeal.τ).loc Cert.XattnReferenceIdeal.main_arg4) = m ((c.tc : Thread Cert.XattnReferenceIdeal.nD Cert.XattnReferenceIdeal.τ).loc Cert.XattnReferenceIdeal.main_arg4)
      ∧ r.2.mem ((c.tc : Thread Cert.XattnReferenceIdeal.nD Cert.XattnReferenceIdeal.τ).loc Cert.XattnReferenceIdeal.main_arg5) = m ((c.tc : Thread Cert.XattnReferenceIdeal.nD Cert.XattnReferenceIdeal.τ).loc Cert.XattnReferenceIdeal.main_arg5)
      ∧ r.2.mem ((c.tc : Thread Cert.XattnReferenceIdeal.nD Cert.XattnReferenceIdeal.τ).loc Cert.XattnReferenceIdeal.main_arg6) = m ((c.tc : Thread Cert.XattnReferenceIdeal.nD Cert.XattnReferenceIdeal.τ).loc Cert.XattnReferenceIdeal.main_arg6)
      ∧ r.2.mem ((c.tc : Thread Cert.XattnReferenceIdeal.nD Cert.XattnReferenceIdeal.τ).loc Cert.XattnReferenceIdeal.main_arg7) = m ((c.tc : Thread Cert.XattnReferenceIdeal.nD Cert.XattnReferenceIdeal.τ).loc Cert.XattnReferenceIdeal.main_arg7)
      ∧ r.2.mem ((c.tc : Thread Cert.XattnReferenceIdeal.nD Cert.XattnReferenceIdeal.τ).loc Cert.XattnReferenceIdeal.main_arg8) = m ((c.tc : Thread Cert.XattnReferenceIdeal.nD Cert.XattnReferenceIdeal.τ).loc Cert.XattnReferenceIdeal.main_arg8)
      ∧ r.2.mem ((c.tc : Thread Cert.XattnReferenceIdeal.nD Cert.XattnReferenceIdeal.τ).loc Cert.XattnReferenceIdeal.main_arg9) = m ((c.tc : Thread Cert.XattnReferenceIdeal.nD Cert.XattnReferenceIdeal.τ).loc Cert.XattnReferenceIdeal.main_arg9)
      ∧ r.2.mem ((c.tc : Thread Cert.XattnReferenceIdeal.nD Cert.XattnReferenceIdeal.τ).loc Cert.XattnReferenceIdeal.main_arg10) = m ((c.tc : Thread Cert.XattnReferenceIdeal.nD Cert.XattnReferenceIdeal.τ).loc Cert.XattnReferenceIdeal.main_arg10)
      ∧ r.2.mem ((c.tc : Thread Cert.XattnReferenceIdeal.nD Cert.XattnReferenceIdeal.τ).loc Cert.XattnReferenceIdeal.main_arg11) = m ((c.tc : Thread Cert.XattnReferenceIdeal.nD Cert.XattnReferenceIdeal.τ).loc Cert.XattnReferenceIdeal.main_arg11)
      ∧ r.2.mem ((c.tc : Thread Cert.XattnReferenceIdeal.nD Cert.XattnReferenceIdeal.τ).loc Cert.XattnReferenceIdeal.main_arg12) = m ((c.tc : Thread Cert.XattnReferenceIdeal.nD Cert.XattnReferenceIdeal.τ).loc Cert.XattnReferenceIdeal.main_arg12))
      ∧ r.2.sem = fun _ => 0)

def preserves_Fox_FoxIdeal : Prop :=
  IdealRules.named_const.Statement Cert.FoxIdeal.κ "mask" .f32 0xF149F2CA#32 ⊥

def algebraic_FoxIdeal_FoxReferenceIdeal_pre_finite_scores [hFoxIdeal : Cert.FoxIdeal.Facts] [hFoxReferenceIdeal : Cert.FoxReferenceIdeal.Facts] [hPre_finite_scores : Cert.Pre_finite_scores.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxReferenceIdeal.nD Cert.FoxReferenceIdeal.τ Cert.FoxReferenceIdeal.sig) → Buf (Elt Ideal) ℓ) (g' : Dev Cert.FoxReferenceIdeal.nD → PrngReg), Pre_FoxIdeal_finite_scores m →
    (∀ c : Dev Cert.FoxIdeal.nD,
      m' ((c.tc : Thread Cert.FoxReferenceIdeal.nD Cert.FoxReferenceIdeal.τ).loc Cert.FoxReferenceIdeal.main_arg0) = m ((c.tc : Thread Cert.FoxIdeal.nD Cert.FoxIdeal.τ).loc Cert.FoxIdeal.main_arg0)
      ∧ m' ((c.tc : Thread Cert.FoxReferenceIdeal.nD Cert.FoxReferenceIdeal.τ).loc Cert.FoxReferenceIdeal.main_arg1) = m ((c.tc : Thread Cert.FoxIdeal.nD Cert.FoxIdeal.τ).loc Cert.FoxIdeal.main_arg1)
      ∧ m' ((c.tc : Thread Cert.FoxReferenceIdeal.nD Cert.FoxReferenceIdeal.τ).loc Cert.FoxReferenceIdeal.main_arg2) = m ((c.tc : Thread Cert.FoxIdeal.nD Cert.FoxIdeal.τ).loc Cert.FoxIdeal.main_arg2)
      ∧ m' ((c.tc : Thread Cert.FoxReferenceIdeal.nD Cert.FoxReferenceIdeal.τ).loc Cert.FoxReferenceIdeal.main_arg3) = m ((c.tc : Thread Cert.FoxIdeal.nD Cert.FoxIdeal.τ).loc Cert.FoxIdeal.main_arg3)
      ∧ m' ((c.tc : Thread Cert.FoxReferenceIdeal.nD Cert.FoxReferenceIdeal.τ).loc Cert.FoxReferenceIdeal.main_arg4) = m ((c.tc : Thread Cert.FoxIdeal.nD Cert.FoxIdeal.τ).loc Cert.FoxIdeal.main_arg4)) →
    ∃ (v0 : (c : Dev Cert.FoxIdeal.nD) → Buf (Elt Ideal) ((c.tc : Thread Cert.FoxIdeal.nD Cert.FoxIdeal.τ).loc Cert.FoxIdeal.main_v51)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v51) = v0 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
          ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
          ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ θ_run (Cert.FoxReferenceIdeal.defs (F := Ideal)) (onTc (τ := Cert.FoxReferenceIdeal.τ) (Cert.FoxReferenceIdeal.main (F := Ideal))) ⟨m', fun _ => 0, g'⟩ (fun r => ∀ c : Dev Cert.FoxReferenceIdeal.nD,
          r.2.mem ((c.tc : Thread Cert.FoxReferenceIdeal.nD Cert.FoxReferenceIdeal.τ).loc Cert.FoxReferenceIdeal.main_v39) = v0 c
          ∧ r.2.mem ((c.tc : Thread Cert.FoxReferenceIdeal.nD Cert.FoxReferenceIdeal.τ).loc Cert.FoxReferenceIdeal.main_arg0) = m' ((c.tc : Thread Cert.FoxReferenceIdeal.nD Cert.FoxReferenceIdeal.τ).loc Cert.FoxReferenceIdeal.main_arg0)
          ∧ r.2.mem ((c.tc : Thread Cert.FoxReferenceIdeal.nD Cert.FoxReferenceIdeal.τ).loc Cert.FoxReferenceIdeal.main_arg1) = m' ((c.tc : Thread Cert.FoxReferenceIdeal.nD Cert.FoxReferenceIdeal.τ).loc Cert.FoxReferenceIdeal.main_arg1)
          ∧ r.2.mem ((c.tc : Thread Cert.FoxReferenceIdeal.nD Cert.FoxReferenceIdeal.τ).loc Cert.FoxReferenceIdeal.main_arg2) = m' ((c.tc : Thread Cert.FoxReferenceIdeal.nD Cert.FoxReferenceIdeal.τ).loc Cert.FoxReferenceIdeal.main_arg2)
          ∧ r.2.mem ((c.tc : Thread Cert.FoxReferenceIdeal.nD Cert.FoxReferenceIdeal.τ).loc Cert.FoxReferenceIdeal.main_arg3) = m' ((c.tc : Thread Cert.FoxReferenceIdeal.nD Cert.FoxReferenceIdeal.τ).loc Cert.FoxReferenceIdeal.main_arg3)
          ∧ r.2.mem ((c.tc : Thread Cert.FoxReferenceIdeal.nD Cert.FoxReferenceIdeal.τ).loc Cert.FoxReferenceIdeal.main_arg4) = m' ((c.tc : Thread Cert.FoxReferenceIdeal.nD Cert.FoxReferenceIdeal.τ).loc Cert.FoxReferenceIdeal.main_arg4))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v44) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_Xattn_XattnIdeal : Prop :=
  True

def algebraic_XattnIdeal_XattnReferenceIdeal [hXattnIdeal : Cert.XattnIdeal.Facts] [hXattnReferenceIdeal : Cert.XattnReferenceIdeal.Facts] : Prop :=
  ∀ (m : (ℓ : Loc Cert.XattnIdeal.nD Cert.XattnIdeal.τ Cert.XattnIdeal.sig) → Buf (Elt Ideal) ℓ) (g : Dev Cert.XattnIdeal.nD → PrngReg)
    (m' : (ℓ : Loc Cert.XattnReferenceIdeal.nD Cert.XattnReferenceIdeal.τ Cert.XattnReferenceIdeal.sig) → Buf (Elt Ideal) ℓ) (g' : Dev Cert.XattnReferenceIdeal.nD → PrngReg), Pre_XattnIdeal m →
    (∀ c : Dev Cert.XattnIdeal.nD,
      m' ((c.tc : Thread Cert.XattnReferenceIdeal.nD Cert.XattnReferenceIdeal.τ).loc Cert.XattnReferenceIdeal.main_arg0) = m ((c.tc : Thread Cert.XattnIdeal.nD Cert.XattnIdeal.τ).loc Cert.XattnIdeal.main_arg0)
      ∧ m' ((c.tc : Thread Cert.XattnReferenceIdeal.nD Cert.XattnReferenceIdeal.τ).loc Cert.XattnReferenceIdeal.main_arg1) = m ((c.tc : Thread Cert.XattnIdeal.nD Cert.XattnIdeal.τ).loc Cert.XattnIdeal.main_arg1)
      ∧ m' ((c.tc : Thread Cert.XattnReferenceIdeal.nD Cert.XattnReferenceIdeal.τ).loc Cert.XattnReferenceIdeal.main_arg2) = m ((c.tc : Thread Cert.XattnIdeal.nD Cert.XattnIdeal.τ).loc Cert.XattnIdeal.main_arg2)
      ∧ m' ((c.tc : Thread Cert.XattnReferenceIdeal.nD Cert.XattnReferenceIdeal.τ).loc Cert.XattnReferenceIdeal.main_arg3) = m ((c.tc : Thread Cert.XattnIdeal.nD Cert.XattnIdeal.τ).loc Cert.XattnIdeal.main_arg3)
      ∧ m' ((c.tc : Thread Cert.XattnReferenceIdeal.nD Cert.XattnReferenceIdeal.τ).loc Cert.XattnReferenceIdeal.main_arg4) = m ((c.tc : Thread Cert.XattnIdeal.nD Cert.XattnIdeal.τ).loc Cert.XattnIdeal.main_arg4)
      ∧ m' ((c.tc : Thread Cert.XattnReferenceIdeal.nD Cert.XattnReferenceIdeal.τ).loc Cert.XattnReferenceIdeal.main_arg5) = m ((c.tc : Thread Cert.XattnIdeal.nD Cert.XattnIdeal.τ).loc Cert.XattnIdeal.main_arg5)
      ∧ m' ((c.tc : Thread Cert.XattnReferenceIdeal.nD Cert.XattnReferenceIdeal.τ).loc Cert.XattnReferenceIdeal.main_arg6) = m ((c.tc : Thread Cert.XattnIdeal.nD Cert.XattnIdeal.τ).loc Cert.XattnIdeal.main_arg6)
      ∧ m' ((c.tc : Thread Cert.XattnReferenceIdeal.nD Cert.XattnReferenceIdeal.τ).loc Cert.XattnReferenceIdeal.main_arg7) = m ((c.tc : Thread Cert.XattnIdeal.nD Cert.XattnIdeal.τ).loc Cert.XattnIdeal.main_arg7)
      ∧ m' ((c.tc : Thread Cert.XattnReferenceIdeal.nD Cert.XattnReferenceIdeal.τ).loc Cert.XattnReferenceIdeal.main_arg8) = m ((c.tc : Thread Cert.XattnIdeal.nD Cert.XattnIdeal.τ).loc Cert.XattnIdeal.main_arg8)
      ∧ m' ((c.tc : Thread Cert.XattnReferenceIdeal.nD Cert.XattnReferenceIdeal.τ).loc Cert.XattnReferenceIdeal.main_arg9) = m ((c.tc : Thread Cert.XattnIdeal.nD Cert.XattnIdeal.τ).loc Cert.XattnIdeal.main_arg9)
      ∧ m' ((c.tc : Thread Cert.XattnReferenceIdeal.nD Cert.XattnReferenceIdeal.τ).loc Cert.XattnReferenceIdeal.main_arg10) = m ((c.tc : Thread Cert.XattnIdeal.nD Cert.XattnIdeal.τ).loc Cert.XattnIdeal.main_arg10)
      ∧ m' ((c.tc : Thread Cert.XattnReferenceIdeal.nD Cert.XattnReferenceIdeal.τ).loc Cert.XattnReferenceIdeal.main_arg11) = m ((c.tc : Thread Cert.XattnIdeal.nD Cert.XattnIdeal.τ).loc Cert.XattnIdeal.main_arg11)
      ∧ m' ((c.tc : Thread Cert.XattnReferenceIdeal.nD Cert.XattnReferenceIdeal.τ).loc Cert.XattnReferenceIdeal.main_arg12) = m ((c.tc : Thread Cert.XattnIdeal.nD Cert.XattnIdeal.τ).loc Cert.XattnIdeal.main_arg12)) →
    ∃ (v0 : (c : Dev Cert.XattnIdeal.nD) → Buf (Elt Ideal) ((c.tc : Thread Cert.XattnIdeal.nD Cert.XattnIdeal.τ).loc Cert.XattnIdeal.main_v20)),
      θ_run (Cert.XattnIdeal.defs (F := Ideal)) (onTc (τ := Cert.XattnIdeal.τ) (Cert.XattnIdeal.main (F := Ideal))) ⟨m, fun _ => 0, g⟩ (fun r => ∀ c : Dev Cert.XattnIdeal.nD,
          r.2.mem ((c.tc : Thread Cert.XattnIdeal.nD Cert.XattnIdeal.τ).loc Cert.XattnIdeal.main_v20) = v0 c
          ∧ r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
          ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
          ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
          ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
          ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4)
          ∧ r.2.mem ((c.tc : Thread Cert.XattnIdeal.nD Cert.XattnIdeal.τ).loc Cert.XattnIdeal.main_arg5) = m ((c.tc : Thread Cert.XattnIdeal.nD Cert.XattnIdeal.τ).loc Cert.XattnIdeal.main_arg5)
          ∧ r.2.mem ((c.tc : Thread Cert.XattnIdeal.nD Cert.XattnIdeal.τ).loc Cert.XattnIdeal.main_arg6) = m ((c.tc : Thread Cert.XattnIdeal.nD Cert.XattnIdeal.τ).loc Cert.XattnIdeal.main_arg6)
          ∧ r.2.mem ((c.tc : Thread Cert.XattnIdeal.nD Cert.XattnIdeal.τ).loc Cert.XattnIdeal.main_arg7) = m ((c.tc : Thread Cert.XattnIdeal.nD Cert.XattnIdeal.τ).loc Cert.XattnIdeal.main_arg7)
          ∧ r.2.mem ((c.tc : Thread Cert.XattnIdeal.nD Cert.XattnIdeal.τ).loc Cert.XattnIdeal.main_arg8) = m ((c.tc : Thread Cert.XattnIdeal.nD Cert.XattnIdeal.τ).loc Cert.XattnIdeal.main_arg8)
          ∧ r.2.mem ((c.tc : Thread Cert.XattnIdeal.nD Cert.XattnIdeal.τ).loc Cert.XattnIdeal.main_arg9) = m ((c.tc : Thread Cert.XattnIdeal.nD Cert.XattnIdeal.τ).loc Cert.XattnIdeal.main_arg9)
          ∧ r.2.mem ((c.tc : Thread Cert.XattnIdeal.nD Cert.XattnIdeal.τ).loc Cert.XattnIdeal.main_arg10) = m ((c.tc : Thread Cert.XattnIdeal.nD Cert.XattnIdeal.τ).loc Cert.XattnIdeal.main_arg10)
          ∧ r.2.mem ((c.tc : Thread Cert.XattnIdeal.nD Cert.XattnIdeal.τ).loc Cert.XattnIdeal.main_arg11) = m ((c.tc : Thread Cert.XattnIdeal.nD Cert.XattnIdeal.τ).loc Cert.XattnIdeal.main_arg11)
          ∧ r.2.mem ((c.tc : Thread Cert.XattnIdeal.nD Cert.XattnIdeal.τ).loc Cert.XattnIdeal.main_arg12) = m ((c.tc : Thread Cert.XattnIdeal.nD Cert.XattnIdeal.τ).loc Cert.XattnIdeal.main_arg12))
      ∧ θ_run (Cert.XattnReferenceIdeal.defs (F := Ideal)) (onTc (τ := Cert.XattnReferenceIdeal.τ) (Cert.XattnReferenceIdeal.main (F := Ideal))) ⟨m', fun _ => 0, g'⟩ (fun r => ∀ c : Dev Cert.XattnReferenceIdeal.nD,
          r.2.mem ((c.tc : Thread Cert.XattnReferenceIdeal.nD Cert.XattnReferenceIdeal.τ).loc Cert.XattnReferenceIdeal.main_v67) = v0 c
          ∧ r.2.mem ((c.tc : Thread Cert.XattnReferenceIdeal.nD Cert.XattnReferenceIdeal.τ).loc Cert.XattnReferenceIdeal.main_arg0) = m' ((c.tc : Thread Cert.XattnReferenceIdeal.nD Cert.XattnReferenceIdeal.τ).loc Cert.XattnReferenceIdeal.main_arg0)
          ∧ r.2.mem ((c.tc : Thread Cert.XattnReferenceIdeal.nD Cert.XattnReferenceIdeal.τ).loc Cert.XattnReferenceIdeal.main_arg1) = m' ((c.tc : Thread Cert.XattnReferenceIdeal.nD Cert.XattnReferenceIdeal.τ).loc Cert.XattnReferenceIdeal.main_arg1)
          ∧ r.2.mem ((c.tc : Thread Cert.XattnReferenceIdeal.nD Cert.XattnReferenceIdeal.τ).loc Cert.XattnReferenceIdeal.main_arg2) = m' ((c.tc : Thread Cert.XattnReferenceIdeal.nD Cert.XattnReferenceIdeal.τ).loc Cert.XattnReferenceIdeal.main_arg2)
          ∧ r.2.mem ((c.tc : Thread Cert.XattnReferenceIdeal.nD Cert.XattnReferenceIdeal.τ).loc Cert.XattnReferenceIdeal.main_arg3) = m' ((c.tc : Thread Cert.XattnReferenceIdeal.nD Cert.XattnReferenceIdeal.τ).loc Cert.XattnReferenceIdeal.main_arg3)
          ∧ r.2.mem ((c.tc : Thread Cert.XattnReferenceIdeal.nD Cert.XattnReferenceIdeal.τ).loc Cert.XattnReferenceIdeal.main_arg4) = m' ((c.tc : Thread Cert.XattnReferenceIdeal.nD Cert.XattnReferenceIdeal.τ).loc Cert.XattnReferenceIdeal.main_arg4)
          ∧ r.2.mem ((c.tc : Thread Cert.XattnReferenceIdeal.nD Cert.XattnReferenceIdeal.τ).loc Cert.XattnReferenceIdeal.main_arg5) = m' ((c.tc : Thread Cert.XattnReferenceIdeal.nD Cert.XattnReferenceIdeal.τ).loc Cert.XattnReferenceIdeal.main_arg5)
          ∧ r.2.mem ((c.tc : Thread Cert.XattnReferenceIdeal.nD Cert.XattnReferenceIdeal.τ).loc Cert.XattnReferenceIdeal.main_arg6) = m' ((c.tc : Thread Cert.XattnReferenceIdeal.nD Cert.XattnReferenceIdeal.τ).loc Cert.XattnReferenceIdeal.main_arg6)
          ∧ r.2.mem ((c.tc : Thread Cert.XattnReferenceIdeal.nD Cert.XattnReferenceIdeal.τ).loc Cert.XattnReferenceIdeal.main_arg7) = m' ((c.tc : Thread Cert.XattnReferenceIdeal.nD Cert.XattnReferenceIdeal.τ).loc Cert.XattnReferenceIdeal.main_arg7)
          ∧ r.2.mem ((c.tc : Thread Cert.XattnReferenceIdeal.nD Cert.XattnReferenceIdeal.τ).loc Cert.XattnReferenceIdeal.main_arg8) = m' ((c.tc : Thread Cert.XattnReferenceIdeal.nD Cert.XattnReferenceIdeal.τ).loc Cert.XattnReferenceIdeal.main_arg8)
          ∧ r.2.mem ((c.tc : Thread Cert.XattnReferenceIdeal.nD Cert.XattnReferenceIdeal.τ).loc Cert.XattnReferenceIdeal.main_arg9) = m' ((c.tc : Thread Cert.XattnReferenceIdeal.nD Cert.XattnReferenceIdeal.τ).loc Cert.XattnReferenceIdeal.main_arg9)
          ∧ r.2.mem ((c.tc : Thread Cert.XattnReferenceIdeal.nD Cert.XattnReferenceIdeal.τ).loc Cert.XattnReferenceIdeal.main_arg10) = m' ((c.tc : Thread Cert.XattnReferenceIdeal.nD Cert.XattnReferenceIdeal.τ).loc Cert.XattnReferenceIdeal.main_arg10)
          ∧ r.2.mem ((c.tc : Thread Cert.XattnReferenceIdeal.nD Cert.XattnReferenceIdeal.τ).loc Cert.XattnReferenceIdeal.main_arg11) = m' ((c.tc : Thread Cert.XattnReferenceIdeal.nD Cert.XattnReferenceIdeal.τ).loc Cert.XattnReferenceIdeal.main_arg11)
          ∧ r.2.mem ((c.tc : Thread Cert.XattnReferenceIdeal.nD Cert.XattnReferenceIdeal.τ).loc Cert.XattnReferenceIdeal.main_arg12) = m' ((c.tc : Thread Cert.XattnReferenceIdeal.nD Cert.XattnReferenceIdeal.τ).loc Cert.XattnReferenceIdeal.main_arg12))

def Claim : Prop :=
  ∃ (hFox : Cert.Fox.Facts) (hFoxIdeal : Cert.FoxIdeal.Facts) (hFoxReferenceIdeal : Cert.FoxReferenceIdeal.Facts) (hFfn : Cert.Ffn.Facts) (hFfnIdeal : Cert.FfnIdeal.Facts) (hFfnReferenceIdeal : Cert.FfnReferenceIdeal.Facts) (hXattn : Cert.Xattn.Facts) (hXattnIdeal : Cert.XattnIdeal.Facts) (hXattnReferenceIdeal : Cert.XattnReferenceIdeal.Facts) (hPre_finite_scores : Cert.Pre_finite_scores.Facts),
    quiescent_Fox (hFox := hFox)
    ∧ quiescent_FoxIdeal (hFoxIdeal := hFoxIdeal)
    ∧ quiescent_FoxIdeal_pre_finite_scores (hFoxIdeal := hFoxIdeal) (hPre_finite_scores := hPre_finite_scores)
    ∧ quiescent_FoxReferenceIdeal (hFoxReferenceIdeal := hFoxReferenceIdeal)
    ∧ quiescent_FoxReferenceIdeal_pre_finite_scores (hFoxReferenceIdeal := hFoxReferenceIdeal) (hPre_finite_scores := hPre_finite_scores)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Xattn (hXattn := hXattn)
    ∧ quiescent_XattnIdeal (hXattnIdeal := hXattnIdeal)
    ∧ quiescent_XattnReferenceIdeal (hXattnReferenceIdeal := hXattnReferenceIdeal)
    ∧ preserves_Fox_FoxIdeal
    ∧ algebraic_FoxIdeal_FoxReferenceIdeal_pre_finite_scores (hFoxIdeal := hFoxIdeal) (hFoxReferenceIdeal := hFoxReferenceIdeal) (hPre_finite_scores := hPre_finite_scores)
    ∧ preserves_Ffn_FfnIdeal
    ∧ algebraic_FfnIdeal_FfnReferenceIdeal (hFfnIdeal := hFfnIdeal) (hFfnReferenceIdeal := hFfnReferenceIdeal)
    ∧ preserves_Xattn_XattnIdeal
    ∧ algebraic_XattnIdeal_XattnReferenceIdeal (hXattnIdeal := hXattnIdeal) (hXattnReferenceIdeal := hXattnReferenceIdeal)
-- ==== Pre_finite_scores.lean ====
abbrev S16x2048x256 : Shape := ⟨3, ![16, 2048, 256]⟩
abbrev S16x2048x4 : Shape := ⟨3, ![16, 2048, 4]⟩
abbrev S4 : Shape := ⟨1, ![4]⟩
abbrev S_ : Shape := ⟨0, ![]⟩

class Facts : Prop where
  bcast_S_S16x2048x256 : S_.BroadcastsInDim S16x2048x256 (![] : Fin 0 → Fin S16x2048x256.rank)
  reducesTo_S16x2048x256_S_d0_1_2 : S16x2048x256.ReducesTo [0, 1, 2] S_
  h_S_ : 0 < S_.numel
  bcast_S_S16x2048x4 : S_.BroadcastsInDim S16x2048x4 (![] : Fin 0 → Fin S16x2048x4.rank)
  reducesTo_S16x2048x4_S_d0_1_2 : S16x2048x4.ReducesTo [0, 1, 2] S_
  bcast_S_S4 : S_.BroadcastsInDim S4 (![] : Fin 0 → Fin S4.rank)
  reducesTo_S4_S_d0 : S4.ReducesTo [0] S_

variable [Facts]

def fn_part1 {F : FTy → Type} [FloatOps F] (main_v13 : IVec S_ 1) (main_v16 : IVec S4 1) : IVec S_ 1 :=
  let main_c_5 : IVec S_ 1 := constantI S_ 1 1#1
  let main_v17 : IVec S_ 1 := (fun x v => Host.reduce IntOp.andi x v reducesTo_S4_S_d0 h_S_) main_v16 main_c_5
  let main_v18 : IVec S_ 1 := andi main_v13 main_v17
  main_v18

def fn {F : FTy → Type} [FloatOps F] (main_arg0 : FVec F S16x2048x256 .f32) (main_arg1 : FVec F S16x2048x256 .f32) (main_arg2 : FVec F S16x2048x256 .f32) (main_arg3 : FVec F S16x2048x4 .f32) (main_arg4 : FVec F S4 .f32) : IVec S_ 1 :=
  let main_v0 : FVec F S16x2048x256 .f32 := Host.absf main_arg0
  let main_cst : FVec F S_ .f32 := constant S_ .f32 0x7F800000#32
  let main_v1 : FVec F S16x2048x256 .f32 := broadcastInDim S16x2048x256 ![] bcast_S_S16x2048x256 main_cst
  let main_v2 : IVec S16x2048x256 1 := cmpf .olt main_v0 main_v1
  let main_c : IVec S_ 1 := constantI S_ 1 1#1
  let main_v3 : IVec S_ 1 := (fun x v => Host.reduce IntOp.andi x v reducesTo_S16x2048x256_S_d0_1_2 h_S_) main_v2 main_c
  let main_v4 : FVec F S16x2048x256 .f32 := Host.absf main_arg1
  let main_cst_0 : FVec F S_ .f32 := constant S_ .f32 0x7F800000#32
  let main_v5 : FVec F S16x2048x256 .f32 := broadcastInDim S16x2048x256 ![] bcast_S_S16x2048x256 main_cst_0
  let main_v6 : IVec S16x2048x256 1 := cmpf .olt main_v4 main_v5
  let main_c_1 : IVec S_ 1 := constantI S_ 1 1#1
  let main_v7 : IVec S_ 1 := (fun x v => Host.reduce IntOp.andi x v reducesTo_S16x2048x256_S_d0_1_2 h_S_) main_v6 main_c_1
  let main_v8 : IVec S_ 1 := andi main_v3 main_v7
  let main_v9 : FVec F S16x2048x4 .f32 := Host.absf main_arg3
  let main_cst_2 : FVec F S_ .f32 := constant S_ .f32 0x7F800000#32
  let main_v10 : FVec F S16x2048x4 .f32 := broadcastInDim S16x2048x4 ![] bcast_S_S16x2048x4 main_cst_2
  let main_v11 : IVec S16x2048x4 1 := cmpf .olt main_v9 main_v10
  let main_c_3 : IVec S_ 1 := constantI S_ 1 1#1
  let main_v12 : IVec S_ 1 := (fun x v => Host.reduce IntOp.andi x v reducesTo_S16x2048x4_S_d0_1_2 h_S_) main_v11 main_c_3
  let main_v13 : IVec S_ 1 := andi main_v8 main_v12
  let main_v14 : FVec F S4 .f32 := Host.absf main_arg4
  let main_cst_4 : FVec F S_ .f32 := constant S_ .f32 0x7F800000#32
  let main_v15 : FVec F S4 .f32 := broadcastInDim S4 ![] bcast_S_S4 main_cst_4
  let main_v16 : IVec S4 1 := cmpf .olt main_v14 main_v15
  fn_part1 (F := F) main_v13 main_v16
-- ==== Fox.lean ====
abbrev S16x2048x256 : Shape := ⟨3, ![16, 2048, 256]⟩
abbrev S16x2048x4 : Shape := ⟨3, ![16, 2048, 4]⟩
abbrev S4 : Shape := ⟨1, ![4]⟩
abbrev S_ : Shape := ⟨0, ![]⟩
abbrev S16x2048x768 : Shape := ⟨3, ![16, 2048, 768]⟩
abbrev S16x2048x128 : Shape := ⟨3, ![16, 2048, 128]⟩
abbrev S1x4 : Shape := ⟨2, ![1, 4]⟩
abbrev S1x128 : Shape := ⟨2, ![1, 128]⟩
abbrev S512x256 : Shape := ⟨2, ![512, 256]⟩
abbrev S1x512x256 : Shape := ⟨3, ![1, 512, 256]⟩
abbrev S1x2048x256 : Shape := ⟨3, ![1, 2048, 256]⟩
abbrev S1x2048x128 : Shape := ⟨3, ![1, 2048, 128]⟩
abbrev S4x2048x128 : Shape := ⟨3, ![4, 2048, 128]⟩
abbrev S2048x256 : Shape := ⟨2, ![2048, 256]⟩
abbrev S256x256 : Shape := ⟨2, ![256, 256]⟩
abbrev S256x128 : Shape := ⟨2, ![256, 128]⟩
abbrev S1x256x128 : Shape := ⟨3, ![1, 256, 128]⟩
abbrev S256x512 : Shape := ⟨2, ![256, 512]⟩
abbrev S512x128 : Shape := ⟨2, ![512, 128]⟩
abbrev S1x512x128 : Shape := ⟨3, ![1, 512, 128]⟩
abbrev S512x512 : Shape := ⟨2, ![512, 512]⟩
abbrev S512 : Shape := ⟨1, ![512]⟩
abbrev S512x1 : Shape := ⟨2, ![512, 1]⟩
abbrev S1x1536x128 : Shape := ⟨3, ![1, 1536, 128]⟩
abbrev S1536x128 : Shape := ⟨2, ![1536, 128]⟩
abbrev S512x1536 : Shape := ⟨2, ![512, 1536]⟩
abbrev S1x1024x128 : Shape := ⟨3, ![1, 1024, 128]⟩
abbrev S1024x128 : Shape := ⟨2, ![1024, 128]⟩
abbrev S512x1024 : Shape := ⟨2, ![512, 1024]⟩

abbrev nBuf : Space → Nat
  | .hbm => 159
  | .vmem => 16
  | .smem => 0
  | _ => 0

abbrev hbmTy0_0 (i : Nat) : BufTy := match i % 128 with
  | 0 => ⟨S16x2048x256, .f32⟩
  | 1 => ⟨S16x2048x256, .f32⟩
  | 2 => ⟨S16x2048x256, .f32⟩
  | 3 => ⟨S16x2048x4, .f32⟩
  | 4 => ⟨S4, .f32⟩
  | 5 => ⟨S_, .f32⟩
  | 6 => ⟨S16x2048x256, .f32⟩
  | 7 => ⟨S16x2048x256, .f32⟩
  | 8 => ⟨S16x2048x768, .f32⟩
  | 9 => ⟨S16x2048x768, .bf16⟩
  | 10 => ⟨S_, .i32⟩
  | 11 => ⟨S_, .f32⟩
  | 12 => ⟨S16x2048x128, .f32⟩
  | 13 => ⟨S1x4, .f32⟩
  | 14 => ⟨S_, .i32⟩
  | 15 => ⟨S_, .f32⟩
  | 16 => ⟨S1x128, .f32⟩
  | 17 => ⟨S512x256, .i32⟩
  | 18 => ⟨S512x256, .i32⟩
  | 19 => ⟨S_, .i32⟩
  | 20 => ⟨S_, .i32⟩
  | 21 => ⟨S512x256, .i32⟩
  | 22 => ⟨S512x256, .i32⟩
  | 23 => ⟨S512x256, .i32⟩
  | 24 => ⟨S_, .i32⟩
  | 25 => ⟨S512x256, .i32⟩
  | 26 => ⟨S512x256, .i1⟩
  | 27 => ⟨S512x256, .i32⟩
  | 28 => ⟨S512x256, .i32⟩
  | 29 => ⟨S_, .i32⟩
  | 30 => ⟨S512x256, .i32⟩
  | 31 => ⟨S512x256, .i1⟩
  | 32 => ⟨S512x256, .i1⟩
  | 33 => ⟨S_, .i32⟩
  | 34 => ⟨S512x256, .i32⟩
  | 35 => ⟨S512x256, .i32⟩
  | 36 => ⟨S512x256, .i32⟩
  | 37 => ⟨S_, .i32⟩
  | 38 => ⟨S512x256, .i32⟩
  | 39 => ⟨S512x256, .i32⟩
  | 40 => ⟨S_, .i32⟩
  | 41 => ⟨S512x256, .i32⟩
  | 42 => ⟨S512x256, .i32⟩
  | 43 => ⟨S_, .i32⟩
  | 44 => ⟨S_, .i32⟩
  | 45 => ⟨S_, .i32⟩
  | 46 => ⟨S_, .i1⟩
  | 47 => ⟨S_, .i32⟩
  | 48 => ⟨S_, .i32⟩
  | 49 => ⟨S512x256, .i32⟩
  | 50 => ⟨S512x256, .i32⟩
  | 51 => ⟨S_, .i32⟩
  | 52 => ⟨S512x256, .i32⟩
  | 53 => ⟨S512x256, .i1⟩
  | 54 => ⟨S_, .i32⟩
  | 55 => ⟨S512x256, .i32⟩
  | 56 => ⟨S512x256, .i1⟩
  | 57 => ⟨S_, .i32⟩
  | 58 => ⟨S_, .i1⟩
  | 59 => ⟨S512x256, .i1⟩
  | 60 => ⟨S512x256, .i1⟩
  | 61 => ⟨S512x256, .i1⟩
  | 62 => ⟨S512x256, .i32⟩
  | 63 => ⟨S512x256, .i32⟩
  | 64 => ⟨S512x256, .i32⟩
  | 65 => ⟨S_, .i32⟩
  | 66 => ⟨S_, .i32⟩
  | 67 => ⟨S512x256, .i32⟩
  | 68 => ⟨S512x256, .i32⟩
  | 69 => ⟨S512x256, .i32⟩
  | 70 => ⟨S_, .i32⟩
  | 71 => ⟨S512x256, .i32⟩
  | 72 => ⟨S512x256, .i1⟩
  | 73 => ⟨S512x256, .i32⟩
  | 74 => ⟨S512x256, .i32⟩
  | 75 => ⟨S_, .i32⟩
  | 76 => ⟨S512x256, .i32⟩
  | 77 => ⟨S512x256, .i1⟩
  | 78 => ⟨S512x256, .i1⟩
  | 79 => ⟨S_, .i32⟩
  | 80 => ⟨S512x256, .i32⟩
  | 81 => ⟨S512x256, .i32⟩
  | 82 => ⟨S512x256, .i32⟩
  | 83 => ⟨S512x256, .i32⟩
  | 84 => ⟨S_, .i32⟩
  | 85 => ⟨S_, .i32⟩
  | 86 => ⟨S_, .i32⟩
  | 87 => ⟨S_, .i1⟩
  | 88 => ⟨S_, .i32⟩
  | 89 => ⟨S_, .i32⟩
  | 90 => ⟨S512x256, .i32⟩
  | 91 => ⟨S512x256, .i32⟩
  | 92 => ⟨S_, .i32⟩
  | 93 => ⟨S512x256, .i32⟩
  | 94 => ⟨S512x256, .i1⟩
  | 95 => ⟨S_, .i32⟩
  | 96 => ⟨S512x256, .i32⟩
  | 97 => ⟨S512x256, .i1⟩
  | 98 => ⟨S_, .i32⟩
  | 99 => ⟨S_, .i1⟩
  | 100 => ⟨S512x256, .i1⟩
  | 101 => ⟨S512x256, .i1⟩
  | 102 => ⟨S512x256, .i1⟩
  | 103 => ⟨S512x256, .i32⟩
  | 104 => ⟨S512x256, .i32⟩
  | 105 => ⟨S512x256, .i32⟩
  | 106 => ⟨S_, .i32⟩
  | 107 => ⟨S512x256, .i32⟩
  | 108 => ⟨S512x256, .i1⟩
  | 109 => ⟨S_, .i32⟩
  | 110 => ⟨S512x256, .i32⟩
  | 111 => ⟨S512x256, .i1⟩
  | 112 => ⟨S_, .i32⟩
  | 113 => ⟨S512x256, .i32⟩
  | 114 => ⟨S512x256, .i1⟩
  | 115 => ⟨S_, .i32⟩
  | 116 => ⟨S512x256, .i32⟩
  | 117 => ⟨S512x256, .i1⟩
  | 118 => ⟨S512x256, .i1⟩
  | 119 => ⟨S_, .i32⟩
  | 120 => ⟨S512x256, .i32⟩
  | 121 => ⟨S512x256, .i32⟩
  | 122 => ⟨S_, .i32⟩
  | 123 => ⟨S512x256, .i32⟩
  | 124 => ⟨S512x256, .i32⟩
  | 125 => ⟨S512x256, .i32⟩
  | 126 => ⟨S512x256, .i1⟩
  | 127 => ⟨S_, .i32⟩
  | _ => ⟨S16x2048x256, .f32⟩

abbrev hbmTy0_1 (i : Nat) : BufTy := match i % 128 with
  | 0 => ⟨S512x256, .i32⟩
  | 1 => ⟨S512x256, .i32⟩
  | 2 => ⟨S_, .i32⟩
  | 3 => ⟨S512x256, .i32⟩
  | 4 => ⟨S512x256, .i32⟩
  | 5 => ⟨S_, .i32⟩
  | 6 => ⟨S512x256, .i32⟩
  | 7 => ⟨S512x256, .i32⟩
  | 8 => ⟨S512x256, .i32⟩
  | 9 => ⟨S512x256, .i1⟩
  | 10 => ⟨S512x256, .i1⟩
  | 11 => ⟨S512x256, .i1⟩
  | 12 => ⟨S512x256, .i1⟩
  | 13 => ⟨S_, .f32⟩
  | 14 => ⟨S_, .f32⟩
  | 15 => ⟨S512x256, .f32⟩
  | 16 => ⟨S512x256, .f32⟩
  | 17 => ⟨S512x256, .f32⟩
  | 18 => ⟨S512x256, .i1⟩
  | 19 => ⟨S512x256, .i1⟩
  | 20 => ⟨S_, .f32⟩
  | 21 => ⟨S_, .f32⟩
  | 22 => ⟨S512x256, .f32⟩
  | 23 => ⟨S512x256, .f32⟩
  | 24 => ⟨S512x256, .f32⟩
  | 25 => ⟨S_, .f32⟩
  | 26 => ⟨S512x256, .f32⟩
  | 27 => ⟨S512x256, .f32⟩
  | 28 => ⟨S512x256, .bf16⟩
  | 29 => ⟨S512x256, .bf16⟩
  | 30 => ⟨S16x2048x256, .bf16⟩
  | _ => ⟨S16x2048x256, .f32⟩

abbrev hbmTy (i : Nat) : BufTy := match i / 128 with
  | 0 => hbmTy0_0 i
  | 1 => hbmTy0_1 i
  | _ => ⟨S16x2048x256, .f32⟩

abbrev bufTy : (tb : Table) → Fin (tcTables nBuf tb) → BufTy
  | .hbm, ⟨i, _⟩ => hbmTy i
  | .local _ .vmem, ⟨0, _⟩ => ⟨S1x512x256, .bf16⟩
  | .local _ .vmem, ⟨1, _⟩ => ⟨S1x512x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x2048x128, .f32⟩
  | .local _ .vmem, ⟨7, _⟩ => ⟨S1x2048x128, .f32⟩
  | .local _ .vmem, ⟨8, _⟩ => ⟨S1x128, .f32⟩
  | .local _ .vmem, ⟨9, _⟩ => ⟨S512x256, .bf16⟩
  | .local _ .vmem, ⟨10, _⟩ => ⟨S512x256, .bf16⟩
  | .local _ .vmem, ⟨11, _⟩ => ⟨S1x512x256, .bf16⟩
  | .local _ .vmem, ⟨12, _⟩ => ⟨S1x512x256, .bf16⟩
  | .local _ .vmem, ⟨13, _⟩ => ⟨S4x2048x128, .bf16⟩
  | .local _ .vmem, ⟨14, _⟩ => ⟨S2048x256, .bf16⟩
  | .local _ .vmem, ⟨15, _⟩ => ⟨S4x2048x128, .bf16⟩
  | _, _ => ⟨S16x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_call1_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_call2_v0 : Ref sig .tc := ⟨.hbm, 20, rfl⟩
abbrev main_call2_v1 : Ref sig .tc := ⟨.hbm, 21, rfl⟩
abbrev main_call2_v2 : Ref sig .tc := ⟨.hbm, 22, rfl⟩
abbrev main_call2_v3 : Ref sig .tc := ⟨.hbm, 23, rfl⟩
abbrev main_call2_v4 : Ref sig .tc := ⟨.hbm, 24, rfl⟩
abbrev main_call2_v5 : Ref sig .tc := ⟨.hbm, 25, rfl⟩
abbrev main_call2_v6 : Ref sig .tc := ⟨.hbm, 26, rfl⟩
abbrev main_call2_v7 : Ref sig .tc := ⟨.hbm, 27, rfl⟩
abbrev main_call2_v8 : Ref sig .tc := ⟨.hbm, 28, rfl⟩
abbrev main_call2_c : Ref sig .tc := ⟨.hbm, 29, rfl⟩
abbrev main_call2_v9 : Ref sig .tc := ⟨.hbm, 30, rfl⟩
abbrev main_call2_v10 : Ref sig .tc := ⟨.hbm, 31, rfl⟩
abbrev main_call2_v11 : Ref sig .tc := ⟨.hbm, 32, rfl⟩
abbrev main_call2_c_0 : Ref sig .tc := ⟨.hbm, 33, rfl⟩
abbrev main_call2_v12 : Ref sig .tc := ⟨.hbm, 34, rfl⟩
abbrev main_call2_v13 : Ref sig .tc := ⟨.hbm, 35, rfl⟩
abbrev main_v9 : Ref sig .tc := ⟨.hbm, 36, rfl⟩
abbrev main_c_2 : Ref sig .tc := ⟨.hbm, 37, rfl⟩
abbrev main_v10 : Ref sig .tc := ⟨.hbm, 38, rfl⟩
abbrev main_v11 : Ref sig .tc := ⟨.hbm, 39, rfl⟩
abbrev main_c_3 : Ref sig .tc := ⟨.hbm, 40, rfl⟩
abbrev main_v12 : Ref sig .tc := ⟨.hbm, 41, rfl⟩
abbrev main_v13 : Ref sig .tc := ⟨.hbm, 42, rfl⟩
abbrev main_c_4 : Ref sig .tc := ⟨.hbm, 43, rfl⟩
abbrev main_call3_v0 : Ref sig .tc := ⟨.hbm, 44, rfl⟩
abbrev main_call3_c : Ref sig .tc := ⟨.hbm, 45, rfl⟩
abbrev main_call3_v1 : Ref sig .tc := ⟨.hbm, 46, rfl⟩
abbrev main_call3_c_0 : Ref sig .tc := ⟨.hbm, 47, rfl⟩
abbrev main_call3_v2 : Ref sig .tc := ⟨.hbm, 48, rfl⟩
abbrev main_call3_v3 : Ref sig .tc := ⟨.hbm, 49, rfl⟩
abbrev main_call3_v4 : Ref sig .tc := ⟨.hbm, 50, rfl⟩
abbrev main_call3_c_1 : Ref sig .tc := ⟨.hbm, 51, rfl⟩
abbrev main_call3_v5 : Ref sig .tc := ⟨.hbm, 52, rfl⟩
abbrev main_call3_v6 : Ref sig .tc := ⟨.hbm, 53, rfl⟩
abbrev main_call3_c_2 : Ref sig .tc := ⟨.hbm, 54, rfl⟩
abbrev main_call3_v7 : Ref sig .tc := ⟨.hbm, 55, rfl⟩
abbrev main_call3_v8 : Ref sig .tc := ⟨.hbm, 56, rfl⟩
abbrev main_call3_c_3 : Ref sig .tc := ⟨.hbm, 57, rfl⟩
abbrev main_call3_v9 : Ref sig .tc := ⟨.hbm, 58, rfl⟩
abbrev main_call3_v10 : Ref sig .tc := ⟨.hbm, 59, rfl⟩
abbrev main_call3_v11 : Ref sig .tc := ⟨.hbm, 60, rfl⟩
abbrev main_call3_v12 : Ref sig .tc := ⟨.hbm, 61, rfl⟩
abbrev main_call3_v13 : Ref sig .tc := ⟨.hbm, 62, rfl⟩
abbrev main_call3_v14 : Ref sig .tc := ⟨.hbm, 63, rfl⟩
abbrev main_v14 : Ref sig .tc := ⟨.hbm, 64, rfl⟩
abbrev main_c_5 : Ref sig .tc := ⟨.hbm, 65, rfl⟩
abbrev main_call4_v0 : Ref sig .tc := ⟨.hbm, 66, rfl⟩
abbrev main_call4_v1 : Ref sig .tc := ⟨.hbm, 67, rfl⟩
abbrev main_call4_v2 : Ref sig .tc := ⟨.hbm, 68, rfl⟩
abbrev main_call4_v3 : Ref sig .tc := ⟨.hbm, 69, rfl⟩
abbrev main_call4_v4 : Ref sig .tc := ⟨.hbm, 70, rfl⟩
abbrev main_call4_v5 : Ref sig .tc := ⟨.hbm, 71, rfl⟩
abbrev main_call4_v6 : Ref sig .tc := ⟨.hbm, 72, rfl⟩
abbrev main_call4_v7 : Ref sig .tc := ⟨.hbm, 73, rfl⟩
abbrev main_call4_v8 : Ref sig .tc := ⟨.hbm, 74, rfl⟩
abbrev main_call4_c : Ref sig .tc := ⟨.hbm, 75, rfl⟩
abbrev main_call4_v9 : Ref sig .tc := ⟨.hbm, 76, rfl⟩
abbrev main_call4_v10 : Ref sig .tc := ⟨.hbm, 77, rfl⟩
abbrev main_call4_v11 : Ref sig .tc := ⟨.hbm, 78, rfl⟩
abbrev main_call4_c_0 : Ref sig .tc := ⟨.hbm, 79, rfl⟩
abbrev main_call4_v12 : Ref sig .tc := ⟨.hbm, 80, rfl⟩
abbrev main_call4_v13 : Ref sig .tc := ⟨.hbm, 81, rfl⟩
abbrev main_v15 : Ref sig .tc := ⟨.hbm, 82, rfl⟩
abbrev main_v16 : Ref sig .tc := ⟨.hbm, 83, rfl⟩
abbrev main_c_6 : Ref sig .tc := ⟨.hbm, 84, rfl⟩
abbrev main_call5_v0 : Ref sig .tc := ⟨.hbm, 85, rfl⟩
abbrev main_call5_c : Ref sig .tc := ⟨.hbm, 86, rfl⟩
abbrev main_call5_v1 : Ref sig .tc := ⟨.hbm, 87, rfl⟩
abbrev main_call5_c_0 : Ref sig .tc := ⟨.hbm, 88, rfl⟩
abbrev main_call5_v2 : Ref sig .tc := ⟨.hbm, 89, rfl⟩
abbrev main_call5_v3 : Ref sig .tc := ⟨.hbm, 90, rfl⟩
abbrev main_call5_v4 : Ref sig .tc := ⟨.hbm, 91, rfl⟩
abbrev main_call5_c_1 : Ref sig .tc := ⟨.hbm, 92, rfl⟩
abbrev main_call5_v5 : Ref sig .tc := ⟨.hbm, 93, rfl⟩
abbrev main_call5_v6 : Ref sig .tc := ⟨.hbm, 94, rfl⟩
abbrev main_call5_c_2 : Ref sig .tc := ⟨.hbm, 95, rfl⟩
abbrev main_call5_v7 : Ref sig .tc := ⟨.hbm, 96, rfl⟩
abbrev main_call5_v8 : Ref sig .tc := ⟨.hbm, 97, rfl⟩
abbrev main_call5_c_3 : Ref sig .tc := ⟨.hbm, 98, rfl⟩
abbrev main_call5_v9 : Ref sig .tc := ⟨.hbm, 99, rfl⟩
abbrev main_call5_v10 : Ref sig .tc := ⟨.hbm, 100, rfl⟩
abbrev main_call5_v11 : Ref sig .tc := ⟨.hbm, 101, rfl⟩
abbrev main_call5_v12 : Ref sig .tc := ⟨.hbm, 102, rfl⟩
abbrev main_call5_v13 : Ref sig .tc := ⟨.hbm, 103, rfl⟩
abbrev main_call5_v14 : Ref sig .tc := ⟨.hbm, 104, rfl⟩
abbrev main_v17 : Ref sig .tc := ⟨.hbm, 105, rfl⟩
abbrev main_c_7 : Ref sig .tc := ⟨.hbm, 106, rfl⟩
abbrev main_v18 : Ref sig .tc := ⟨.hbm, 107, rfl⟩
abbrev main_v19 : Ref sig .tc := ⟨.hbm, 108, rfl⟩
abbrev main_c_8 : Ref sig .tc := ⟨.hbm, 109, rfl⟩
abbrev main_v20 : Ref sig .tc := ⟨.hbm, 110, rfl⟩
abbrev main_v21 : Ref sig .tc := ⟨.hbm, 111, rfl⟩
abbrev main_c_9 : Ref sig .tc := ⟨.hbm, 112, rfl⟩
abbrev main_v22 : Ref sig .tc := ⟨.hbm, 113, rfl⟩
abbrev main_v23 : Ref sig .tc := ⟨.hbm, 114, rfl⟩
abbrev main_c_10 : Ref sig .tc := ⟨.hbm, 115, rfl⟩
abbrev main_v24 : Ref sig .tc := ⟨.hbm, 116, rfl⟩
abbrev main_v25 : Ref sig .tc := ⟨.hbm, 117, rfl⟩
abbrev main_v26 : Ref sig .tc := ⟨.hbm, 118, rfl⟩
abbrev main_c_11 : Ref sig .tc := ⟨.hbm, 119, rfl⟩
abbrev main_v27 : Ref sig .tc := ⟨.hbm, 120, rfl⟩
abbrev main_v28 : Ref sig .tc := ⟨.hbm, 121, rfl⟩
abbrev main_c_12 : Ref sig .tc := ⟨.hbm, 122, rfl⟩
abbrev main_v29 : Ref sig .tc := ⟨.hbm, 123, rfl⟩
abbrev main_v30 : Ref sig .tc := ⟨.hbm, 124, rfl⟩
abbrev main_v31 : Ref sig .tc := ⟨.hbm, 125, rfl⟩
abbrev main_v32 : Ref sig .tc := ⟨.hbm, 126, rfl⟩
abbrev main_c_13 : Ref sig .tc := ⟨.hbm, 127, rfl⟩
abbrev main_v33 : Ref sig .tc := ⟨.hbm, 128, rfl⟩
abbrev main_v34 : Ref sig .tc := ⟨.hbm, 129, rfl⟩
abbrev main_c_14 : Ref sig .tc := ⟨.hbm, 130, rfl⟩
abbrev main_v35 : Ref sig .tc := ⟨.hbm, 131, rfl⟩
abbrev main_v36 : Ref sig .tc := ⟨.hbm, 132, rfl⟩
abbrev main_c_15 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩
abbrev main_v40 : Ref sig .tc := ⟨.hbm, 137, rfl⟩
abbrev main_v41 : Ref sig .tc := ⟨.hbm, 138, rfl⟩
abbrev main_v42 : Ref sig .tc := ⟨.hbm, 139, rfl⟩
abbrev main_v43 : Ref sig .tc := ⟨.hbm, 140, rfl⟩
abbrev main_cst_16 : Ref sig .tc := ⟨.hbm, 141, rfl⟩
abbrev main_cst_17 : Ref sig .tc := ⟨.hbm, 142, rfl⟩
abbrev main_call6_v0 : Ref sig .tc := ⟨.hbm, 143, rfl⟩
abbrev main_call6_v1 : Ref sig .tc := ⟨.hbm, 144, rfl⟩
abbrev main_v44 : Ref sig .tc := ⟨.hbm, 145, rfl⟩
abbrev main_v45 : Ref sig .tc := ⟨.hbm, 146, rfl⟩
abbrev main_v46 : Ref sig .tc := ⟨.hbm, 147, rfl⟩
abbrev main_cst_18 : Ref sig .tc := ⟨.hbm, 148, rfl⟩
abbrev main_cst_19 : Ref sig .tc := ⟨.hbm, 149, rfl⟩
abbrev main_call7_v0 : Ref sig .tc := ⟨.hbm, 150, rfl⟩
abbrev main_call7_v1 : Ref sig .tc := ⟨.hbm, 151, rfl⟩
abbrev main_v47 : Ref sig .tc := ⟨.hbm, 152, rfl⟩
abbrev main_cst_20 : Ref sig .tc := ⟨.hbm, 153, rfl⟩
abbrev main_call8_v0 : Ref sig .tc := ⟨.hbm, 154, rfl⟩
abbrev main_v48 : Ref sig .tc := ⟨.hbm, 155, rfl⟩
abbrev main_v49 : Ref sig .tc := ⟨.hbm, 156, rfl⟩
abbrev main_v50 : Ref sig .tc := ⟨.hbm, 157, rfl⟩
abbrev main_v51 : Ref sig .tc := ⟨.hbm, 158, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v15 : Index := Scalar.indexCast v4
  let c0_5 : Index := 0#32
  ![v15.toNat, 0]
def k0_off2 (i : grid0.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v35 : Index := Scalar.indexCast v4
  let c128_15 : Index := 128#32
  ![v35.toNat, 128]
def k0_cond2 (i : grid0.Coords) : BitVec 1 :=
  let arg1 : BitVec 32 := BitVec.ofNat 32 (i 1).val
  let c0_i32_22 : BitVec 32 := 0#32
  let v51 : BitVec 32 := Scalar.maxsi arg1 c0_i32_22
  let c3_i32 : BitVec 32 := 3#32
  let v52 : BitVec 32 := Scalar.minsi v51 c3_i32
  let c0_i32_23 : BitVec 32 := 0#32
  let v53 : BitVec 1 := Scalar.cmpi .ne v52 c0_i32_23
  v53

def k0_cond3 (i : grid0.Coords) : BitVec 1 :=
  let arg1 : BitVec 32 := BitVec.ofNat 32 (i 1).val
  let c0_i32_22 : BitVec 32 := 0#32
  let v51 : BitVec 32 := Scalar.maxsi arg1 c0_i32_22
  let c3_i32 : BitVec 32 := 3#32
  let v52 : BitVec 32 := Scalar.minsi v51 c3_i32
  let c1_i32 : BitVec 32 := 1#32
  let v54 : BitVec 32 := Scalar.subi v52 c1_i32
  let c0_i32_24 : BitVec 32 := 0#32
  let v55 : BitVec 1 := Scalar.cmpi .ne v54 c0_i32_24
  v55

def k0_cond4 (i : grid0.Coords) : BitVec 1 :=
  let arg1 : BitVec 32 := BitVec.ofNat 32 (i 1).val
  let c0_i32_22 : BitVec 32 := 0#32
  let v51 : BitVec 32 := Scalar.maxsi arg1 c0_i32_22
  let c3_i32 : BitVec 32 := 3#32
  let v52 : BitVec 32 := Scalar.minsi v51 c3_i32
  let c1_i32 : BitVec 32 := 1#32
  let v54 : BitVec 32 := Scalar.subi v52 c1_i32
  let c1_i32_25 : BitVec 32 := 1#32
  let v56 : BitVec 32 := Scalar.subi v54 c1_i32_25
  let c0_i32_26 : BitVec 32 := 0#32
  let v57 : BitVec 1 := Scalar.cmpi .ne v56 c0_i32_26
  v57

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FoxIdeal.lean ====
variable {F : FTy → Type} [FloatOps F] [Named F]
def κ : String → Option EReal := fun
  | "mask" => some ⊥
  | _ => none
-- ==== FoxReferenceIdeal.lean ====
abbrev S16x2048x256 : Shape := ⟨3, ![16, 2048, 256]⟩
abbrev S16x2048x4 : Shape := ⟨3, ![16, 2048, 4]⟩
abbrev S4 : Shape := ⟨1, ![4]⟩
abbrev S16x2048x4x64 : Shape := ⟨4, ![16, 2048, 4, 64]⟩
abbrev S1x1x4 : Shape := ⟨3, ![1, 1, 4]⟩
abbrev S_ : Shape := ⟨0, ![]⟩
abbrev S16x4x2048 : Shape := ⟨3, ![16, 4, 2048]⟩
abbrev S16x4x2048x2048 : Shape := ⟨4, ![16, 4, 2048, 2048]⟩
abbrev S16x4x2048x1 : Shape := ⟨4, ![16, 4, 2048, 1]⟩
abbrev S16x4x1x2048 : Shape := ⟨4, ![16, 4, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S16x4x64x2048 : Shape := ⟨4, ![16, 4, 64, 2048]⟩

abbrev nBuf : Space → Nat
  | .hbm => 70
  | .vmem => 0
  | .smem => 0
  | _ => 0

abbrev bufTy : (tb : Table) → Fin (tcTables nBuf tb) → BufTy
  | .hbm, ⟨0, _⟩ => ⟨S16x2048x256, .f32⟩
  | .hbm, ⟨1, _⟩ => ⟨S16x2048x256, .f32⟩
  | .hbm, ⟨2, _⟩ => ⟨S16x2048x256, .f32⟩
  | .hbm, ⟨3, _⟩ => ⟨S16x2048x4, .f32⟩
  | .hbm, ⟨4, _⟩ => ⟨S4, .f32⟩
  | .hbm, ⟨5, _⟩ => ⟨S16x2048x4x64, .f32⟩
  | .hbm, ⟨6, _⟩ => ⟨S16x2048x4x64, .f32⟩
  | .hbm, ⟨7, _⟩ => ⟨S16x2048x4x64, .f32⟩
  | .hbm, ⟨8, _⟩ => ⟨S1x1x4, .f32⟩
  | .hbm, ⟨9, _⟩ => ⟨S16x2048x4, .f32⟩
  | .hbm, ⟨10, _⟩ => ⟨S16x2048x4, .f32⟩
  | .hbm, ⟨11, _⟩ => ⟨S16x2048x4, .f32⟩
  | .hbm, ⟨12, _⟩ => ⟨S_, .f32⟩
  | .hbm, ⟨13, _⟩ => ⟨S16x2048x4, .f32⟩
  | .hbm, ⟨14, _⟩ => ⟨S16x2048x4, .f32⟩
  | .hbm, ⟨15, _⟩ => ⟨S16x2048x4, .f32⟩
  | .hbm, ⟨16, _⟩ => ⟨S16x2048x4, .f32⟩
  | .hbm, ⟨17, _⟩ => ⟨S16x2048x4, .i1⟩
  | .hbm, ⟨18, _⟩ => ⟨S16x2048x4, .f32⟩
  | .hbm, ⟨19, _⟩ => ⟨S16x2048x4, .f32⟩
  | .hbm, ⟨20, _⟩ => ⟨S16x2048x4, .f32⟩
  | .hbm, ⟨21, _⟩ => ⟨S16x2048x4, .f32⟩
  | .hbm, ⟨22, _⟩ => ⟨S16x2048x4, .f32⟩
  | .hbm, ⟨23, _⟩ => ⟨S16x2048x4, .f32⟩
  | .hbm, ⟨24, _⟩ => ⟨S16x2048x4, .f32⟩
  | .hbm, ⟨25, _⟩ => ⟨S16x2048x4, .f32⟩
  | .hbm, ⟨26, _⟩ => ⟨S16x2048x4, .f32⟩
  | .hbm, ⟨27, _⟩ => ⟨S_, .f32⟩
  | .hbm, ⟨28, _⟩ => ⟨S_, .f32⟩
  | .hbm, ⟨29, _⟩ => ⟨S16x2048x4, .f32⟩
  | .hbm, ⟨30, _⟩ => ⟨S16x4x2048, .f32⟩
  | .hbm, ⟨31, _⟩ => ⟨S16x4x2048x2048, .f32⟩
  | .hbm, ⟨32, _⟩ => ⟨S_, .f32⟩
  | .hbm, ⟨33, _⟩ => ⟨S16x4x2048x2048, .f32⟩
  | .hbm, ⟨34, _⟩ => ⟨S16x4x2048x2048, .f32⟩
  | .hbm, ⟨35, _⟩ => ⟨S16x4x2048x1, .f32⟩
  | .hbm, ⟨36, _⟩ => ⟨S16x4x2048x2048, .f32⟩
  | .hbm, ⟨37, _⟩ => ⟨S16x4x2048x2048, .f32⟩
  | .hbm, ⟨38, _⟩ => ⟨S16x4x1x2048, .f32⟩
  | .hbm, ⟨39, _⟩ => ⟨S16x4x2048x2048, .f32⟩
  | .hbm, ⟨40, _⟩ => ⟨S16x4x2048x2048, .f32⟩
  | .hbm, ⟨41, _⟩ => ⟨S2048, .i32⟩
  | .hbm, ⟨42, _⟩ => ⟨S2048x1, .i32⟩
  | .hbm, ⟨43, _⟩ => ⟨S1x2048, .i32⟩
  | .hbm, ⟨44, _⟩ => ⟨S2048x2048, .i32⟩
  | .hbm, ⟨45, _⟩ => ⟨S2048x2048, .i32⟩
  | .hbm, ⟨46, _⟩ => ⟨S2048x2048, .i1⟩
  | .hbm, ⟨47, _⟩ => ⟨S_, .f32⟩
  | .hbm, ⟨48, _⟩ => ⟨S_, .f32⟩
  | .hbm, ⟨49, _⟩ => ⟨S16x4x2048x2048, .i1⟩
  | .hbm, ⟨50, _⟩ => ⟨S16x4x2048x2048, .f32⟩
  | .hbm, ⟨51, _⟩ => ⟨S16x4x2048x2048, .f32⟩
  | .hbm, ⟨52, _⟩ => ⟨S_, .f32⟩
  | .hbm, ⟨53, _⟩ => ⟨S16x4x2048, .f32⟩
  | .hbm, ⟨54, _⟩ => ⟨S_, .f32⟩
  | .hbm, ⟨55, _⟩ => ⟨S16x4x2048, .f32⟩
  | .hbm, ⟨56, _⟩ => ⟨S16x4x2048, .f32⟩
  | .hbm, ⟨57, _⟩ => ⟨S16x4x2048x1, .f32⟩
  | .hbm, ⟨58, _⟩ => ⟨S16x4x2048x2048, .f32⟩
  | .hbm, ⟨59, _⟩ => ⟨S16x4x2048x2048, .f32⟩
  | .hbm, ⟨60, _⟩ => ⟨S16x4x2048x2048, .f32⟩
  | .hbm, ⟨61, _⟩ => ⟨S_, .f32⟩
  | .hbm, ⟨62, _⟩ => ⟨S16x4x2048, .f32⟩
  | .hbm, ⟨63, _⟩ => ⟨S16x4x2048x1, .f32⟩
  | .hbm, ⟨64, _⟩ => ⟨S16x4x2048x2048, .f32⟩
  | .hbm, ⟨65, _⟩ => ⟨S16x4x2048x2048, .f32⟩
  | .hbm, ⟨66, _⟩ => ⟨S16x4x64x2048, .f32⟩
  | .hbm, ⟨67, _⟩ => ⟨S16x2048x4x64, .f32⟩
  | .hbm, ⟨68, _⟩ => ⟨S16x2048x256, .f32⟩
  | .hbm, ⟨69, _⟩ => ⟨S16x2048x256, .bf16⟩
  | _, _ => ⟨S16x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_v0 : Ref sig .tc := ⟨.hbm, 11, rfl⟩
abbrev main_call0_call0_cst : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_call0_v2 : Ref sig .tc := ⟨.hbm, 15, rfl⟩
abbrev main_call0_call0_v3 : Ref sig .tc := ⟨.hbm, 16, rfl⟩
abbrev main_call0_call0_v4 : Ref sig .tc := ⟨.hbm, 17, rfl⟩
abbrev main_call0_call0_v5 : Ref sig .tc := ⟨.hbm, 18, rfl⟩
abbrev main_call0_call0_v6 : Ref sig .tc := ⟨.hbm, 19, rfl⟩
abbrev main_call0_call0_v7 : Ref sig .tc := ⟨.hbm, 20, rfl⟩
abbrev main_call0_call0_v8 : Ref sig .tc := ⟨.hbm, 21, rfl⟩
abbrev main_call0_call0_v9 : Ref sig .tc := ⟨.hbm, 22, rfl⟩
abbrev main_call0_call0_v10 : Ref sig .tc := ⟨.hbm, 23, rfl⟩
abbrev main_call0_call0_v11 : Ref sig .tc := ⟨.hbm, 24, rfl⟩
abbrev main_call0_v1 : Ref sig .tc := ⟨.hbm, 25, rfl⟩
abbrev main_v6 : Ref sig .tc := ⟨.hbm, 26, rfl⟩
abbrev main_call1_call0_cst : Ref sig .tc := ⟨.hbm, 27, rfl⟩
abbrev main_call1_call0_v0 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_0 : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_v24 : Ref sig .tc := ⟨.hbm, 51, rfl⟩
abbrev main_cst_1 : Ref sig .tc := ⟨.hbm, 52, rfl⟩
abbrev main_v25 : Ref sig .tc := ⟨.hbm, 53, rfl⟩
abbrev main_cst_2 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_cst_3 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩

abbrev nD : Nat := 1
abbrev τ : Topo := Topo.v7x

variable {F : FTy → Type} [FloatOps F]
-- ==== Ffn.lean ====
abbrev S16x2048x1024 : Shape := ⟨3, ![16, 2048, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S32768x1024 : Shape := ⟨2, ![32768, 1024]⟩
abbrev S1x1024 : Shape := ⟨2, ![1, 1024]⟩
abbrev S1x2816 : Shape := ⟨2, ![1, 2816]⟩
abbrev S1024x1024 : Shape := ⟨2, ![1024, 1024]⟩
abbrev S16x1024 : Shape := ⟨2, ![16, 1024]⟩
abbrev S1024x2816 : Shape := ⟨2, ![1024, 2816]⟩
abbrev S1024x1 : Shape := ⟨2, ![1024, 1]⟩
abbrev S16 : Shape := ⟨1, ![16]⟩
abbrev S16x1 : Shape := ⟨2, ![16, 1]⟩
abbrev S1040x1024 : Shape := ⟨2, ![1040, 1024]⟩
abbrev S1024x256 : Shape := ⟨2, ![1024, 256]⟩
abbrev S1040x256 : Shape := ⟨2, ![1040, 256]⟩
abbrev S1x256 : Shape := ⟨2, ![1, 256]⟩

abbrev nBuf : Space → Nat
  | .hbm => 12
  | .vmem => 12
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S32768x1024, .f32⟩
  | .hbm, ⟨7, _⟩ => ⟨S1x1024, .f32⟩
  | .hbm, ⟨8, _⟩ => ⟨S1024x5632, .bf16⟩
  | .hbm, ⟨9, _⟩ => ⟨S1x2816, .f32⟩
  | .hbm, ⟨10, _⟩ => ⟨S2816x1024, .bf16⟩
  | .hbm, ⟨11, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S16x1024, .f32⟩
  | .local _ .vmem, ⟨3, _⟩ => ⟨S16x1024, .f32⟩
  | .local _ .vmem, ⟨4, _⟩ => ⟨S1x1024, .f32⟩
  | .local _ .vmem, ⟨5, _⟩ => ⟨S1024x5632, .bf16⟩
  | .local _ .vmem, ⟨6, _⟩ => ⟨S3x2816, .f32⟩
  | .local _ .vmem, ⟨7, _⟩ => ⟨S1x2816, .f32⟩
  | .local _ .vmem, ⟨8, _⟩ => ⟨S2816x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x2816, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnReferenceIdeal.lean ====
abbrev S16x2048x1024 : Shape := ⟨3, ![16, 2048, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5632 : Shape := ⟨3, ![16, 2048, 5632]⟩
abbrev S16x2048x2816 : Shape := ⟨3, ![16, 2048, 2816]⟩
abbrev S16x2050x2816 : Shape := ⟨3, ![16, 2050, 2816]⟩
abbrev S1x2816 : Shape := ⟨2, ![1, 2816]⟩
abbrev S1x1x2816 : Shape := ⟨3, ![1, 1, 2816]⟩
abbrev S32768x1024 : Shape := ⟨2, ![32768, 1024]⟩

abbrev nBuf : Space → Nat
  | .hbm => 64
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S16x2048x1024, .f32⟩
  | .hbm, ⟨7, _⟩ => ⟨S_, .f32⟩
  | .hbm, ⟨8, _⟩ => ⟨S16x2048, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S_, .f32⟩
  | .hbm, ⟨14, _⟩ => ⟨S16x2048x1, .f32⟩
  | .hbm, ⟨15, _⟩ => ⟨S16x2048x1, .f32⟩
  | .hbm, ⟨16, _⟩ => ⟨S16x2048x1, .f32⟩
  | .hbm, ⟨17, _⟩ => ⟨S16x2048x1024, .f32⟩
  | .hbm, ⟨18, _⟩ => ⟨S16x2048x1024, .f32⟩
  | .hbm, ⟨19, _⟩ => ⟨S1x1x1024, .f32⟩
  | .hbm, ⟨20, _⟩ => ⟨S16x2048x1024, .f32⟩
  | .hbm, ⟨21, _⟩ => ⟨S16x2048x1024, .f32⟩
  | .hbm, ⟨22, _⟩ => ⟨S16x2048x5632, .f32⟩
  | .hbm, ⟨23, _⟩ => ⟨S16x2048x2816, .f32⟩
  | .hbm, ⟨24, _⟩ => ⟨S16x2048x2816, .f32⟩
  | .hbm, ⟨25, _⟩ => ⟨S_, .i32⟩
  | .hbm, ⟨26, _⟩ => ⟨S_, .f32⟩
  | .hbm, ⟨27, _⟩ => ⟨S16x2050x2816, .f32⟩
  | .hbm, ⟨28, _⟩ => ⟨S1x2816, .f32⟩
  | .hbm, ⟨29, _⟩ => ⟨S2816, .f32⟩
  | .hbm, ⟨30, _⟩ => ⟨S16x2048x2816, .f32⟩
  | .hbm, ⟨31, _⟩ => ⟨S1x1x2816, .f32⟩
  | .hbm, ⟨32, _⟩ => ⟨S16x2048x2816, .f32⟩
  | .hbm, ⟨33, _⟩ => ⟨S16x2048x2816, .f32⟩
  | .hbm, ⟨34, _⟩ => ⟨S1x2816, .f32⟩
  | .hbm, ⟨35, _⟩ => ⟨S2816, .f32⟩
  | .hbm, ⟨36, _⟩ => ⟨S16x2048x2816, .f32⟩
  | .hbm, ⟨37, _⟩ => ⟨S1x1x2816, .f32⟩
  | .hbm, ⟨38, _⟩ => ⟨S16x2048x2816, .f32⟩
  | .hbm, ⟨39, _⟩ => ⟨S16x2048x2816, .f32⟩
  | .hbm, ⟨40, _⟩ => ⟨S16x2048x2816, .f32⟩
  | .hbm, ⟨41, _⟩ => ⟨S1x2816, .f32⟩
  | .hbm, ⟨42, _⟩ => ⟨S2816, .f32⟩
  | .hbm, ⟨43, _⟩ => ⟨S16x2048x2816, .f32⟩
  | .hbm, ⟨44, _⟩ => ⟨S1x1x2816, .f32⟩
  | .hbm, ⟨45, _⟩ => ⟨S16x2048x2816, .f32⟩
  | .hbm, ⟨46, _⟩ => ⟨S16x2048x2816, .f32⟩
  | .hbm, ⟨47, _⟩ => ⟨S16x2048x2816, .f32⟩
  | .hbm, ⟨48, _⟩ => ⟨S1x1x2816, .f32⟩
  | .hbm, ⟨49, _⟩ => ⟨S16x2048x2816, .f32⟩
  | .hbm, ⟨50, _⟩ => ⟨S16x2048x2816, .f32⟩
  | .hbm, ⟨51, _⟩ => ⟨S16x2048x2816, .f32⟩
  | .hbm, ⟨52, _⟩ => ⟨S16x2048x2816, .f32⟩
  | .hbm, ⟨53, _⟩ => ⟨S_, .f32⟩
  | .hbm, ⟨54, _⟩ => ⟨S16x2048x2816, .f32⟩
  | .hbm, ⟨55, _⟩ => ⟨S16x2048x2816, .f32⟩
  | .hbm, ⟨56, _⟩ => ⟨S_, .f32⟩
  | .hbm, ⟨57, _⟩ => ⟨S16x2048x2816, .f32⟩
  | .hbm, ⟨58, _⟩ => ⟨S16x2048x2816, .f32⟩
  | .hbm, ⟨59, _⟩ => ⟨S16x2048x2816, .f32⟩
  | .hbm, ⟨60, _⟩ => ⟨S16x2048x2816, .f32⟩
  | .hbm, ⟨61, _⟩ => ⟨S16x2048x1024, .f32⟩
  | .hbm, ⟨62, _⟩ => ⟨S16x2048x1024, .f32⟩
  | .hbm, ⟨63, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_call0_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_call1_v0 : Ref sig .tc := ⟨.hbm, 51, rfl⟩
abbrev main_call1_v1 : Ref sig .tc := ⟨.hbm, 52, rfl⟩
abbrev main_call1_cst : Ref sig .tc := ⟨.hbm, 53, rfl⟩
abbrev main_call1_v2 : Ref sig .tc := ⟨.hbm, 54, rfl⟩
abbrev main_call1_v3 : Ref sig .tc := ⟨.hbm, 55, rfl⟩
abbrev main_call1_cst_0 : Ref sig .tc := ⟨.hbm, 56, rfl⟩
abbrev main_call1_v4 : Ref sig .tc := ⟨.hbm, 57, rfl⟩
abbrev main_call1_v5 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩

abbrev nD : Nat := 1
abbrev τ : Topo := Topo.v7x

variable {F : FTy → Type} [FloatOps F]
-- ==== Xattn.lean ====
abbrev S16x2048x1024 : Shape := ⟨3, ![16, 2048, 1024]⟩
abbrev S16x2048x256 : Shape := ⟨3, ![16, 2048, 256]⟩
abbrev S64 : Shape := ⟨1, ![64]⟩
abbrev S1024x1024 : Shape := ⟨2, ![1024, 1024]⟩
abbrev S1024 : Shape := ⟨1, ![1024]⟩
abbrev S256 : Shape := ⟨1, ![256]⟩
abbrev S16x256x1024 : Shape := ⟨3, ![16, 256, 1024]⟩
abbrev S32768x256 : Shape := ⟨2, ![32768, 256]⟩
abbrev S1x64 : Shape := ⟨2, ![1, 64]⟩
abbrev S1x1x1x64 : Shape := ⟨4, ![1, 1, 1, 64]⟩
abbrev S1x1x4x64 : Shape := ⟨4, ![1, 1, 4, 64]⟩
abbrev S1x256 : Shape := ⟨2, ![1, 256]⟩
abbrev S32768x1024 : Shape := ⟨2, ![32768, 1024]⟩
abbrev S1x1024 : Shape := ⟨2, ![1, 1024]⟩
abbrev S1024x256 : Shape := ⟨2, ![1024, 256]⟩
abbrev S1x256x1024 : Shape := ⟨3, ![1, 256, 1024]⟩
abbrev S1024x128 : Shape := ⟨2, ![1024, 128]⟩
abbrev S1x128 : Shape := ⟨2, ![1, 128]⟩
abbrev S1024x1 : Shape := ⟨2, ![1024, 1]⟩
abbrev S1x256x256 : Shape := ⟨3, ![1, 256, 256]⟩
abbrev S256x256 : Shape := ⟨2, ![256, 256]⟩

abbrev nBuf : Space → Nat
  | .hbm => 34
  | .vmem => 22
  | .smem => 0
  | _ => 0

abbrev bufTy : (tb : Table) → Fin (tcTables nBuf tb) → BufTy
  | .hbm, ⟨0, _⟩ => ⟨S16x2048x1024, .f32⟩
  | .hbm, ⟨1, _⟩ => ⟨S16x2048x256, .f32⟩
  | .hbm, ⟨2, _⟩ => ⟨S16x2048x256, .f32⟩
  | .hbm, ⟨3, _⟩ => ⟨S16x2048x256, .f32⟩
  | .hbm, ⟨4, _⟩ => ⟨S16x2048x256, .f32⟩
  | .hbm, ⟨5, _⟩ => ⟨S64, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S256, .f32⟩
  | .hbm, ⟨10, _⟩ => ⟨S16x256x1024, .f32⟩
  | .hbm, ⟨11, _⟩ => ⟨S16x256x1024, .f32⟩
  | .hbm, ⟨12, _⟩ => ⟨S1024x1024, .f32⟩
  | .hbm, ⟨13, _⟩ => ⟨S32768x256, .f32⟩
  | .hbm, ⟨14, _⟩ => ⟨S32768x256, .bf16⟩
  | .hbm, ⟨15, _⟩ => ⟨S32768x256, .f32⟩
  | .hbm, ⟨16, _⟩ => ⟨S32768x256, .bf16⟩
  | .hbm, ⟨17, _⟩ => ⟨S32768x256, .f32⟩
  | .hbm, ⟨18, _⟩ => ⟨S32768x256, .bf16⟩
  | .hbm, ⟨19, _⟩ => ⟨S32768x256, .f32⟩
  | .hbm, ⟨20, _⟩ => ⟨S32768x256, .bf16⟩
  | .hbm, ⟨21, _⟩ => ⟨S1x64, .f32⟩
  | .hbm, ⟨22, _⟩ => ⟨S1x1x1x64, .f32⟩
  | .hbm, ⟨23, _⟩ => ⟨S1x1x4x64, .f32⟩
  | .hbm, ⟨24, _⟩ => ⟨S1x256, .f32⟩
  | .hbm, ⟨25, _⟩ => ⟨S32768x1024, .f32⟩
  | .hbm, ⟨26, _⟩ => ⟨S1024x1024, .bf16⟩
  | .hbm, ⟨27, _⟩ => ⟨S1x1024, .f32⟩
  | .hbm, ⟨28, _⟩ => ⟨S1024x1024, .bf16⟩
  | .hbm, ⟨29, _⟩ => ⟨S1x256, .f32⟩
  | .hbm, ⟨30, _⟩ => ⟨S16x256x1024, .bf16⟩
  | .hbm, ⟨31, _⟩ => ⟨S16x256x1024, .bf16⟩
  | .hbm, ⟨32, _⟩ => ⟨S1024x1024, .bf16⟩
  | .hbm, ⟨33, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S1x256, .f32⟩
  | .local _ .vmem, ⟨11, _⟩ => ⟨S1024x1024, .bf16⟩
  | .local _ .vmem, ⟨12, _⟩ => ⟨S1x1024, .f32⟩
  | .local _ .vmem, ⟨13, _⟩ => ⟨S1024x1024, .bf16⟩
  | .local _ .vmem, ⟨14, _⟩ => ⟨S1x256, .f32⟩
  | .local _ .vmem, ⟨15, _⟩ => ⟨S1x256x1024, .bf16⟩
  | .local _ .vmem, ⟨16, _⟩ => ⟨S1x256x1024, .bf16⟩
  | .local _ .vmem, ⟨17, _⟩ => ⟨S1x256x1024, .bf16⟩
  | .local _ .vmem, ⟨18, _⟩ => ⟨S1x256x1024, .bf16⟩
  | .local _ .vmem, ⟨19, _⟩ => ⟨S1024x1024, .bf16⟩
  | .local _ .vmem, ⟨20, _⟩ => ⟨S1024x1024, .f32⟩
  | .local _ .vmem, ⟨21, _⟩ => ⟨S1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_11 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== XattnReferenceIdeal.lean ====
abbrev S16x2048x1024 : Shape := ⟨3, ![16, 2048, 1024]⟩
abbrev S16x2048x256 : Shape := ⟨3, ![16, 2048, 256]⟩
abbrev S64 : Shape := ⟨1, ![64]⟩
abbrev S1024x1024 : Shape := ⟨2, ![1024, 1024]⟩
abbrev S1024 : Shape := ⟨1, ![1024]⟩
abbrev S256 : Shape := ⟨1, ![256]⟩
abbrev S16x256x1024 : Shape := ⟨3, ![16, 256, 1024]⟩
abbrev S16x2048x4x64 : Shape := ⟨4, ![16, 2048, 4, 64]⟩
abbrev S_ : Shape := ⟨0, ![]⟩
abbrev S16x2048x4 : Shape := ⟨3, ![16, 2048, 4]⟩
abbrev S16x2048x4x1 : Shape := ⟨4, ![16, 2048, 4, 1]⟩
abbrev S1x1x1x64 : Shape := ⟨4, ![1, 1, 1, 64]⟩
abbrev S16x2048 : Shape := ⟨2, ![16, 2048]⟩
abbrev S16x2048x1 : Shape := ⟨3, ![16, 2048, 1]⟩
abbrev S1x1x1024 : Shape := ⟨3, ![1, 1, 1024]⟩
abbrev S16x2048x4x256 : Shape := ⟨4, ![16, 2048, 4, 256]⟩
abbrev S1x1x1x256 : Shape := ⟨4, ![1, 1, 1, 256]⟩
abbrev S16x256x4x256 : Shape := ⟨4, ![16, 256, 4, 256]⟩
abbrev S16x4x2048x256 : Shape := ⟨4, ![16, 4, 2048, 256]⟩
abbrev S16x4x2048 : Shape := ⟨3, ![16, 4, 2048]⟩
abbrev S16x4x2048x1 : Shape := ⟨4, ![16, 4, 2048, 1]⟩
abbrev S16x4x256x2048 : Shape := ⟨4, ![16, 4, 256, 2048]⟩
abbrev S32768x1024 : Shape := ⟨2, ![32768, 1024]⟩

abbrev nBuf : Space → Nat
  | .hbm => 94
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x256, .f32⟩
  | .hbm, ⟨2, _⟩ => ⟨S16x2048x256, .f32⟩
  | .hbm, ⟨3, _⟩ => ⟨S16x2048x256, .f32⟩
  | .hbm, ⟨4, _⟩ => ⟨S16x2048x256, .f32⟩
  | .hbm, ⟨5, _⟩ => ⟨S64, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S256, .f32⟩
  | .hbm, ⟨10, _⟩ => ⟨S16x256x1024, .f32⟩
  | .hbm, ⟨11, _⟩ => ⟨S16x256x1024, .f32⟩
  | .hbm, ⟨12, _⟩ => ⟨S1024x1024, .f32⟩
  | .hbm, ⟨13, _⟩ => ⟨S16x2048x4x64, .f32⟩
  | .hbm, ⟨14, _⟩ => ⟨S16x2048x4x64, .f32⟩
  | .hbm, ⟨15, _⟩ => ⟨S_, .f32⟩
  | .hbm, ⟨16, _⟩ => ⟨S16x2048x4, .f32⟩
  | .hbm, ⟨17, _⟩ => ⟨S16x2048x4x1, .f32⟩
  | .hbm, ⟨18, _⟩ => ⟨S_, .f32⟩
  | .hbm, ⟨19, _⟩ => ⟨S16x2048x4x1, .f32⟩
  | .hbm, ⟨20, _⟩ => ⟨S16x2048x4x1, .f32⟩
  | .hbm, ⟨21, _⟩ => ⟨S_, .f32⟩
  | .hbm, ⟨22, _⟩ => ⟨S16x2048x4x1, .f32⟩
  | .hbm, ⟨23, _⟩ => ⟨S16x2048x4x1, .f32⟩
  | .hbm, ⟨24, _⟩ => ⟨S16x2048x4x1, .f32⟩
  | .hbm, ⟨25, _⟩ => ⟨S16x2048x4x64, .f32⟩
  | .hbm, ⟨26, _⟩ => ⟨S16x2048x4x64, .f32⟩
  | .hbm, ⟨27, _⟩ => ⟨S1x1x1x64, .f32⟩
  | .hbm, ⟨28, _⟩ => ⟨S16x2048x4x64, .f32⟩
  | .hbm, ⟨29, _⟩ => ⟨S16x2048x4x64, .f32⟩
  | .hbm, ⟨30, _⟩ => ⟨S16x2048x256, .f32⟩
  | .hbm, ⟨31, _⟩ => ⟨S16x2048x1024, .f32⟩
  | .hbm, ⟨32, _⟩ => ⟨S16x2048x1024, .f32⟩
  | .hbm, ⟨33, _⟩ => ⟨S16x2048x1024, .f32⟩
  | .hbm, ⟨34, _⟩ => ⟨S16x2048x1024, .f32⟩
  | .hbm, ⟨35, _⟩ => ⟨S_, .f32⟩
  | .hbm, ⟨36, _⟩ => ⟨S16x2048, .f32⟩
  | .hbm, ⟨37, _⟩ => ⟨S16x2048x1, .f32⟩
  | .hbm, ⟨38, _⟩ => ⟨S_, .f32⟩
  | .hbm, ⟨39, _⟩ => ⟨S16x2048x1, .f32⟩
  | .hbm, ⟨40, _⟩ => ⟨S16x2048x1, .f32⟩
  | .hbm, ⟨41, _⟩ => ⟨S_, .f32⟩
  | .hbm, ⟨42, _⟩ => ⟨S16x2048x1, .f32⟩
  | .hbm, ⟨43, _⟩ => ⟨S16x2048x1, .f32⟩
  | .hbm, ⟨44, _⟩ => ⟨S16x2048x1, .f32⟩
  | .hbm, ⟨45, _⟩ => ⟨S16x2048x1024, .f32⟩
  | .hbm, ⟨46, _⟩ => ⟨S16x2048x1024, .f32⟩
  | .hbm, ⟨47, _⟩ => ⟨S1x1x1024, .f32⟩
  | .hbm, ⟨48, _⟩ => ⟨S16x2048x1024, .f32⟩
  | .hbm, ⟨49, _⟩ => ⟨S16x2048x1024, .f32⟩
  | .hbm, ⟨50, _⟩ => ⟨S16x2048x1024, .f32⟩
  | .hbm, ⟨51, _⟩ => ⟨S16x2048x4x256, .f32⟩
  | .hbm, ⟨52, _⟩ => ⟨S16x2048x4x256, .f32⟩
  | .hbm, ⟨53, _⟩ => ⟨S_, .f32⟩
  | .hbm, ⟨54, _⟩ => ⟨S16x2048x4, .f32⟩
  | .hbm, ⟨55, _⟩ => ⟨S16x2048x4x1, .f32⟩
  | .hbm, ⟨56, _⟩ => ⟨S_, .f32⟩
  | .hbm, ⟨57, _⟩ => ⟨S16x2048x4x1, .f32⟩
  | .hbm, ⟨58, _⟩ => ⟨S16x2048x4x1, .f32⟩
  | .hbm, ⟨59, _⟩ => ⟨S_, .f32⟩
  | .hbm, ⟨60, _⟩ => ⟨S16x2048x4x1, .f32⟩
  | .hbm, ⟨61, _⟩ => ⟨S16x2048x4x1, .f32⟩
  | .hbm, ⟨62, _⟩ => ⟨S16x2048x4x1, .f32⟩
  | .hbm, ⟨63, _⟩ => ⟨S16x2048x4x256, .f32⟩
  | .hbm, ⟨64, _⟩ => ⟨S16x2048x4x256, .f32⟩
  | .hbm, ⟨65, _⟩ => ⟨S1x1x1x256, .f32⟩
  | .hbm, ⟨66, _⟩ => ⟨S16x2048x4x256, .f32⟩
  | .hbm, ⟨67, _⟩ => ⟨S16x2048x4x256, .f32⟩
  | .hbm, ⟨68, _⟩ => ⟨S16x256x4x256, .f32⟩
  | .hbm, ⟨69, _⟩ => ⟨S16x4x2048x256, .f32⟩
  | .hbm, ⟨70, _⟩ => ⟨S_, .f32⟩
  | .hbm, ⟨71, _⟩ => ⟨S16x4x2048x256, .f32⟩
  | .hbm, ⟨72, _⟩ => ⟨S16x4x2048x256, .f32⟩
  | .hbm, ⟨73, _⟩ => ⟨S_, .f32⟩
  | .hbm, ⟨74, _⟩ => ⟨S16x4x2048, .f32⟩
  | .hbm, ⟨75, _⟩ => ⟨S_, .f32⟩
  | .hbm, ⟨76, _⟩ => ⟨S16x4x2048, .f32⟩
  | .hbm, ⟨77, _⟩ => ⟨S16x4x2048, .f32⟩
  | .hbm, ⟨78, _⟩ => ⟨S16x4x2048x1, .f32⟩
  | .hbm, ⟨79, _⟩ => ⟨S16x4x2048x256, .f32⟩
  | .hbm, ⟨80, _⟩ => ⟨S16x4x2048x256, .f32⟩
  | .hbm, ⟨81, _⟩ => ⟨S16x4x2048x256, .f32⟩
  | .hbm, ⟨82, _⟩ => ⟨S_, .f32⟩
  | .hbm, ⟨83, _⟩ => ⟨S16x4x2048, .f32⟩
  | .hbm, ⟨84, _⟩ => ⟨S16x4x2048x1, .f32⟩
  | .hbm, ⟨85, _⟩ => ⟨S16x4x2048x256, .f32⟩
  | .hbm, ⟨86, _⟩ => ⟨S16x4x2048x256, .f32⟩
  | .hbm, ⟨87, _⟩ => ⟨S16x256x4x256, .f32⟩
  | .hbm, ⟨88, _⟩ => ⟨S16x4x256x2048, .f32⟩
  | .hbm, ⟨89, _⟩ => ⟨S16x2048x4x256, .f32⟩
  | .hbm, ⟨90, _⟩ => ⟨S16x2048x1024, .f32⟩
  | .hbm, ⟨91, _⟩ => ⟨S16x2048x1024, .f32⟩
  | .hbm, ⟨92, _⟩ => ⟨S16x2048x1024, .f32⟩
  | .hbm, ⟨93, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_cst_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_5 : Ref sig .tc := ⟨.hbm, 53, rfl⟩
abbrev main_v34 : Ref sig .tc := ⟨.hbm, 54, rfl⟩
abbrev main_v35 : Ref sig .tc := ⟨.hbm, 55, rfl⟩
abbrev main_cst_6 : Ref sig .tc := ⟨.hbm, 56, rfl⟩
abbrev main_v36 : Ref sig .tc := ⟨.hbm, 57, rfl⟩
abbrev main_v37 : Ref sig .tc := ⟨.hbm, 58, rfl⟩
abbrev main_cst_7 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_8 : Ref sig .tc := ⟨.hbm, 70, rfl⟩
abbrev main_v48 : Ref sig .tc := ⟨.hbm, 71, rfl⟩
abbrev main_v49 : Ref sig .tc := ⟨.hbm, 72, rfl⟩
abbrev main_cst_9 : Ref sig .tc := ⟨.hbm, 73, rfl⟩
abbrev main_v50 : Ref sig .tc := ⟨.hbm, 74, rfl⟩
abbrev main_cst_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_11 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩

abbrev nD : Nat := 1
abbrev τ : Topo := Topo.v7x

variable {F : FTy → Type} [FloatOps F]
-- ==== Proof.FfnSpec.lean ====
module

public import Idealize.ShloMosaic.Lib.Pipeline.ValueKit
public import Idealize.ShloMosaic.Lib.Pointwise

@[expose] public section

noncomputable section

namespace Cert.FfnSpec

open Idealize.ShloMosaic

variable (X : Fin 16 → Fin 2048 → Fin 1024 → EReal) (ln : Fin 1024 → EReal) (W : Fin 1024 → Fin 5632 → EReal) (cw : Fin 3 → Fin 2816 → EReal)
  (cb : Fin 2816 → EReal) (wd : Fin 2816 → Fin 1024 → EReal)

/-- A row of the input after its root mean square norm. -/
def normed (b : Fin 16) (s : Fin 2048) (k : Fin 1024) : EReal :=
  X b s k * Ideal.rsqrt (Ideal.div (∑ x, X b s x * X b s x) (Ideal.ofBits FTy.f32 1149239296#32) + Ideal.ofBits FTy.f32 897988541#32) * ln k

/-- The up projection of a normed row. -/
def up (b : Fin 16) (s : Fin 2048) (l : Fin 5632) : EReal := ∑ k, normed X ln b s k * W k l

/-- The gate's half of the up projection `d` rows before row `s`, zero before the sequence's first row. -/
def past (b : Fin 16) (s : Fin 2048) (d : ℕ) (l : Fin 2816) : EReal :=
  if d ≤ s.val then up X ln W b ⟨s.val - d, by omega⟩ ⟨l.val, by omega⟩ else 0

/-- The causal convolution of the gate over three rows. -/
def conv (b : Fin 16) (s : Fin 2048) (l : Fin 2816) : EReal :=
  cw 0 l * past X ln W b s 2 l + cw 1 l * past X ln W b s 1 l + cw 2 l * past X ln W b s 0 l + cb l

/-- The gated value: `silu` of the convolution times the other half of the up projection. -/
def act (b : Fin 16) (s : Fin 2048) (l : Fin 2816) : EReal :=
  conv X ln W cw cb b s l * Ideal.div 1 (1 + Ideal.exp (-conv X ln W cw cb b s l)) * up X ln W b s ⟨2816 + l.val, by omega⟩

/-- The feed forward layer's result: the input plus the down projection of the gated value. -/
def out (b : Fin 16) (s : Fin 2048) (j : Fin 1024) : EReal :=
  X b s j + ∑ l, act X ln W cw cb b s l * wd l j

end Cert.FfnSpec

end
end
-- ==== Proof.FfnBlock.lean ====
module

public import proofs.«01_k».proof.Proof.FfnSpec
public import proofs.«01_k».proof.Proof.Gen.FfnIdeal.Value
public import Idealize.ShloMosaic.Lib.Pipeline.ValueKit
public import Idealize.ShloMosaic.Lib.Pipeline.ReadBack
public import Idealize.ShloMosaic.Lib.Pointwise

@[expose] public section
set_option maxRecDepth 16384
noncomputable section
namespace Cert.FfnIdeal.RefValue
open Cert.FfnIdeal Cert.FfnIdeal.Gen Idealize.ShloMosaic Idealize.ShloMosaic.TcCoe Idealize.SL.Sem

variable (m : (ℓ : Loc nD τ sig) → Buf (Elt Ideal) ℓ) (c : Dev nD)

/-- The windows' block numbers at each grid point. -/
theorem idx : ∀ t : Fin cfg0.N, win0_0.index t = ![t.val, 0] ∧ win0_1.index t = ![64 * t.val - 1, 0] ∧ win0_2.index t = ![0, 0]
    ∧ win0_3.index t = ![0, 0] ∧ win0_4.index t = ![0, 0] ∧ win0_5.index t = ![0, 0] ∧ win0_6.index t = ![0, 0] ∧ win0_7.index t = ![t.val, 0] := by
  decide +kernel

/-- A row of point `t`'s input block is a row of the input. -/
theorem iblk0 (t : Fin cfg0.N) (r : Fin 1024) (k : Fin 1024) (b : Fin 16) (s : Fin 2048) (h : 2048 * b.val + s.val = 1024 * t.val + r.val) :
    iblk m c 0 t (ix2 r k) = m ((c.tc : Thread nD τ).loc main_arg0) (ix3 b s k) := by
  blk_ext! [iblk, V, idx t]

/-- The halo block holds the sixteen rows before the point's own (the first sixteen at the first point). -/
theorem iblk1 (t : Fin cfg0.N) (r : Fin 16) (k : Fin 1024) (b : Fin 16) (s : Fin 2048) (h : 2048 * b.val + s.val = 16 * (64 * t.val - 1) + r.val) :
    iblk m c 1 t (ix2 r k) = m ((c.tc : Thread nD τ).loc main_arg0) (ix3 b s k) := by
  blk_ext! [iblk, V, idx t]

/-- The norm's weights. -/
theorem iblk2 (t : Fin cfg0.N) (r : Fin 1) (k : Fin 1024)  :
    iblk m c 2 t (ix2 r k) = m ((c.tc : Thread nD τ).loc main_arg1) (ix1 k) := by
  blk_ext! [iblk, V, idx t]

/-- The up projection's weights. -/
theorem iblk3 (t : Fin cfg0.N) (r : Fin 1024) (k : Fin 5632)  :
    iblk m c 3 t (ix2 r k) = m ((c.tc : Thread nD τ).loc main_arg2) (ix2 r k) := by
  blk_ext [iblk, V, idx t]

/-- The convolution's taps. -/
theorem iblk4 (t : Fin cfg0.N) (r : Fin 3) (k : Fin 2816)  :
    iblk m c 4 t (ix2 r k) = m ((c.tc : Thread nD τ).loc main_arg3) (ix2 r k) := by
  blk_ext [iblk, V, idx t]

/-- The convolution's bias. -/
theorem iblk5 (t : Fin cfg0.N) (r : Fin 1) (k : Fin 2816)  :
    iblk m c 5 t (ix2 r k) = m ((c.tc : Thread nD τ).loc main_arg4) (ix1 k) := by
  blk_ext! [iblk, V, idx t]

/-- The down projection's weights. -/
theorem iblk6 (t : Fin cfg0.N) (r : Fin 2816) (k : Fin 1024)  :
    iblk m c 6 t (ix2 r k) = m ((c.tc : Thread nD τ).loc main_arg5) (ix2 r k) := by
  blk_ext [iblk, V, idx t]

/-- Whether grid point `g` starts a sequence, as the body computes it. -/
def flag (g : grid0.Coords) : BitVec 1 :=
  let r := Scalar.remsi (BitVec.ofNat 32 ↑(g 0)) 2#32
  Scalar.cmpi CmpIPredicate.eq
    (Scalar.select (Scalar.andi (Scalar.xori (Scalar.cmpi CmpIPredicate.slt r 0#32) 0#1) (Scalar.cmpi CmpIPredicate.ne r 0#32)) (Scalar.addi r 2#32) r) 0#32

/-- Even points start a sequence. -/
theorem flag_eq : ∀ t : Fin cfg0.N, flag (grid0.coords t) = if t.val % 2 = 0 then 1#1 else 0#1 := by decide +kernel

/-- The point's normed rows after the sixteen normed rows before them, the latter zero at a sequence's start. -/
def HEXT (t : Fin cfg0.N) : FVec Ideal S1040x1024 .bf16 :=
  k0_pay9 (flag (grid0.coords t)) (k0_pay4 (iblk m c 0 t) (iblk m c 2 t)) (k0_pay5 (iblk m c 1 t)) (k0_pay6 (iblk m c 2 t)) (k0_pay7 (iblk m c 1 t)) k0_pay8

/-- The gate's causal convolution at row `r`, column `l` of a block: taps on rows 16 + r, 15 + r and 14 + r of the rows with their halo. -/
def conv (H : FVec Ideal S1040x1024 .bf16) (W : Vec Ideal S1024x5632 .bf16) (cw : Vec Ideal S3x2816 .f32) (cb : Vec Ideal S1x2816 .f32)
    (r : Fin 1024) (l : Fin 2816) : EReal :=
  cb (ix2 0 l) + cw (ix2 2 l) * (∑ k : Fin 1024, H (ix2 ⟨16 + r, by omega⟩ k) * W (ix2 k ⟨l, by omega⟩))
    + cw (ix2 1 l) * (∑ k : Fin 1024, H (ix2 ⟨(16 + r + 1040 - 1) % 1040, by omega⟩ k) * W (ix2 k ⟨l, by omega⟩))
    + cw (ix2 0 l) * (∑ k : Fin 1024, H (ix2 ⟨(16 + r + 1040 - 2) % 1040, by omega⟩ k) * W (ix2 k ⟨l, by omega⟩))

/-- The gated value at row `r`, column `l` of a block. -/
def act (H : FVec Ideal S1040x1024 .bf16) (h : FVec Ideal S1024x1024 .bf16) (W : Vec Ideal S1024x5632 .bf16) (cw : Vec Ideal S3x2816 .f32)
    (cb : Vec Ideal S1x2816 .f32) (r : Fin 1024) (l : Fin 2816) : EReal :=
  conv H W cw cb r l * Ideal.div 1 (1 + Ideal.exp (0 - conv H W cw cb r l)) * ∑ k : Fin 1024, h (ix2 r k) * W (ix2 k ⟨2816 + l, by omega⟩)

/-- The down projection reads the stored activation tiles back as the one array `G` that they are blocks of. -/
theorem via_act {sp} (v : View sig .tc sp S1024x2816 .bf16) (A : FVec Ideal S1024x1024 .f32) (L : List (View.Piece (Elt Ideal) S1024x2816 .bf16)) (C : Vec Ideal S2816x1024 .bf16) (y : S1024x1024.Idx) (G : Vec Ideal S1024x2816 .bf16) (h : ∀ j, View.canon L j = G j) :
    k0_pay2 A (v.readCov L (Rect.unit (s := S1024x2816) ![0, 0] S1024x2816.size inb_S1024x2816_S1024x2816_0_0).toLoadRect) C y = k0_pay2 A G C y := by
  rw [View.readCov_eq_canon']
  congr 1
  funext j
  rw [h]
  congr 1
  funext a
  apply Fin.ext
  fin_cases a <;> simp [LoadRect.idx]

/-- What a grid point writes: the down projection of the gated value plus the input block. -/
theorem out_eq (t : Fin cfg0.N) (y) :
   outsAt0 m c t y = k0_pay2 (k0_pay3 (iblk m c 0 t)) (fun j : S1024x2816.Idx => act (HEXT m c t) (k0_pay4 (iblk m c 0 t) (iblk m c 2 t)) (iblk m c 3 t) (iblk m c 4 t) (iblk m c 5 t) (j 0) (j 1)) (iblk m c 6 t) y := by
  unfold outsAt0
  frame_out
  refine via_act _ _ _ _ _ _ (fun j => ?_)
  idx_vars j
  canon_tiles x hx
  all_goals
    idx_vars x
    obtain rfl : j0 = x0 := Fin.ext (by omega)
    pointwise [k0_pay1, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
    unfold act conv HEXT flag
    blk_point []
/-- The input, by sequence, row and column. -/
abbrev X (b : Fin 16) (s : Fin 2048) (k : Fin 1024) : EReal := m ((c.tc : Thread nD τ).loc main_arg0) (ix3 b s k)
/-- The norm's weights. -/
abbrev Ln (k : Fin 1024) : EReal := m ((c.tc : Thread nD τ).loc main_arg1) (ix1 k)
/-- The up projection. -/
abbrev Wu (k : Fin 1024) (l : Fin 5632) : EReal := m ((c.tc : Thread nD τ).loc main_arg2) (ix2 k l)
/-- The taps. -/
abbrev Cw (k : Fin 3) (l : Fin 2816) : EReal := m ((c.tc : Thread nD τ).loc main_arg3) (ix2 k l)
/-- The bias. -/
abbrev Cb (k : Fin 2816) : EReal := m ((c.tc : Thread nD τ).loc main_arg4) (ix1 k)
/-- The down projection. -/
abbrev Wd (k : Fin 2816) (l : Fin 1024) : EReal := m ((c.tc : Thread nD τ).loc main_arg5) (ix2 k l)

/-- A normed row of the point's own block. -/
theorem own_row (t : Fin cfg0.N) (b : Fin 16) (s : Fin 2048) (r : Fin 1024) (h : 2048 * b.val + s.val = 1024 * t.val + r.val) (k : Fin 1024) :
    k0_pay4 (iblk m c 0 t) (iblk m c 2 t) (ix2 r k) = FfnSpec.normed (X m c) (Ln m c) b s k := by
  pointwise [k0_pay4, k0_pay3]
  simp only [fun k => iblk0 m c t r k b s h, iblk2]
  rfl

/-- Row `16 + r - d` of the rows with halo is the normed row `d` rows before row `s`, or zero before the sequence's start. -/
theorem hext (t : Fin cfg0.N) (b : Fin 16) (s : Fin 2048) (r : Fin 1024) (h : 2048 * b.val + s.val = 1024 * t.val + r.val) (d : ℕ) (hd : d < 3)
    (q : Fin 1040) (hq : q.val = 16 + r.val - d) (k : Fin 1024) :
    HEXT m c t (ix2 q k) = if d ≤ s.val then FfnSpec.normed (X m c) (Ln m c) b ⟨s.val - d, by omega⟩ k else 0 := by
  unfold HEXT
  have ht : t.val < 32 := t.isLt
  pointwise [k0_pay9, k0_pay8, k0_pay7, k0_pay6, k0_pay5]
  rw [flag_eq]
  split_ifs with h1 h2 h3 h3 h2
  · exfalso; omega
  · simp [Scalar.select]
  · have hh : 2048 * b.val + (⟨s.val - d, by omega⟩ : Fin 2048).val = 16 * (64 * t.val - 1) + (⟨q.val, h1⟩ : Fin 16).val := by simp; omega
    simp only [fun k => iblk1 m c t ⟨q.val, h1⟩ k b ⟨s.val - d, by omega⟩ hh, iblk2]
    rfl
  · exfalso; omega
  · refine Eq.trans ?_ (if_pos (by omega)).symm
    refine own_row m c t b _ _ ?_ k
    simp; omega
  · exact absurd rfl h2

/-- A sum of four, the other way round. -/
theorem add_rev4 (a b c d : EReal) : a + b + c + d = d + c + b + a := by
  rw [add_comm (a + b + c), add_comm (a + b), add_comm a, ← add_assoc, ← add_assoc]

/-- A tap's product with the up projection. -/
theorem hpast (t : Fin cfg0.N) (b : Fin 16) (s : Fin 2048) (r : Fin 1024) (h : 2048 * b.val + s.val = 1024 * t.val + r.val) (d : ℕ) (hd : d < 3)
    (q : Fin 1040) (hq : q.val = 16 + r.val - d) (l : Fin 2816) :
    (∑ k : Fin 1024, HEXT m c t (ix2 q k) * iblk m c 3 t (ix2 k ⟨l.val, by omega⟩)) = FfnSpec.past (X m c) (Ln m c) (Wu m c) b s d l := by
  unfold FfnSpec.past FfnSpec.up
  simp only [hext m c t b s r h d hd q hq, iblk3]
  split_ifs with h1
  · rfl
  · exact Finset.sum_eq_zero fun k _ => zero_mul _

/-- The block's convolution is the layer's. -/
theorem hconv (t : Fin cfg0.N) (b : Fin 16) (s : Fin 2048) (r : Fin 1024) (h : 2048 * b.val + s.val = 1024 * t.val + r.val) (l : Fin 2816) :
    conv (HEXT m c t) (iblk m c 3 t) (iblk m c 4 t) (iblk m c 5 t) r l = FfnSpec.conv (X m c) (Ln m c) (Wu m c) (Cw m c) (Cb m c) b s l := by
  unfold conv FfnSpec.conv
  rw [hpast m c t b s r h 0 (by omega) ⟨16 + r, by omega⟩ rfl, hpast m c t b s r h 1 (by omega) ⟨(16 + r + 1040 - 1) % 1040, by omega⟩ (by simp; omega),
    hpast m c t b s r h 2 (by omega) ⟨(16 + r + 1040 - 2) % 1040, by omega⟩ (by simp; omega), iblk4, iblk4, iblk4, iblk5]
  exact add_rev4 _ _ _ _

/-- The block's gated value is the layer's. -/
theorem hact (t : Fin cfg0.N) (b : Fin 16) (s : Fin 2048) (r : Fin 1024) (h : 2048 * b.val + s.val = 1024 * t.val + r.val) (l : Fin 2816) :
    act (HEXT m c t) (k0_pay4 (iblk m c 0 t) (iblk m c 2 t)) (iblk m c 3 t) (iblk m c 4 t) (iblk m c 5 t) r l
      = FfnSpec.act (X m c) (Ln m c) (Wu m c) (Cw m c) (Cb m c) b s l := by
  unfold act FfnSpec.act FfnSpec.up
  rw [hconv m c t b s r h l]
  simp only [own_row m c t b s r h, iblk3, zero_sub]

/-- The last store's value at an index. -/
theorem pay2_at (A : FVec Ideal S1024x1024 .f32) (G : Vec Ideal S1024x2816 .bf16) (w : Vec Ideal S2816x1024 .bf16) (r j : Fin 1024) :
    k0_pay2 (k0_pay3 A) G w (ix2 r j) = A (ix2 r j) + ∑ l : Fin 2816, G (ix2 r l) * w (ix2 l j) := by
  pointwise [k0_pay2, k0_pay3]

/-- A point's block of the result is the layer's result at its rows. -/
theorem block (t : Fin cfg0.N) (b : Fin 16) (s : Fin 2048) (r : Fin 1024) (h : 2048 * b.val + s.val = 1024 * t.val + r.val) (j : Fin 1024) :
    outsAt0 m c t (ix2 r j) = FfnSpec.out (X m c) (Ln m c) (Wu m c) (Cw m c) (Cb m c) (Wd m c) b s j := by
  rw [out_eq, pay2_at, iblk0 m c t r j b s h]
  unfold FfnSpec.out
  refine congrArg _ (Finset.sum_congr rfl fun l _ => ?_)
  rw [iblk6]
  exact congrArg (· * _) (hact m c t b s r h l)
end Cert.FfnIdeal.RefValue
end
-- ==== Proof.FfnRef.lean ====
module
public import proofs.«01_k».proof.Proof.Gen.FfnReferenceIdeal.Run
public import Idealize.ShloMosaic.Lib.Pipeline.ValueKit
public import Idealize.ShloMosaic.Lib.Pipeline.ReadBack
public import Idealize.ShloMosaic.Lib.Pointwise
public import proofs.«01_k».proof.Proof.FfnSpec
public import Idealize.ShloMosaic.Lib.Tactic.CleanTypes
@[expose] public section
set_option maxRecDepth 16384
noncomputable section
namespace Cert.FfnReferenceIdeal.RefValue
open Idealize.ShloMosaic Idealize.ShloMosaic.TcCoe Idealize.SL.Sem

set_option maxHeartbeats 400000 in
/-- The reference's result at row `y 0`, column `y 1` is the layer's at sequence `y 0 / 2048`, row `y 0 % 2048`. -/
theorem ref_eq (m : (ℓ : Loc Cert.FfnReferenceIdeal.nD Cert.FfnReferenceIdeal.τ Cert.FfnReferenceIdeal.sig) → Buf (Elt Ideal) ℓ) (c : Dev Cert.FfnReferenceIdeal.nD) (y : FfnReferenceIdeal.S32768x1024.Idx) :
    Cert.FfnReferenceIdeal.Value.res_main_v44 m c y = FfnSpec.out (fun b s k => m (c.tc.loc FfnReferenceIdeal.main_arg0) (ix3 b s k)) (fun k => m (c.tc.loc FfnReferenceIdeal.main_arg1) (ix1 k))
      (fun k l => m (c.tc.loc FfnReferenceIdeal.main_arg2) (ix2 k l)) (fun k l => m (c.tc.loc FfnReferenceIdeal.main_arg3) (ix2 k l))
      (fun k => m (c.tc.loc FfnReferenceIdeal.main_arg4) (ix1 k)) (fun k l => m (c.tc.loc FfnReferenceIdeal.main_arg5) (ix2 k l))
       ⟨(y 0).val / 2048, by have := (y 0).isLt; simp at this; omega⟩ ⟨(y 0).val % 2048, by omega⟩ (y 1) := by
  idx_vars y
  unfold Cert.FfnReferenceIdeal.Value.res_main_v44
  clean_types
  pointwise
  unfold FfnSpec.out FfnSpec.act FfnSpec.conv FfnSpec.past FfnSpec.up FfnSpec.normed
  have hb : y0.val / 2048 < 16 := by omega
  have hz : FloatOps.sitofp (F := Ideal) FTy.f32 0#32 = (0 : EReal) := by simp [FloatOps.sitofp]
  have c0 : (y0.val / 2048 < 16 ∧ y0.val % 2048 < 2048) = True := by simp only [eq_iff_iff, iff_true]; omega
  have c1 : (y0.val / 2048 < 16 ∧ 2 ≤ 1 + y0.val % 2048 ∧ 1 + y0.val % 2048 - 2 < 2048) = (1 ≤ y0.val % 2048) := by simp only [eq_iff_iff]; omega
  have c2 : (y0.val / 2048 < 16 ∧ 2 ≤ y0.val % 2048 ∧ y0.val % 2048 - 2 < 2048) = (2 ≤ y0.val % 2048) := by simp only [eq_iff_iff]; omega
  have e1 : 1 + y0.val % 2048 - 2 = y0.val % 2048 - 1 := by omega
  simp only [c0, c1, c2, e1, hz, dite_true, if_true, Nat.zero_le, Nat.sub_zero]
  refine congrArg _ (Finset.sum_congr rfl fun l _ => ?_)
  reads_congr
  all_goals first | rfl | (refine congrArg _ ?_; split_ifs <;> first | rfl | (exfalso; omega))
end Cert.FfnReferenceIdeal.RefValue
end
end
-- ==== Proof.FfnValue.lean ====
module

public import proofs.«01_k».proof.Defs
public import proofs.«01_k».proof.Proof.FfnBlock
public import proofs.«01_k».proof.Proof.FfnRef
public import Idealize.ShloMosaic.Adequacy
public import Idealize.ShloMosaic.Init

@[expose] public section

set_option maxRecDepth 16384

noncomputable section

namespace Cert.FfnIdeal.RefValue

open Cert.FfnIdeal Cert.FfnIdeal.Gen Idealize.ShloMosaic Idealize.ShloMosaic.TcCoe Idealize.SL.Sem

variable (m : (ℓ : Loc nD τ sig) → Buf (Elt Ideal) ℓ) (c : Dev nD)

/-- The layer's result as the array that the call returns. -/
def layer (y : S32768x1024.Idx) : EReal :=
  FfnSpec.out (X m c) (Ln m c) (Wu m c) (Cw m c) (Cb m c) (Wd m c) ⟨(y 0).val / 2048, by have := (y 0).isLt; simp at this; omega⟩
    ⟨(y 0).val % 2048, by omega⟩ (y 1)

/-- The array that the grid leaves is the layer's result. -/
theorem final : (dats m 0 c).arrAt 7 cfg0.N = layer m c := by
  refine (dats m 0 c).arrAt_eq_of_covers 7 _ (by decide +kernel) fun t hf y => ?_
  blk_simp
  rw [after0_7]
  have ht : t.val < 32 := t.isLt
  idx_vars y
  refine (block m c t ⟨(1024 * t.val + y0.val) / 2048, by omega⟩ ⟨(1024 * t.val + y0.val) % 2048, by omega⟩ y0 (by simp; omega) y1).trans ?_
  have e0 := (idx t).2.2.2.2.2.2.2
  have a0 : ((((View.whole main_v5).slice (win0_7.rect t)).emb (ix2 y0 y1) 0 : Fin _) : ℕ) = 1024 * t.val + y0.val := by
    refine (Pipeline.Window.rect_emb_val win0_7 t (ix2 y0 y1) 0 rfl).trans ?_
    rw [e0]
    change t.val * 1024 + y0.val = _
    omega
  have a1 : ((((View.whole main_v5).slice (win0_7.rect t)).emb (ix2 y0 y1) 1 : Fin _) : ℕ) = y1.val := by
    refine (Pipeline.Window.rect_emb_val win0_7 t (ix2 y0 y1) 1 rfl).trans ?_
    rw [e0]
    change 0 * 1024 + y1.val = _
    omega
  unfold layer
  congr 1
  · exact Fin.ext (by simp only [a0])
  · exact Fin.ext (by simp only [a0])
  · exact Fin.ext a1.symm

end Cert.FfnIdeal.RefValue

namespace Cert.Proof

open Idealize.ShloMosaic Idealize.SL.Sem

/-- The feed forward kernel and its reference end with the same result. -/
theorem ffn_algebraic [Cert.FfnIdeal.Facts] [Cert.FfnReferenceIdeal.Facts] : Cert.algebraic_FfnIdeal_FfnReferenceIdeal := by
  intro m ρ m' ρ' _ hagree
  refine ⟨_, Cert.FfnIdeal.Value.run_blocks m ρ, ?_⟩
  refine (θ_run Cert.FfnReferenceIdeal.defs _ _).mono (fun _ h c => ⟨(h c).1.trans ?_, (h c).2⟩) (Cert.FfnReferenceIdeal.Value.run m' ρ')
  funext y
  refine (Cert.FfnReferenceIdeal.RefValue.ref_eq m' c y).trans ?_
  refine Eq.trans ?_ (congrFun (Cert.FfnIdeal.RefValue.final m c) y).symm
  have h0 := (hagree c).1
  have h1 := (hagree c).2.1
  have h2 := (hagree c).2.2.1
  have h3 := (hagree c).2.2.2.1
  have h4 := (hagree c).2.2.2.2.1
  have h5 := (hagree c).2.2.2.2.2
  unfold Cert.FfnIdeal.RefValue.layer
  simp only [h0, h1, h2, h3, h4, h5]

end Cert.Proof

end
end
-- ==== Proof.FoxSum.lean ====
module
public import proofs.«01_k».proof.Proof.Gen.FoxIdeal.Value
public import Idealize.ShloMosaic.Lib.Pipeline.ValueKit
public import Idealize.ShloMosaic.Lib.Pointwise
public import Idealize.ShloMosaic.Lib.WordCmp
@[expose] public section
set_option maxRecDepth 16384

noncomputable section
namespace Cert.FoxIdeal.RefValue
open Cert.FoxIdeal Cert.FoxIdeal.Gen Idealize.ShloMosaic Idealize.ShloMosaic.TcCoe Idealize.SL.Sem

/-- A finite sum of reals, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The logarithm of the sigmoid, as the kernel computes it. -/
def lsg (z : Ideal .f32) : EReal := min z 0 - Ideal.log1p (Ideal.exp (0 - FloatOps.absf z))

/-- A triangular weight is 1 on and below the diagonal, 0 above it. -/
theorem tri_w (k x : Fin 256) :
    (FloatOps.sitofp FTy.f32 (BitVec.setWidth 32 (IntOp.cmpi CmpIPredicate.sge (BitVec.ofNat 32 k.val) (BitVec.ofNat 32 x.val))) : Ideal .f32)
      = if x.val ≤ k.val then 1 else 0 := by
  have hk := k.isLt
  have hx := x.isLt
  by_cases h : x.val ≤ k.val
  · rw [if_pos h, (WordCmp.cmpi_sge_ofNat_eq_one_iff (by norm_num; omega) (by norm_num; omega)).2 h]
    exact (congrArg _ (by decide)).trans (show (((1#32 : BitVec 32).toInt : ℝ) : EReal) = 1 by norm_num)
  · rw [if_neg h, (WordCmp.cmpi_sge_ofNat_eq_zero_iff (by norm_num; omega) (by norm_num; omega)).2 h]
    exact (congrArg _ (by decide)).trans (show (((0#32 : BitVec 32).toInt : ℝ) : EReal) = 0 by norm_num)

/-- A triangular product is the sum of the rows up to this one. -/
theorem tri_sum (k : Fin 256) (w : Fin 256 → EReal) (f : ℕ → ℝ) (hw : ∀ x : Fin 256, w x = (f x.val : EReal)) :
    (∑ x : Fin 256, (FloatOps.sitofp FTy.f32 (BitVec.setWidth 32 (IntOp.cmpi CmpIPredicate.sge (BitVec.ofNat 32 k.val) (BitVec.ofNat 32 x.val))) : Ideal .f32) * w x : EReal)
      = ((∑ j ∈ Finset.range (k.val + 1), f j : ℝ) : EReal) := by
  have e : ∀ x : Fin 256, ((FloatOps.sitofp FTy.f32 (BitVec.setWidth 32 (IntOp.cmpi CmpIPredicate.sge (BitVec.ofNat 32 k.val) (BitVec.ofNat 32 x.val))) : Ideal .f32) * w x : EReal)
      = ((if x.val ≤ k.val then f x.val else 0 : ℝ) : EReal) := fun x => by
    rw [tri_w, hw]; split_ifs
    · exact one_mul _
    · exact zero_mul _
  rw [Finset.sum_congr rfl fun x _ => e x, ← coe_sum, Fin.sum_univ_eq_sum_range (fun j => if j ≤ k.val then f j else 0) 256]
  refine congrArg _ ?_
  rw [← Finset.sum_filter]
  refine Finset.sum_congr (Finset.ext fun j => ?_) fun _ _ => rfl
  have := k.isLt
  simp only [Finset.mem_filter, Finset.mem_range]
  omega

/-- The three-piece product: the pieces after the first are zero. -/
theorem tri_three (k : Fin 256) (w : Fin 256 → EReal) (f : ℕ → ℝ) (hw : ∀ x : Fin 256, w x = (f x.val : EReal)) :
    ((∑ x : Fin 256, (FloatOps.sitofp FTy.f32 (BitVec.setWidth 32 (IntOp.cmpi CmpIPredicate.sge (BitVec.ofNat 32 k.val) (BitVec.ofNat 32 x.val))) : Ideal .f32) * w x)
      + (∑ x : Fin 256, (FloatOps.sitofp FTy.f32 (BitVec.setWidth 32 (IntOp.cmpi CmpIPredicate.sge (BitVec.ofNat 32 k.val) (BitVec.ofNat 32 x.val))) : Ideal .f32) * (w x - w x))
      + (∑ x : Fin 256, (FloatOps.sitofp FTy.f32 (BitVec.setWidth 32 (IntOp.cmpi CmpIPredicate.sge (BitVec.ofNat 32 k.val) (BitVec.ofNat 32 x.val))) : Ideal .f32) * (w x - w x - (w x - w x))) : EReal)
      = ((∑ j ∈ Finset.range (k.val + 1), f j : ℝ) : EReal) := by
  have d : ∀ x, w x - w x = ((0 : ℝ) : EReal) := fun x => by rw [hw, ← EReal.coe_sub, sub_self]
  rw [tri_sum k w f hw, tri_sum k (fun x => w x - w x) (fun _ => 0) d,
    tri_sum k (fun x => w x - w x - (w x - w x)) (fun _ => 0) (fun x => by rw [d, ← EReal.coe_sub, sub_self])]
  simp

/-- The running sum of a decay lane. -/
def Cum (Z : ℕ → Fin 128 → ℝ) (s : ℕ) (l : Fin 128) : ℝ := ∑ j ∈ Finset.range (s + 1), Z j l

/-- The four pieces of a running sum: itself, twice nothing, and one. -/
def pieces (C : Fin 128 → ℝ) (x : Fin 512) : ℝ :=
  if h : x.val < 128 then C ⟨x.val, h⟩ else if x.val < 384 then 0 else 1

/-- The head whose decay a lane carries. -/
def hd (l : Fin 256) : ℕ := 2 * (l.val / 128) + 1 - l.val % 128 / 64
theorem hd_lt (l : Fin 256) : hd l < 4 := by have := l.isLt; unfold hd; omega

/-- The queries' decay lanes. -/
def qaugR (C : Fin 128 → ℝ) (l : Fin 256) : ℝ :=
  if l.val % 64 = 0 then C ⟨hd l, by have := hd_lt l; omega⟩ else if 3 ≤ l.val % 64 ∧ l.val % 64 < 6 then 1 else 0

/-- The keys' decay lanes. -/
def kaugR (C : Fin 128 → ℝ) (l : Fin 256) : ℝ :=
  if l.val % 64 < 3 then 1 else if l.val % 64 = 3 then - C ⟨hd l, by have := hd_lt l; omega⟩ else 0

/-- The queries' table places piece `l % 64` of the head's sum, or one. -/
def SelQ (x5 : Vec Ideal S512x256 .bf16) : Prop := ∀ (x : Fin 512) (l : Fin 256),
  x5 (ix2 x l) = (((if l.val % 64 < 6 ∧ x.val = (if l.val % 64 < 3 then l.val % 64 * 128 + hd l else 384) then 1 else 0 : ℝ)) : EReal)

/-- The keys' table places one, or minus piece `l % 64 - 3` of the head's sum. -/
def SelK (x6 : Vec Ideal S512x256 .bf16) : Prop := ∀ (x : Fin 512) (l : Fin 256),
  x6 (ix2 x l) = (((if l.val % 64 < 6 ∧ x.val = (if l.val % 64 < 3 then 384 else (l.val % 64 - 3) * 128 + hd l) then (if l.val % 64 < 3 then 1 else -1) else 0 : ℝ)) : EReal)

/-- A sum against a table with one entry in the column. -/
theorem sum_at (f : Fin 512 → ℝ) (P : Prop) [Decidable P] (n : ℕ) (hn : n < 512) (a : ℝ) :
    ∑ x : Fin 512, f x * (if P ∧ x.val = n then a else 0) = if P then f ⟨n, hn⟩ * a else 0 := by
  by_cases hP : P
  · rw [if_pos hP, Finset.sum_eq_single (⟨n, hn⟩ : Fin 512)]
    · rw [if_pos ⟨hP, rfl⟩]
    · intro x _ hx
      rw [if_neg (fun h => hx (Fin.ext h.2)), mul_zero]
    · intro h; exact absurd (Finset.mem_univ _) h
  · rw [if_neg hP]
    exact Finset.sum_eq_zero fun x _ => by rw [if_neg (fun h => hP h.1), mul_zero]

/-- The queries' lanes out of the pieces. -/
theorem sel_q (x5 : Vec Ideal S512x256 .bf16) (hs : SelQ x5) (C : Fin 128 → ℝ) (w : Fin 512 → EReal)
    (hw : ∀ x, w x = ((pieces C x : ℝ) : EReal)) (l : Fin 256) :
    (∑ x : Fin 512, w x * x5 (ix2 x l) : EReal) = ((qaugR C l : ℝ) : EReal) := by
  have h4 := hd_lt l
  have hl := l.isLt
  have e : ∀ x : Fin 512, (w x * x5 (ix2 x l) : EReal) = ((pieces C x * (if l.val % 64 < 6 ∧ x.val = (if l.val % 64 < 3 then l.val % 64 * 128 + hd l else 384) then 1 else 0) : ℝ) : EReal) := fun x => by
    rw [hw, hs, EReal.coe_mul]
  rw [Finset.sum_congr rfl fun x _ => e x, ← coe_sum, sum_at _ _ _ (by split_ifs <;> omega)]
  refine congrArg _ ?_
  unfold pieces qaugR
  by_cases a : l.val % 64 < 3
  · simp only [if_pos a]
    by_cases b : l.val % 64 = 0
    · simp only [b]
      rw [if_pos (by omega), dif_pos (by omega)]
      simp
    · rw [dif_neg (by omega), if_pos (show l.val % 64 * 128 + hd l < 384 by omega), if_neg b, if_neg (show ¬ (3 ≤ l.val % 64 ∧ l.val % 64 < 6) by omega)]
      simp
  · simp only [if_neg a]
    rw [if_neg (show ¬ l.val % 64 = 0 by omega)]
    simp only [show ¬ (384 < 128) by omega, show ¬ (384 < 384) by omega, dif_neg, if_neg, not_false_eq_true, mul_one]
    by_cases b : l.val % 64 < 6
    · rw [if_pos b, if_pos ⟨by omega, b⟩]
    · rw [if_neg b, if_neg (by omega)]

/-- The keys' lanes out of the pieces. -/
theorem sel_k (x6 : Vec Ideal S512x256 .bf16) (hs : SelK x6) (C : Fin 128 → ℝ) (w : Fin 512 → EReal)
    (hw : ∀ x, w x = ((pieces C x : ℝ) : EReal)) (l : Fin 256) :
    (∑ x : Fin 512, w x * x6 (ix2 x l) : EReal) = ((kaugR C l : ℝ) : EReal) := by
  have h4 := hd_lt l
  have hl := l.isLt
  have e : ∀ x : Fin 512, (w x * x6 (ix2 x l) : EReal) = ((pieces C x * (if l.val % 64 < 6 ∧ x.val = (if l.val % 64 < 3 then 384 else (l.val % 64 - 3) * 128 + hd l) then (if l.val % 64 < 3 then 1 else -1) else 0) : ℝ) : EReal) := fun x => by
    rw [hw, hs, EReal.coe_mul]
  rw [Finset.sum_congr rfl fun x _ => e x, ← coe_sum]
  by_cases b : l.val % 64 < 6
  · rw [sum_at _ _ _ (by split_ifs <;> omega), if_pos b]
    refine congrArg _ ?_
    unfold pieces kaugR
    by_cases a : l.val % 64 < 3
    · simp [if_pos a]
    · simp only [if_neg a]
      by_cases d : l.val % 64 = 3
      · simp only [d]
        rw [dif_pos (by omega)]
        simp
      · rw [dif_neg (by omega), if_pos (show (l.val % 64 - 3) * 128 + hd l < 384 by omega), if_neg d]
        simp
  · rw [Finset.sum_eq_zero fun x _ => by rw [if_neg (fun h => b h.1), mul_zero]]
    unfold kaugR
    rw [if_neg (by omega), if_neg (by omega)]
end Cert.FoxIdeal.RefValue
end
-- ==== Proof.FoxPrep.lean ====
module
public import proofs.«01_k».proof.Proof.FoxSum
public import Idealize.ShloMosaic.Lib.Pipeline.ReadBack
@[expose] public section
set_option maxRecDepth 16384

noncomputable section
namespace Cert.FoxIdeal.RefValue
open Cert.FoxIdeal Cert.FoxIdeal.Gen Idealize.ShloMosaic Idealize.ShloMosaic.TcCoe Idealize.SL.Sem

/-- The four pieces laid side by side. -/
theorem pieces_eq (C : Fin 128 → ℝ) (w : Fin 128 → EReal) (hw : ∀ l, w l = (C l : EReal)) (x : Fin 512) :
    (if h : x.val < 128 then w ⟨x.val, h⟩ else
      if h : x.val - 128 < 128 then w ⟨x.val - 128, h⟩ - w ⟨x.val - 128, h⟩ else
      if h : x.val - 128 - 128 < 128 then (w ⟨x.val - 128 - 128, h⟩ - w ⟨x.val - 128 - 128, h⟩) - (w ⟨x.val - 128 - 128, h⟩ - w ⟨x.val - 128 - 128, h⟩)
      else 1 : EReal) = ((pieces C x : ℝ) : EReal) := by
  unfold pieces
  simp only [hw, ← EReal.coe_sub, sub_self]
  by_cases a : x.val < 128
  · rw [dif_pos a, dif_pos a]
  · rw [dif_neg a, dif_neg a]
    by_cases b : x.val < 384
    · rw [if_pos b]
      by_cases d : x.val - 128 < 128
      · rw [dif_pos d]
      · rw [dif_neg d, dif_pos (by omega)]
    · rw [if_neg b, dif_neg (by omega), dif_neg (by omega)]
      rfl

section
variable (c : Dev nD) (arg5 : Memref sig .tc .vmem S1x2048x128 .f32) (harg5 : arg5.IsWhole) (arg6 : Memref sig .tc .vmem S1x128 .f32) (harg6 : arg6.IsWhole)
  (arg7 : Memref sig .tc .vmem S512x256 .bf16) (harg7 : arg7.IsWhole) (arg8 : Memref sig .tc .vmem S512x256 .bf16) (harg8 : arg8.IsWhole)
  (x3 : Vec Ideal S1x2048x128 .f32) (x4 : Vec Ideal S1x128 .f32) (x5 : Vec Ideal S512x256 .bf16) (x6 : Vec Ideal S512x256 .bf16)
  (Z : ℕ → Fin 128 → ℝ)

/-- The decays of a block are the reals `Z`. -/
def HZ (x3 : Vec Ideal S1x2048x128 .f32) (x4 : Vec Ideal S1x128 .f32) (Z : ℕ → Fin 128 → ℝ) : Prop :=
  ∀ (s : Fin 2048) (l : Fin 128), lsg (x3 (ix3 0 s l) + x4 (ix2 0 l)) = ((Z s.val l : ℝ) : EReal)

/-- Block 0: the logarithms of the sigmoid. -/
theorem z_0 (k : Fin 256) (l : Fin 128) : kernelRun0_A.sl.v74 c arg5 harg5 arg6 harg6 x3 x4 (ix2 k l) = lsg (x3 (ix3 0 ⟨256 * 0 + k.val, by omega⟩ l) + x4 (ix2 0 l)) := by
  pointwise [Memref.IsWhole.read_unread, View.readAt_eq_ld, kernelRun0_A.sl.v74, kernelRun0_A.sl.v73, kernelRun0_A.sl.v72, kernelRun0_A.sl.v71, kernelRun0_A.sl.v69, kernelRun0_A.sl.v66, kernelRun0_A.sl.v65, kernelRun0_A.sl.v64, kernelRun0_A.sl.v62, kernelRun0_A.sl.v67, kernelRun0_A.sl.cst, kernelRun0_A.sl.v68]
  unfold lsg
  blk_point []
/-- Block 0: the sums inside the block. -/
theorem loc_0 (hz : HZ x3 x4 Z) (k : Fin 256) (l : Fin 128) : kernelRun0_A.sl.v86 c arg5 harg5 arg6 harg6 x3 x4 (ix2 k l) = ((∑ j ∈ Finset.range (k.val + 1), Z (256 * 0 + j) l : ℝ) : EReal) := by
  generalize hG : ((∑ j ∈ Finset.range (k.val + 1), Z (256 * 0 + j) l : ℝ) : EReal) = G
  pointwise [kernelRun0_A.sl.v86, kernelRun0_A.sl.v85, kernelRun0_A.sl.cst_30, kernelRun0_A.sl.v84, kernelRun0_A.sl.v83, kernelRun0_A.sl.v82, kernelRun0_A.sl.v79, kernelRun0_A.sl.v78, kernelRun0_A.sl.v77, kernelRun0_A.sl.v75, kernelRun0_A.sl.v59, kernelRun0_A.sl.v58, kernelRun0_A.sl.v57, kernelRun0_A.sl.v55, kernelRun0_A.sl.v54, kernelRun0_A.sl.v81, kernelRun0_A.sl.v80, kernelRun0_A.sl.v76]
  rw [← hG]
  exact tri_three k (fun x => kernelRun0_A.sl.v74 c arg5 harg5 arg6 harg6 x3 x4 (ix2 x l)) (fun j => Z (256 * 0 + j) l) (fun x => (z_0 c arg5 harg5 arg6 harg6 x3 x4 x l).trans (hz _ l))
/-- Block 0: the block's total. -/
theorem tot_0 (hz : HZ x3 x4 Z) (l : Fin 128) : kernelRun0_A.sl.v86 c arg5 harg5 arg6 harg6 x3 x4 (ix2 255 l) = ((∑ j ∈ Finset.range 256, Z (256 * 0 + j) l : ℝ) : EReal) :=
  loc_0 c arg5 harg5 arg6 harg6 x3 x4 Z hz 255 l
/-- Block 0: the running sums. -/
theorem cum_0 (hz : HZ x3 x4 Z) (k : Fin 256) (l : Fin 128) : kernelRun0_A.sl.v271 c arg5 harg5 arg6 harg6 x3 x4 (ix2 k l) = ((Cum Z (256 * 0 + k.val) l : ℝ) : EReal) := by
  generalize hG : ((Cum Z (256 * 0 + k.val) l : ℝ) : EReal) = G
  pointwise [kernelRun0_A.sl.v271, kernelRun0_A.sl.v270, kernelRun0_A.sl.v269, kernelRun0_A.sl.cst]
  rw [← hG]
  rw [loc_0 c arg5 harg5 arg6 harg6 x3 x4 Z hz]

  refine congrArg _ ?_
  have e0 : ∑ x ∈ Finset.range (256 * 0), Z x l = 0 := rfl
  have e : Cum Z (256 * 0 + k.val) l = (∑ x ∈ Finset.range (256 * 0), Z x l) + ∑ x ∈ Finset.range (k.val + 1), Z (256 * 0 + x) l := Finset.sum_range_add (fun x => Z x l) (256 * 0) (k.val + 1)
  rw [e]
  linarith
/-- Block 0: the four pieces. -/
theorem pc_0 (hz : HZ x3 x4 Z) (k : Fin 256) (x : Fin 512) : kernelRun0_A.sl.v310 c arg5 harg5 arg6 harg6 x3 x4 (ix2 k x) = ((pieces (Cum Z (256 * 0 + k.val)) x : ℝ) : EReal) := by
  generalize hG : ((pieces (Cum Z (256 * 0 + k.val)) x : ℝ) : EReal) = G
  pointwise [kernelRun0_A.sl.v310, kernelRun0_A.sl.v309, kernelRun0_A.sl.v308, kernelRun0_A.sl.cst_97, kernelRun0_A.sl.v307, kernelRun0_A.sl.v306, kernelRun0_A.sl.v305, kernelRun0_A.sl.v304, kernelRun0_A.sl.v303, kernelRun0_A.sl.v302, kernelRun0_A.sl.v301, kernelRun0_A.sl.v300]
  rw [← hG]
  exact pieces_eq (Cum Z (256 * 0 + k.val)) (fun l => kernelRun0_A.sl.v271 c arg5 harg5 arg6 harg6 x3 x4 (ix2 k l)) (fun l => cum_0 c arg5 harg5 arg6 harg6 x3 x4 Z hz k l) x
/-- Block 0: the queries' lanes. -/
theorem qa_0 (hz : HZ x3 x4 Z) (hs : SelQ x5) (k : Fin 256) (l : Fin 256) : kernelRun0_A.sl.v454 c arg5 harg5 arg6 harg6 arg7 harg7 x3 x4 x5 (ix2 k l) = ((qaugR (Cum Z (256 * 0 + k.val)) l : ℝ) : EReal) := by
  generalize hG : ((qaugR (Cum Z (256 * 0 + k.val)) l : ℝ) : EReal) = G
  pointwise [Memref.IsWhole.read_unread, View.readAt_eq_ld, kernelRun0_A.sl.v454, kernelRun0_A.sl.v423, kernelRun0_A.sl.v422, kernelRun0_A.sl.cst_107, kernelRun0_A.sl.v421]
  rw [← hG]
  exact sel_q x5 hs _ _ (fun x => pc_0 c arg5 harg5 arg6 harg6 x3 x4 Z hz k x) l
/-- Block 0: the keys' lanes. -/
theorem ka_0 (hz : HZ x3 x4 Z) (hs : SelK x6) (k : Fin 256) (l : Fin 256) : kernelRun0_A.sl.v391 c arg5 harg5 arg6 harg6 arg8 harg8 x3 x4 x6 (ix2 k l) = ((kaugR (Cum Z (256 * 0 + k.val)) l : ℝ) : EReal) := by
  generalize hG : ((kaugR (Cum Z (256 * 0 + k.val)) l : ℝ) : EReal) = G
  pointwise [Memref.IsWhole.read_unread, View.readAt_eq_ld, kernelRun0_A.sl.v391, kernelRun0_A.sl.v390, kernelRun0_A.sl.cst_107, kernelRun0_A.sl.v389]
  rw [← hG]
  exact sel_k x6 hs _ _ (fun x => pc_0 c arg5 harg5 arg6 harg6 x3 x4 Z hz k x) l
/-- Block 1: the logarithms of the sigmoid. -/
theorem z_1 (k : Fin 256) (l : Fin 128) : kernelRun0_A.sl.v100 c arg5 harg5 arg6 harg6 x3 x4 (ix2 k l) = lsg (x3 (ix3 0 ⟨256 * 1 + k.val, by omega⟩ l) + x4 (ix2 0 l)) := by
  pointwise [Memref.IsWhole.read_unread, View.readAt_eq_ld, kernelRun0_A.sl.v100, kernelRun0_A.sl.v99, kernelRun0_A.sl.v98, kernelRun0_A.sl.v97, kernelRun0_A.sl.v95, kernelRun0_A.sl.v92, kernelRun0_A.sl.v65, kernelRun0_A.sl.v64, kernelRun0_A.sl.v88, kernelRun0_A.sl.v67, kernelRun0_A.sl.cst, kernelRun0_A.sl.v94]
  unfold lsg
  blk_point []
/-- Block 1: the sums inside the block. -/
theorem loc_1 (hz : HZ x3 x4 Z) (k : Fin 256) (l : Fin 128) : kernelRun0_A.sl.v112 c arg5 harg5 arg6 harg6 x3 x4 (ix2 k l) = ((∑ j ∈ Finset.range (k.val + 1), Z (256 * 1 + j) l : ℝ) : EReal) := by
  generalize hG : ((∑ j ∈ Finset.range (k.val + 1), Z (256 * 1 + j) l : ℝ) : EReal) = G
  pointwise [kernelRun0_A.sl.v112, kernelRun0_A.sl.v111, kernelRun0_A.sl.cst_30, kernelRun0_A.sl.v110, kernelRun0_A.sl.v109, kernelRun0_A.sl.v108, kernelRun0_A.sl.v105, kernelRun0_A.sl.v104, kernelRun0_A.sl.v103, kernelRun0_A.sl.v101, kernelRun0_A.sl.v59, kernelRun0_A.sl.v58, kernelRun0_A.sl.v57, kernelRun0_A.sl.v55, kernelRun0_A.sl.v54, kernelRun0_A.sl.v107, kernelRun0_A.sl.v106, kernelRun0_A.sl.v102]
  rw [← hG]
  exact tri_three k (fun x => kernelRun0_A.sl.v100 c arg5 harg5 arg6 harg6 x3 x4 (ix2 x l)) (fun j => Z (256 * 1 + j) l) (fun x => (z_1 c arg5 harg5 arg6 harg6 x3 x4 x l).trans (hz _ l))
/-- Block 1: the block's total. -/
theorem tot_1 (hz : HZ x3 x4 Z) (l : Fin 128) : kernelRun0_A.sl.v112 c arg5 harg5 arg6 harg6 x3 x4 (ix2 255 l) = ((∑ j ∈ Finset.range 256, Z (256 * 1 + j) l : ℝ) : EReal) :=
  loc_1 c arg5 harg5 arg6 harg6 x3 x4 Z hz 255 l
/-- Block 1: the running sums. -/
theorem cum_1 (hz : HZ x3 x4 Z) (k : Fin 256) (l : Fin 128) : kernelRun0_A.sl.v275 c arg5 harg5 arg6 harg6 x3 x4 (ix2 k l) = ((Cum Z (256 * 1 + k.val) l : ℝ) : EReal) := by
  generalize hG : ((Cum Z (256 * 1 + k.val) l : ℝ) : EReal) = G
  pointwise [kernelRun0_A.sl.v275, kernelRun0_A.sl.v274, kernelRun0_A.sl.v273, kernelRun0_A.sl.v272, kernelRun0_A.sl.v269, kernelRun0_A.sl.cst]
  rw [← hG]
  rw [loc_1 c arg5 harg5 arg6 harg6 x3 x4 Z hz, tot_0 c arg5 harg5 arg6 harg6 x3 x4 Z hz]
  simp only [← EReal.coe_add]
  refine congrArg _ ?_
  have h0 : ∑ x ∈ Finset.range (256 * 1), Z x l = (∑ x ∈ Finset.range (256 * 0), Z x l) + ∑ x ∈ Finset.range 256, Z (256 * 0 + x) l := Finset.sum_range_add (fun x => Z x l) (256 * 0) 256
  have e0 : ∑ x ∈ Finset.range (256 * 0), Z x l = 0 := rfl
  have e : Cum Z (256 * 1 + k.val) l = (∑ x ∈ Finset.range (256 * 1), Z x l) + ∑ x ∈ Finset.range (k.val + 1), Z (256 * 1 + x) l := Finset.sum_range_add (fun x => Z x l) (256 * 1) (k.val + 1)
  rw [e]
  linarith
/-- Block 1: the four pieces. -/
theorem pc_1 (hz : HZ x3 x4 Z) (k : Fin 256) (x : Fin 512) : kernelRun0_A.sl.v321 c arg5 harg5 arg6 harg6 x3 x4 (ix2 k x) = ((pieces (Cum Z (256 * 1 + k.val)) x : ℝ) : EReal) := by
  generalize hG : ((pieces (Cum Z (256 * 1 + k.val)) x : ℝ) : EReal) = G
  pointwise [kernelRun0_A.sl.v321, kernelRun0_A.sl.v320, kernelRun0_A.sl.v308, kernelRun0_A.sl.cst_97, kernelRun0_A.sl.v318, kernelRun0_A.sl.v317, kernelRun0_A.sl.v316, kernelRun0_A.sl.v315, kernelRun0_A.sl.v314, kernelRun0_A.sl.v313, kernelRun0_A.sl.v312, kernelRun0_A.sl.v311]
  rw [← hG]
  exact pieces_eq (Cum Z (256 * 1 + k.val)) (fun l => kernelRun0_A.sl.v275 c arg5 harg5 arg6 harg6 x3 x4 (ix2 k l)) (fun l => cum_1 c arg5 harg5 arg6 harg6 x3 x4 Z hz k l) x
/-- Block 1: the queries' lanes. -/
theorem qa_1 (hz : HZ x3 x4 Z) (hs : SelQ x5) (k : Fin 256) (l : Fin 256) : kernelRun0_A.sl.v525 c arg5 harg5 arg6 harg6 arg7 harg7 x3 x4 x5 (ix2 k l) = ((qaugR (Cum Z (256 * 1 + k.val)) l : ℝ) : EReal) := by
  generalize hG : ((qaugR (Cum Z (256 * 1 + k.val)) l : ℝ) : EReal) = G
  pointwise [Memref.IsWhole.read_unread, View.readAt_eq_ld, kernelRun0_A.sl.v525, kernelRun0_A.sl.v427, kernelRun0_A.sl.v426, kernelRun0_A.sl.cst_107, kernelRun0_A.sl.v421]
  rw [← hG]
  exact sel_q x5 hs _ _ (fun x => pc_1 c arg5 harg5 arg6 harg6 x3 x4 Z hz k x) l
/-- Block 1: the keys' lanes. -/
theorem ka_1 (hz : HZ x3 x4 Z) (hs : SelK x6) (k : Fin 256) (l : Fin 256) : kernelRun0_A.sl.v395 c arg5 harg5 arg6 harg6 arg8 harg8 x3 x4 x6 (ix2 k l) = ((kaugR (Cum Z (256 * 1 + k.val)) l : ℝ) : EReal) := by
  generalize hG : ((kaugR (Cum Z (256 * 1 + k.val)) l : ℝ) : EReal) = G
  pointwise [Memref.IsWhole.read_unread, View.readAt_eq_ld, kernelRun0_A.sl.v395, kernelRun0_A.sl.v394, kernelRun0_A.sl.cst_107, kernelRun0_A.sl.v389]
  rw [← hG]
  exact sel_k x6 hs _ _ (fun x => pc_1 c arg5 harg5 arg6 harg6 x3 x4 Z hz k x) l
/-- Block 2: the logarithms of the sigmoid. -/
theorem z_2 (k : Fin 256) (l : Fin 128) : kernelRun0_A.sl.v126 c arg5 harg5 arg6 harg6 x3 x4 (ix2 k l) = lsg (x3 (ix3 0 ⟨256 * 2 + k.val, by omega⟩ l) + x4 (ix2 0 l)) := by
  pointwise [Memref.IsWhole.read_unread, View.readAt_eq_ld, kernelRun0_A.sl.v126, kernelRun0_A.sl.v125, kernelRun0_A.sl.v124, kernelRun0_A.sl.v123, kernelRun0_A.sl.v121, kernelRun0_A.sl.v118, kernelRun0_A.sl.v65, kernelRun0_A.sl.v64, kernelRun0_A.sl.v114, kernelRun0_A.sl.v67, kernelRun0_A.sl.cst, kernelRun0_A.sl.v120]
  unfold lsg
  blk_point []
/-- Block 2: the sums inside the block. -/
theorem loc_2 (hz : HZ x3 x4 Z) (k : Fin 256) (l : Fin 128) : kernelRun0_A.sl.v138 c arg5 harg5 arg6 harg6 x3 x4 (ix2 k l) = ((∑ j ∈ Finset.range (k.val + 1), Z (256 * 2 + j) l : ℝ) : EReal) := by
  generalize hG : ((∑ j ∈ Finset.range (k.val + 1), Z (256 * 2 + j) l : ℝ) : EReal) = G
  pointwise [kernelRun0_A.sl.v138, kernelRun0_A.sl.v137, kernelRun0_A.sl.cst_30, kernelRun0_A.sl.v136, kernelRun0_A.sl.v135, kernelRun0_A.sl.v134, kernelRun0_A.sl.v131, kernelRun0_A.sl.v130, kernelRun0_A.sl.v129, kernelRun0_A.sl.v127, kernelRun0_A.sl.v59, kernelRun0_A.sl.v58, kernelRun0_A.sl.v57, kernelRun0_A.sl.v55, kernelRun0_A.sl.v54, kernelRun0_A.sl.v133, kernelRun0_A.sl.v132, kernelRun0_A.sl.v128]
  rw [← hG]
  exact tri_three k (fun x => kernelRun0_A.sl.v126 c arg5 harg5 arg6 harg6 x3 x4 (ix2 x l)) (fun j => Z (256 * 2 + j) l) (fun x => (z_2 c arg5 harg5 arg6 harg6 x3 x4 x l).trans (hz _ l))
/-- Block 2: the block's total. -/
theorem tot_2 (hz : HZ x3 x4 Z) (l : Fin 128) : kernelRun0_A.sl.v138 c arg5 harg5 arg6 harg6 x3 x4 (ix2 255 l) = ((∑ j ∈ Finset.range 256, Z (256 * 2 + j) l : ℝ) : EReal) :=
  loc_2 c arg5 harg5 arg6 harg6 x3 x4 Z hz 255 l
/-- Block 2: the running sums. -/
theorem cum_2 (hz : HZ x3 x4 Z) (k : Fin 256) (l : Fin 128) : kernelRun0_A.sl.v279 c arg5 harg5 arg6 harg6 x3 x4 (ix2 k l) = ((Cum Z (256 * 2 + k.val) l : ℝ) : EReal) := by
  generalize hG : ((Cum Z (256 * 2 + k.val) l : ℝ) : EReal) = G
  pointwise [kernelRun0_A.sl.v279, kernelRun0_A.sl.v278, kernelRun0_A.sl.v277, kernelRun0_A.sl.v276, kernelRun0_A.sl.v273, kernelRun0_A.sl.v272, kernelRun0_A.sl.v269, kernelRun0_A.sl.cst]
  rw [← hG]
  rw [loc_2 c arg5 harg5 arg6 harg6 x3 x4 Z hz, tot_0 c arg5 harg5 arg6 harg6 x3 x4 Z hz, tot_1 c arg5 harg5 arg6 harg6 x3 x4 Z hz]
  simp only [← EReal.coe_add]
  refine congrArg _ ?_
  have h0 : ∑ x ∈ Finset.range (256 * 1), Z x l = (∑ x ∈ Finset.range (256 * 0), Z x l) + ∑ x ∈ Finset.range 256, Z (256 * 0 + x) l := Finset.sum_range_add (fun x => Z x l) (256 * 0) 256
  have h1 : ∑ x ∈ Finset.range (256 * 2), Z x l = (∑ x ∈ Finset.range (256 * 1), Z x l) + ∑ x ∈ Finset.range 256, Z (256 * 1 + x) l := Finset.sum_range_add (fun x => Z x l) (256 * 1) 256
  have e0 : ∑ x ∈ Finset.range (256 * 0), Z x l = 0 := rfl
  have e : Cum Z (256 * 2 + k.val) l = (∑ x ∈ Finset.range (256 * 2), Z x l) + ∑ x ∈ Finset.range (k.val + 1), Z (256 * 2 + x) l := Finset.sum_range_add (fun x => Z x l) (256 * 2) (k.val + 1)
  rw [e]
  linarith
/-- Block 2: the four pieces. -/
theorem pc_2 (hz : HZ x3 x4 Z) (k : Fin 256) (x : Fin 512) : kernelRun0_A.sl.v332 c arg5 harg5 arg6 harg6 x3 x4 (ix2 k x) = ((pieces (Cum Z (256 * 2 + k.val)) x : ℝ) : EReal) := by
  generalize hG : ((pieces (Cum Z (256 * 2 + k.val)) x : ℝ) : EReal) = G
  pointwise [kernelRun0_A.sl.v332, kernelRun0_A.sl.v331, kernelRun0_A.sl.v308, kernelRun0_A.sl.cst_97, kernelRun0_A.sl.v329, kernelRun0_A.sl.v328, kernelRun0_A.sl.v327, kernelRun0_A.sl.v326, kernelRun0_A.sl.v325, kernelRun0_A.sl.v324, kernelRun0_A.sl.v323, kernelRun0_A.sl.v322]
  rw [← hG]
  exact pieces_eq (Cum Z (256 * 2 + k.val)) (fun l => kernelRun0_A.sl.v279 c arg5 harg5 arg6 harg6 x3 x4 (ix2 k l)) (fun l => cum_2 c arg5 harg5 arg6 harg6 x3 x4 Z hz k l) x
/-- Block 2: the queries' lanes. -/
theorem qa_2 (hz : HZ x3 x4 Z) (hs : SelQ x5) (k : Fin 256) (l : Fin 256) : kernelRun0_A.sl.v596 c arg5 harg5 arg6 harg6 arg7 harg7 x3 x4 x5 (ix2 k l) = ((qaugR (Cum Z (256 * 2 + k.val)) l : ℝ) : EReal) := by
  generalize hG : ((qaugR (Cum Z (256 * 2 + k.val)) l : ℝ) : EReal) = G
  pointwise [Memref.IsWhole.read_unread, View.readAt_eq_ld, kernelRun0_A.sl.v596, kernelRun0_A.sl.v431, kernelRun0_A.sl.v430, kernelRun0_A.sl.cst_107, kernelRun0_A.sl.v421]
  rw [← hG]
  exact sel_q x5 hs _ _ (fun x => pc_2 c arg5 harg5 arg6 harg6 x3 x4 Z hz k x) l
/-- Block 2: the keys' lanes. -/
theorem ka_2 (hz : HZ x3 x4 Z) (hs : SelK x6) (k : Fin 256) (l : Fin 256) : kernelRun0_A.sl.v399 c arg5 harg5 arg6 harg6 arg8 harg8 x3 x4 x6 (ix2 k l) = ((kaugR (Cum Z (256 * 2 + k.val)) l : ℝ) : EReal) := by
  generalize hG : ((kaugR (Cum Z (256 * 2 + k.val)) l : ℝ) : EReal) = G
  pointwise [Memref.IsWhole.read_unread, View.readAt_eq_ld, kernelRun0_A.sl.v399, kernelRun0_A.sl.v398, kernelRun0_A.sl.cst_107, kernelRun0_A.sl.v389]
  rw [← hG]
  exact sel_k x6 hs _ _ (fun x => pc_2 c arg5 harg5 arg6 harg6 x3 x4 Z hz k x) l
/-- Block 3: the logarithms of the sigmoid. -/
theorem z_3 (k : Fin 256) (l : Fin 128) : kernelRun0_A.sl.v152 c arg5 harg5 arg6 harg6 x3 x4 (ix2 k l) = lsg (x3 (ix3 0 ⟨256 * 3 + k.val, by omega⟩ l) + x4 (ix2 0 l)) := by
  pointwise [Memref.IsWhole.read_unread, View.readAt_eq_ld, kernelRun0_A.sl.v152, kernelRun0_A.sl.v151, kernelRun0_A.sl.v150, kernelRun0_A.sl.v149, kernelRun0_A.sl.v147, kernelRun0_A.sl.v144, kernelRun0_A.sl.v65, kernelRun0_A.sl.v64, kernelRun0_A.sl.v140, kernelRun0_A.sl.v67, kernelRun0_A.sl.cst, kernelRun0_A.sl.v146]
  unfold lsg
  blk_point []
/-- Block 3: the sums inside the block. -/
theorem loc_3 (hz : HZ x3 x4 Z) (k : Fin 256) (l : Fin 128) : kernelRun0_A.sl.v164 c arg5 harg5 arg6 harg6 x3 x4 (ix2 k l) = ((∑ j ∈ Finset.range (k.val + 1), Z (256 * 3 + j) l : ℝ) : EReal) := by
  generalize hG : ((∑ j ∈ Finset.range (k.val + 1), Z (256 * 3 + j) l : ℝ) : EReal) = G
  pointwise [kernelRun0_A.sl.v164, kernelRun0_A.sl.v163, kernelRun0_A.sl.cst_30, kernelRun0_A.sl.v162, kernelRun0_A.sl.v161, kernelRun0_A.sl.v160, kernelRun0_A.sl.v157, kernelRun0_A.sl.v156, kernelRun0_A.sl.v155, kernelRun0_A.sl.v153, kernelRun0_A.sl.v59, kernelRun0_A.sl.v58, kernelRun0_A.sl.v57, kernelRun0_A.sl.v55, kernelRun0_A.sl.v54, kernelRun0_A.sl.v159, kernelRun0_A.sl.v158, kernelRun0_A.sl.v154]
  rw [← hG]
  exact tri_three k (fun x => kernelRun0_A.sl.v152 c arg5 harg5 arg6 harg6 x3 x4 (ix2 x l)) (fun j => Z (256 * 3 + j) l) (fun x => (z_3 c arg5 harg5 arg6 harg6 x3 x4 x l).trans (hz _ l))
/-- Block 3: the block's total. -/
theorem tot_3 (hz : HZ x3 x4 Z) (l : Fin 128) : kernelRun0_A.sl.v164 c arg5 harg5 arg6 harg6 x3 x4 (ix2 255 l) = ((∑ j ∈ Finset.range 256, Z (256 * 3 + j) l : ℝ) : EReal) :=
  loc_3 c arg5 harg5 arg6 harg6 x3 x4 Z hz 255 l
/-- Block 3: the running sums. -/
theorem cum_3 (hz : HZ x3 x4 Z) (k : Fin 256) (l : Fin 128) : kernelRun0_A.sl.v283 c arg5 harg5 arg6 harg6 x3 x4 (ix2 k l) = ((Cum Z (256 * 3 + k.val) l : ℝ) : EReal) := by
  generalize hG : ((Cum Z (256 * 3 + k.val) l : ℝ) : EReal) = G
  pointwise [kernelRun0_A.sl.v283, kernelRun0_A.sl.v282, kernelRun0_A.sl.v281, kernelRun0_A.sl.v280, kernelRun0_A.sl.v277, kernelRun0_A.sl.v276, kernelRun0_A.sl.v273, kernelRun0_A.sl.v272, kernelRun0_A.sl.v269, kernelRun0_A.sl.cst]
  rw [← hG]
  rw [loc_3 c arg5 harg5 arg6 harg6 x3 x4 Z hz, tot_0 c arg5 harg5 arg6 harg6 x3 x4 Z hz, tot_1 c arg5 harg5 arg6 harg6 x3 x4 Z hz, tot_2 c arg5 harg5 arg6 harg6 x3 x4 Z hz]
  simp only [← EReal.coe_add]
  refine congrArg _ ?_
  have h0 : ∑ x ∈ Finset.range (256 * 1), Z x l = (∑ x ∈ Finset.range (256 * 0), Z x l) + ∑ x ∈ Finset.range 256, Z (256 * 0 + x) l := Finset.sum_range_add (fun x => Z x l) (256 * 0) 256
  have h1 : ∑ x ∈ Finset.range (256 * 2), Z x l = (∑ x ∈ Finset.range (256 * 1), Z x l) + ∑ x ∈ Finset.range 256, Z (256 * 1 + x) l := Finset.sum_range_add (fun x => Z x l) (256 * 1) 256
  have h2 : ∑ x ∈ Finset.range (256 * 3), Z x l = (∑ x ∈ Finset.range (256 * 2), Z x l) + ∑ x ∈ Finset.range 256, Z (256 * 2 + x) l := Finset.sum_range_add (fun x => Z x l) (256 * 2) 256
  have e0 : ∑ x ∈ Finset.range (256 * 0), Z x l = 0 := rfl
  have e : Cum Z (256 * 3 + k.val) l = (∑ x ∈ Finset.range (256 * 3), Z x l) + ∑ x ∈ Finset.range (k.val + 1), Z (256 * 3 + x) l := Finset.sum_range_add (fun x => Z x l) (256 * 3) (k.val + 1)
  rw [e]
  linarith
/-- Block 3: the four pieces. -/
theorem pc_3 (hz : HZ x3 x4 Z) (k : Fin 256) (x : Fin 512) : kernelRun0_A.sl.v343 c arg5 harg5 arg6 harg6 x3 x4 (ix2 k x) = ((pieces (Cum Z (256 * 3 + k.val)) x : ℝ) : EReal) := by
  generalize hG : ((pieces (Cum Z (256 * 3 + k.val)) x : ℝ) : EReal) = G
  pointwise [kernelRun0_A.sl.v343, kernelRun0_A.sl.v342, kernelRun0_A.sl.v308, kernelRun0_A.sl.cst_97, kernelRun0_A.sl.v340, kernelRun0_A.sl.v339, kernelRun0_A.sl.v338, kernelRun0_A.sl.v337, kernelRun0_A.sl.v336, kernelRun0_A.sl.v335, kernelRun0_A.sl.v334, kernelRun0_A.sl.v333]
  rw [← hG]
  exact pieces_eq (Cum Z (256 * 3 + k.val)) (fun l => kernelRun0_A.sl.v283 c arg5 harg5 arg6 harg6 x3 x4 (ix2 k l)) (fun l => cum_3 c arg5 harg5 arg6 harg6 x3 x4 Z hz k l) x
/-- Block 3: the queries' lanes. -/
theorem qa_3 (hz : HZ x3 x4 Z) (hs : SelQ x5) (k : Fin 256) (l : Fin 256) : kernelRun0_A.sl.v667 c arg5 harg5 arg6 harg6 arg7 harg7 x3 x4 x5 (ix2 k l) = ((qaugR (Cum Z (256 * 3 + k.val)) l : ℝ) : EReal) := by
  generalize hG : ((qaugR (Cum Z (256 * 3 + k.val)) l : ℝ) : EReal) = G
  pointwise [Memref.IsWhole.read_unread, View.readAt_eq_ld, kernelRun0_A.sl.v667, kernelRun0_A.sl.v435, kernelRun0_A.sl.v434, kernelRun0_A.sl.cst_107, kernelRun0_A.sl.v421]
  rw [← hG]
  exact sel_q x5 hs _ _ (fun x => pc_3 c arg5 harg5 arg6 harg6 x3 x4 Z hz k x) l
/-- Block 3: the keys' lanes. -/
theorem ka_3 (hz : HZ x3 x4 Z) (hs : SelK x6) (k : Fin 256) (l : Fin 256) : kernelRun0_A.sl.v403 c arg5 harg5 arg6 harg6 arg8 harg8 x3 x4 x6 (ix2 k l) = ((kaugR (Cum Z (256 * 3 + k.val)) l : ℝ) : EReal) := by
  generalize hG : ((kaugR (Cum Z (256 * 3 + k.val)) l : ℝ) : EReal) = G
  pointwise [Memref.IsWhole.read_unread, View.readAt_eq_ld, kernelRun0_A.sl.v403, kernelRun0_A.sl.v402, kernelRun0_A.sl.cst_107, kernelRun0_A.sl.v389]
  rw [← hG]
  exact sel_k x6 hs _ _ (fun x => pc_3 c arg5 harg5 arg6 harg6 x3 x4 Z hz k x) l
/-- Block 4: the logarithms of the sigmoid. -/
theorem z_4 (k : Fin 256) (l : Fin 128) : kernelRun0_A.sl.v178 c arg5 harg5 arg6 harg6 x3 x4 (ix2 k l) = lsg (x3 (ix3 0 ⟨256 * 4 + k.val, by omega⟩ l) + x4 (ix2 0 l)) := by
  pointwise [Memref.IsWhole.read_unread, View.readAt_eq_ld, kernelRun0_A.sl.v178, kernelRun0_A.sl.v177, kernelRun0_A.sl.v176, kernelRun0_A.sl.v175, kernelRun0_A.sl.v173, kernelRun0_A.sl.v170, kernelRun0_A.sl.v65, kernelRun0_A.sl.v64, kernelRun0_A.sl.v166, kernelRun0_A.sl.v67, kernelRun0_A.sl.cst, kernelRun0_A.sl.v172]
  unfold lsg
  blk_point []
/-- Block 4: the sums inside the block. -/
theorem loc_4 (hz : HZ x3 x4 Z) (k : Fin 256) (l : Fin 128) : kernelRun0_A.sl.v190 c arg5 harg5 arg6 harg6 x3 x4 (ix2 k l) = ((∑ j ∈ Finset.range (k.val + 1), Z (256 * 4 + j) l : ℝ) : EReal) := by
  generalize hG : ((∑ j ∈ Finset.range (k.val + 1), Z (256 * 4 + j) l : ℝ) : EReal) = G
  pointwise [kernelRun0_A.sl.v190, kernelRun0_A.sl.v189, kernelRun0_A.sl.cst_30, kernelRun0_A.sl.v188, kernelRun0_A.sl.v187, kernelRun0_A.sl.v186, kernelRun0_A.sl.v183, kernelRun0_A.sl.v182, kernelRun0_A.sl.v181, kernelRun0_A.sl.v179, kernelRun0_A.sl.v59, kernelRun0_A.sl.v58, kernelRun0_A.sl.v57, kernelRun0_A.sl.v55, kernelRun0_A.sl.v54, kernelRun0_A.sl.v185, kernelRun0_A.sl.v184, kernelRun0_A.sl.v180]
  rw [← hG]
  exact tri_three k (fun x => kernelRun0_A.sl.v178 c arg5 harg5 arg6 harg6 x3 x4 (ix2 x l)) (fun j => Z (256 * 4 + j) l) (fun x => (z_4 c arg5 harg5 arg6 harg6 x3 x4 x l).trans (hz _ l))
/-- Block 4: the block's total. -/
theorem tot_4 (hz : HZ x3 x4 Z) (l : Fin 128) : kernelRun0_A.sl.v190 c arg5 harg5 arg6 harg6 x3 x4 (ix2 255 l) = ((∑ j ∈ Finset.range 256, Z (256 * 4 + j) l : ℝ) : EReal) :=
  loc_4 c arg5 harg5 arg6 harg6 x3 x4 Z hz 255 l
/-- Block 4: the running sums. -/
theorem cum_4 (hz : HZ x3 x4 Z) (k : Fin 256) (l : Fin 128) : kernelRun0_A.sl.v287 c arg5 harg5 arg6 harg6 x3 x4 (ix2 k l) = ((Cum Z (256 * 4 + k.val) l : ℝ) : EReal) := by
  generalize hG : ((Cum Z (256 * 4 + k.val) l : ℝ) : EReal) = G
  pointwise [kernelRun0_A.sl.v287, kernelRun0_A.sl.v286, kernelRun0_A.sl.v285, kernelRun0_A.sl.v284, kernelRun0_A.sl.v281, kernelRun0_A.sl.v280, kernelRun0_A.sl.v277, kernelRun0_A.sl.v276, kernelRun0_A.sl.v273, kernelRun0_A.sl.v272, kernelRun0_A.sl.v269, kernelRun0_A.sl.cst]
  rw [← hG]
  rw [loc_4 c arg5 harg5 arg6 harg6 x3 x4 Z hz, tot_0 c arg5 harg5 arg6 harg6 x3 x4 Z hz, tot_1 c arg5 harg5 arg6 harg6 x3 x4 Z hz, tot_2 c arg5 harg5 arg6 harg6 x3 x4 Z hz, tot_3 c arg5 harg5 arg6 harg6 x3 x4 Z hz]
  simp only [← EReal.coe_add]
  refine congrArg _ ?_
  have h0 : ∑ x ∈ Finset.range (256 * 1), Z x l = (∑ x ∈ Finset.range (256 * 0), Z x l) + ∑ x ∈ Finset.range 256, Z (256 * 0 + x) l := Finset.sum_range_add (fun x => Z x l) (256 * 0) 256
  have h1 : ∑ x ∈ Finset.range (256 * 2), Z x l = (∑ x ∈ Finset.range (256 * 1), Z x l) + ∑ x ∈ Finset.range 256, Z (256 * 1 + x) l := Finset.sum_range_add (fun x => Z x l) (256 * 1) 256
  have h2 : ∑ x ∈ Finset.range (256 * 3), Z x l = (∑ x ∈ Finset.range (256 * 2), Z x l) + ∑ x ∈ Finset.range 256, Z (256 * 2 + x) l := Finset.sum_range_add (fun x => Z x l) (256 * 2) 256
  have h3 : ∑ x ∈ Finset.range (256 * 4), Z x l = (∑ x ∈ Finset.range (256 * 3), Z x l) + ∑ x ∈ Finset.range 256, Z (256 * 3 + x) l := Finset.sum_range_add (fun x => Z x l) (256 * 3) 256
  have e0 : ∑ x ∈ Finset.range (256 * 0), Z x l = 0 := rfl
  have e : Cum Z (256 * 4 + k.val) l = (∑ x ∈ Finset.range (256 * 4), Z x l) + ∑ x ∈ Finset.range (k.val + 1), Z (256 * 4 + x) l := Finset.sum_range_add (fun x => Z x l) (256 * 4) (k.val + 1)
  rw [e]
  linarith
/-- Block 4: the four pieces. -/
theorem pc_4 (hz : HZ x3 x4 Z) (k : Fin 256) (x : Fin 512) : kernelRun0_A.sl.v354 c arg5 harg5 arg6 harg6 x3 x4 (ix2 k x) = ((pieces (Cum Z (256 * 4 + k.val)) x : ℝ) : EReal) := by
  generalize hG : ((pieces (Cum Z (256 * 4 + k.val)) x : ℝ) : EReal) = G
  pointwise [kernelRun0_A.sl.v354, kernelRun0_A.sl.v353, kernelRun0_A.sl.v308, kernelRun0_A.sl.cst_97, kernelRun0_A.sl.v351, kernelRun0_A.sl.v350, kernelRun0_A.sl.v349, kernelRun0_A.sl.v348, kernelRun0_A.sl.v347, kernelRun0_A.sl.v346, kernelRun0_A.sl.v345, kernelRun0_A.sl.v344]
  rw [← hG]
  exact pieces_eq (Cum Z (256 * 4 + k.val)) (fun l => kernelRun0_A.sl.v287 c arg5 harg5 arg6 harg6 x3 x4 (ix2 k l)) (fun l => cum_4 c arg5 harg5 arg6 harg6 x3 x4 Z hz k l) x
/-- Block 4: the queries' lanes. -/
theorem qa_4 (hz : HZ x3 x4 Z) (hs : SelQ x5) (k : Fin 256) (l : Fin 256) : kernelRun0_A.sl.v738 c arg5 harg5 arg6 harg6 arg7 harg7 x3 x4 x5 (ix2 k l) = ((qaugR (Cum Z (256 * 4 + k.val)) l : ℝ) : EReal) := by
  generalize hG : ((qaugR (Cum Z (256 * 4 + k.val)) l : ℝ) : EReal) = G
  pointwise [Memref.IsWhole.read_unread, View.readAt_eq_ld, kernelRun0_A.sl.v738, kernelRun0_A.sl.v439, kernelRun0_A.sl.v438, kernelRun0_A.sl.cst_107, kernelRun0_A.sl.v421]
  rw [← hG]
  exact sel_q x5 hs _ _ (fun x => pc_4 c arg5 harg5 arg6 harg6 x3 x4 Z hz k x) l
/-- Block 4: the keys' lanes. -/
theorem ka_4 (hz : HZ x3 x4 Z) (hs : SelK x6) (k : Fin 256) (l : Fin 256) : kernelRun0_A.sl.v407 c arg5 harg5 arg6 harg6 arg8 harg8 x3 x4 x6 (ix2 k l) = ((kaugR (Cum Z (256 * 4 + k.val)) l : ℝ) : EReal) := by
  generalize hG : ((kaugR (Cum Z (256 * 4 + k.val)) l : ℝ) : EReal) = G
  pointwise [Memref.IsWhole.read_unread, View.readAt_eq_ld, kernelRun0_A.sl.v407, kernelRun0_A.sl.v406, kernelRun0_A.sl.cst_107, kernelRun0_A.sl.v389]
  rw [← hG]
  exact sel_k x6 hs _ _ (fun x => pc_4 c arg5 harg5 arg6 harg6 x3 x4 Z hz k x) l
/-- Block 5: the logarithms of the sigmoid. -/
theorem z_5 (k : Fin 256) (l : Fin 128) : kernelRun0_A.sl.v204 c arg5 harg5 arg6 harg6 x3 x4 (ix2 k l) = lsg (x3 (ix3 0 ⟨256 * 5 + k.val, by omega⟩ l) + x4 (ix2 0 l)) := by
  pointwise [Memref.IsWhole.read_unread, View.readAt_eq_ld, kernelRun0_A.sl.v204, kernelRun0_A.sl.v203, kernelRun0_A.sl.v202, kernelRun0_A.sl.v201, kernelRun0_A.sl.v199, kernelRun0_A.sl.v196, kernelRun0_A.sl.v65, kernelRun0_A.sl.v64, kernelRun0_A.sl.v192, kernelRun0_A.sl.v67, kernelRun0_A.sl.cst, kernelRun0_A.sl.v198]
  unfold lsg
  blk_point []
/-- Block 5: the sums inside the block. -/
theorem loc_5 (hz : HZ x3 x4 Z) (k : Fin 256) (l : Fin 128) : kernelRun0_A.sl.v216 c arg5 harg5 arg6 harg6 x3 x4 (ix2 k l) = ((∑ j ∈ Finset.range (k.val + 1), Z (256 * 5 + j) l : ℝ) : EReal) := by
  generalize hG : ((∑ j ∈ Finset.range (k.val + 1), Z (256 * 5 + j) l : ℝ) : EReal) = G
  pointwise [kernelRun0_A.sl.v216, kernelRun0_A.sl.v215, kernelRun0_A.sl.cst_30, kernelRun0_A.sl.v214, kernelRun0_A.sl.v213, kernelRun0_A.sl.v212, kernelRun0_A.sl.v209, kernelRun0_A.sl.v208, kernelRun0_A.sl.v207, kernelRun0_A.sl.v205, kernelRun0_A.sl.v59, kernelRun0_A.sl.v58, kernelRun0_A.sl.v57, kernelRun0_A.sl.v55, kernelRun0_A.sl.v54, kernelRun0_A.sl.v211, kernelRun0_A.sl.v210, kernelRun0_A.sl.v206]
  rw [← hG]
  exact tri_three k (fun x => kernelRun0_A.sl.v204 c arg5 harg5 arg6 harg6 x3 x4 (ix2 x l)) (fun j => Z (256 * 5 + j) l) (fun x => (z_5 c arg5 harg5 arg6 harg6 x3 x4 x l).trans (hz _ l))
/-- Block 5: the block's total. -/
theorem tot_5 (hz : HZ x3 x4 Z) (l : Fin 128) : kernelRun0_A.sl.v216 c arg5 harg5 arg6 harg6 x3 x4 (ix2 255 l) = ((∑ j ∈ Finset.range 256, Z (256 * 5 + j) l : ℝ) : EReal) :=
  loc_5 c arg5 harg5 arg6 harg6 x3 x4 Z hz 255 l
/-- Block 5: the running sums. -/
theorem cum_5 (hz : HZ x3 x4 Z) (k : Fin 256) (l : Fin 128) : kernelRun0_A.sl.v291 c arg5 harg5 arg6 harg6 x3 x4 (ix2 k l) = ((Cum Z (256 * 5 + k.val) l : ℝ) : EReal) := by
  generalize hG : ((Cum Z (256 * 5 + k.val) l : ℝ) : EReal) = G
  pointwise [kernelRun0_A.sl.v291, kernelRun0_A.sl.v290, kernelRun0_A.sl.v289, kernelRun0_A.sl.v288, kernelRun0_A.sl.v285, kernelRun0_A.sl.v284, kernelRun0_A.sl.v281, kernelRun0_A.sl.v280, kernelRun0_A.sl.v277, kernelRun0_A.sl.v276, kernelRun0_A.sl.v273, kernelRun0_A.sl.v272, kernelRun0_A.sl.v269, kernelRun0_A.sl.cst]
  rw [← hG]
  rw [loc_5 c arg5 harg5 arg6 harg6 x3 x4 Z hz, tot_0 c arg5 harg5 arg6 harg6 x3 x4 Z hz, tot_1 c arg5 harg5 arg6 harg6 x3 x4 Z hz, tot_2 c arg5 harg5 arg6 harg6 x3 x4 Z hz, tot_3 c arg5 harg5 arg6 harg6 x3 x4 Z hz, tot_4 c arg5 harg5 arg6 harg6 x3 x4 Z hz]
  simp only [← EReal.coe_add]
  refine congrArg _ ?_
  have h0 : ∑ x ∈ Finset.range (256 * 1), Z x l = (∑ x ∈ Finset.range (256 * 0), Z x l) + ∑ x ∈ Finset.range 256, Z (256 * 0 + x) l := Finset.sum_range_add (fun x => Z x l) (256 * 0) 256
  have h1 : ∑ x ∈ Finset.range (256 * 2), Z x l = (∑ x ∈ Finset.range (256 * 1), Z x l) + ∑ x ∈ Finset.range 256, Z (256 * 1 + x) l := Finset.sum_range_add (fun x => Z x l) (256 * 1) 256
  have h2 : ∑ x ∈ Finset.range (256 * 3), Z x l = (∑ x ∈ Finset.range (256 * 2), Z x l) + ∑ x ∈ Finset.range 256, Z (256 * 2 + x) l := Finset.sum_range_add (fun x => Z x l) (256 * 2) 256
  have h3 : ∑ x ∈ Finset.range (256 * 4), Z x l = (∑ x ∈ Finset.range (256 * 3), Z x l) + ∑ x ∈ Finset.range 256, Z (256 * 3 + x) l := Finset.sum_range_add (fun x => Z x l) (256 * 3) 256
  have h4 : ∑ x ∈ Finset.range (256 * 5), Z x l = (∑ x ∈ Finset.range (256 * 4), Z x l) + ∑ x ∈ Finset.range 256, Z (256 * 4 + x) l := Finset.sum_range_add (fun x => Z x l) (256 * 4) 256
  have e0 : ∑ x ∈ Finset.range (256 * 0), Z x l = 0 := rfl
  have e : Cum Z (256 * 5 + k.val) l = (∑ x ∈ Finset.range (256 * 5), Z x l) + ∑ x ∈ Finset.range (k.val + 1), Z (256 * 5 + x) l := Finset.sum_range_add (fun x => Z x l) (256 * 5) (k.val + 1)
  rw [e]
  linarith
/-- Block 5: the four pieces. -/
theorem pc_5 (hz : HZ x3 x4 Z) (k : Fin 256) (x : Fin 512) : kernelRun0_A.sl.v365 c arg5 harg5 arg6 harg6 x3 x4 (ix2 k x) = ((pieces (Cum Z (256 * 5 + k.val)) x : ℝ) : EReal) := by
  generalize hG : ((pieces (Cum Z (256 * 5 + k.val)) x : ℝ) : EReal) = G
  pointwise [kernelRun0_A.sl.v365, kernelRun0_A.sl.v364, kernelRun0_A.sl.v308, kernelRun0_A.sl.cst_97, kernelRun0_A.sl.v362, kernelRun0_A.sl.v361, kernelRun0_A.sl.v360, kernelRun0_A.sl.v359, kernelRun0_A.sl.v358, kernelRun0_A.sl.v357, kernelRun0_A.sl.v356, kernelRun0_A.sl.v355]
  rw [← hG]
  exact pieces_eq (Cum Z (256 * 5 + k.val)) (fun l => kernelRun0_A.sl.v291 c arg5 harg5 arg6 harg6 x3 x4 (ix2 k l)) (fun l => cum_5 c arg5 harg5 arg6 harg6 x3 x4 Z hz k l) x
/-- Block 5: the queries' lanes. -/
theorem qa_5 (hz : HZ x3 x4 Z) (hs : SelQ x5) (k : Fin 256) (l : Fin 256) : kernelRun0_A.sl.v809 c arg5 harg5 arg6 harg6 arg7 harg7 x3 x4 x5 (ix2 k l) = ((qaugR (Cum Z (256 * 5 + k.val)) l : ℝ) : EReal) := by
  generalize hG : ((qaugR (Cum Z (256 * 5 + k.val)) l : ℝ) : EReal) = G
  pointwise [Memref.IsWhole.read_unread, View.readAt_eq_ld, kernelRun0_A.sl.v809, kernelRun0_A.sl.v443, kernelRun0_A.sl.v442, kernelRun0_A.sl.cst_107, kernelRun0_A.sl.v421]
  rw [← hG]
  exact sel_q x5 hs _ _ (fun x => pc_5 c arg5 harg5 arg6 harg6 x3 x4 Z hz k x) l
/-- Block 5: the keys' lanes. -/
theorem ka_5 (hz : HZ x3 x4 Z) (hs : SelK x6) (k : Fin 256) (l : Fin 256) : kernelRun0_A.sl.v411 c arg5 harg5 arg6 harg6 arg8 harg8 x3 x4 x6 (ix2 k l) = ((kaugR (Cum Z (256 * 5 + k.val)) l : ℝ) : EReal) := by
  generalize hG : ((kaugR (Cum Z (256 * 5 + k.val)) l : ℝ) : EReal) = G
  pointwise [Memref.IsWhole.read_unread, View.readAt_eq_ld, kernelRun0_A.sl.v411, kernelRun0_A.sl.v410, kernelRun0_A.sl.cst_107, kernelRun0_A.sl.v389]
  rw [← hG]
  exact sel_k x6 hs _ _ (fun x => pc_5 c arg5 harg5 arg6 harg6 x3 x4 Z hz k x) l
/-- Block 6: the logarithms of the sigmoid. -/
theorem z_6 (k : Fin 256) (l : Fin 128) : kernelRun0_A.sl.v230 c arg5 harg5 arg6 harg6 x3 x4 (ix2 k l) = lsg (x3 (ix3 0 ⟨256 * 6 + k.val, by omega⟩ l) + x4 (ix2 0 l)) := by
  pointwise [Memref.IsWhole.read_unread, View.readAt_eq_ld, kernelRun0_A.sl.v230, kernelRun0_A.sl.v229, kernelRun0_A.sl.v228, kernelRun0_A.sl.v227, kernelRun0_A.sl.v225, kernelRun0_A.sl.v222, kernelRun0_A.sl.v65, kernelRun0_A.sl.v64, kernelRun0_A.sl.v218, kernelRun0_A.sl.v67, kernelRun0_A.sl.cst, kernelRun0_A.sl.v224]
  unfold lsg
  blk_point []
/-- Block 6: the sums inside the block. -/
theorem loc_6 (hz : HZ x3 x4 Z) (k : Fin 256) (l : Fin 128) : kernelRun0_A.sl.v242 c arg5 harg5 arg6 harg6 x3 x4 (ix2 k l) = ((∑ j ∈ Finset.range (k.val + 1), Z (256 * 6 + j) l : ℝ) : EReal) := by
  generalize hG : ((∑ j ∈ Finset.range (k.val + 1), Z (256 * 6 + j) l : ℝ) : EReal) = G
  pointwise [kernelRun0_A.sl.v242, kernelRun0_A.sl.v241, kernelRun0_A.sl.cst_30, kernelRun0_A.sl.v240, kernelRun0_A.sl.v239, kernelRun0_A.sl.v238, kernelRun0_A.sl.v235, kernelRun0_A.sl.v234, kernelRun0_A.sl.v233, kernelRun0_A.sl.v231, kernelRun0_A.sl.v59, kernelRun0_A.sl.v58, kernelRun0_A.sl.v57, kernelRun0_A.sl.v55, kernelRun0_A.sl.v54, kernelRun0_A.sl.v237, kernelRun0_A.sl.v236, kernelRun0_A.sl.v232]
  rw [← hG]
  exact tri_three k (fun x => kernelRun0_A.sl.v230 c arg5 harg5 arg6 harg6 x3 x4 (ix2 x l)) (fun j => Z (256 * 6 + j) l) (fun x => (z_6 c arg5 harg5 arg6 harg6 x3 x4 x l).trans (hz _ l))
/-- Block 6: the block's total. -/
theorem tot_6 (hz : HZ x3 x4 Z) (l : Fin 128) : kernelRun0_A.sl.v242 c arg5 harg5 arg6 harg6 x3 x4 (ix2 255 l) = ((∑ j ∈ Finset.range 256, Z (256 * 6 + j) l : ℝ) : EReal) :=
  loc_6 c arg5 harg5 arg6 harg6 x3 x4 Z hz 255 l
/-- Block 6: the running sums. -/
theorem cum_6 (hz : HZ x3 x4 Z) (k : Fin 256) (l : Fin 128) : kernelRun0_A.sl.v295 c arg5 harg5 arg6 harg6 x3 x4 (ix2 k l) = ((Cum Z (256 * 6 + k.val) l : ℝ) : EReal) := by
  generalize hG : ((Cum Z (256 * 6 + k.val) l : ℝ) : EReal) = G
  pointwise [kernelRun0_A.sl.v295, kernelRun0_A.sl.v294, kernelRun0_A.sl.v293, kernelRun0_A.sl.v292, kernelRun0_A.sl.v289, kernelRun0_A.sl.v288, kernelRun0_A.sl.v285, kernelRun0_A.sl.v284, kernelRun0_A.sl.v281, kernelRun0_A.sl.v280, kernelRun0_A.sl.v277, kernelRun0_A.sl.v276, kernelRun0_A.sl.v273, kernelRun0_A.sl.v272, kernelRun0_A.sl.v269, kernelRun0_A.sl.cst]
  rw [← hG]
  rw [loc_6 c arg5 harg5 arg6 harg6 x3 x4 Z hz, tot_0 c arg5 harg5 arg6 harg6 x3 x4 Z hz, tot_1 c arg5 harg5 arg6 harg6 x3 x4 Z hz, tot_2 c arg5 harg5 arg6 harg6 x3 x4 Z hz, tot_3 c arg5 harg5 arg6 harg6 x3 x4 Z hz, tot_4 c arg5 harg5 arg6 harg6 x3 x4 Z hz, tot_5 c arg5 harg5 arg6 harg6 x3 x4 Z hz]
  simp only [← EReal.coe_add]
  refine congrArg _ ?_
  have h0 : ∑ x ∈ Finset.range (256 * 1), Z x l = (∑ x ∈ Finset.range (256 * 0), Z x l) + ∑ x ∈ Finset.range 256, Z (256 * 0 + x) l := Finset.sum_range_add (fun x => Z x l) (256 * 0) 256
  have h1 : ∑ x ∈ Finset.range (256 * 2), Z x l = (∑ x ∈ Finset.range (256 * 1), Z x l) + ∑ x ∈ Finset.range 256, Z (256 * 1 + x) l := Finset.sum_range_add (fun x => Z x l) (256 * 1) 256
  have h2 : ∑ x ∈ Finset.range (256 * 3), Z x l = (∑ x ∈ Finset.range (256 * 2), Z x l) + ∑ x ∈ Finset.range 256, Z (256 * 2 + x) l := Finset.sum_range_add (fun x => Z x l) (256 * 2) 256
  have h3 : ∑ x ∈ Finset.range (256 * 4), Z x l = (∑ x ∈ Finset.range (256 * 3), Z x l) + ∑ x ∈ Finset.range 256, Z (256 * 3 + x) l := Finset.sum_range_add (fun x => Z x l) (256 * 3) 256
  have h4 : ∑ x ∈ Finset.range (256 * 5), Z x l = (∑ x ∈ Finset.range (256 * 4), Z x l) + ∑ x ∈ Finset.range 256, Z (256 * 4 + x) l := Finset.sum_range_add (fun x => Z x l) (256 * 4) 256
  have h5 : ∑ x ∈ Finset.range (256 * 6), Z x l = (∑ x ∈ Finset.range (256 * 5), Z x l) + ∑ x ∈ Finset.range 256, Z (256 * 5 + x) l := Finset.sum_range_add (fun x => Z x l) (256 * 5) 256
  have e0 : ∑ x ∈ Finset.range (256 * 0), Z x l = 0 := rfl
  have e : Cum Z (256 * 6 + k.val) l = (∑ x ∈ Finset.range (256 * 6), Z x l) + ∑ x ∈ Finset.range (k.val + 1), Z (256 * 6 + x) l := Finset.sum_range_add (fun x => Z x l) (256 * 6) (k.val + 1)
  rw [e]
  linarith
/-- Block 6: the four pieces. -/
theorem pc_6 (hz : HZ x3 x4 Z) (k : Fin 256) (x : Fin 512) : kernelRun0_A.sl.v376 c arg5 harg5 arg6 harg6 x3 x4 (ix2 k x) = ((pieces (Cum Z (256 * 6 + k.val)) x : ℝ) : EReal) := by
  generalize hG : ((pieces (Cum Z (256 * 6 + k.val)) x : ℝ) : EReal) = G
  pointwise [kernelRun0_A.sl.v376, kernelRun0_A.sl.v375, kernelRun0_A.sl.v308, kernelRun0_A.sl.cst_97, kernelRun0_A.sl.v373, kernelRun0_A.sl.v372, kernelRun0_A.sl.v371, kernelRun0_A.sl.v370, kernelRun0_A.sl.v369, kernelRun0_A.sl.v368, kernelRun0_A.sl.v367, kernelRun0_A.sl.v366]
  rw [← hG]
  exact pieces_eq (Cum Z (256 * 6 + k.val)) (fun l => kernelRun0_A.sl.v295 c arg5 harg5 arg6 harg6 x3 x4 (ix2 k l)) (fun l => cum_6 c arg5 harg5 arg6 harg6 x3 x4 Z hz k l) x
/-- Block 6: the queries' lanes. -/
theorem qa_6 (hz : HZ x3 x4 Z) (hs : SelQ x5) (k : Fin 256) (l : Fin 256) : kernelRun0_A.sl.v880 c arg5 harg5 arg6 harg6 arg7 harg7 x3 x4 x5 (ix2 k l) = ((qaugR (Cum Z (256 * 6 + k.val)) l : ℝ) : EReal) := by
  generalize hG : ((qaugR (Cum Z (256 * 6 + k.val)) l : ℝ) : EReal) = G
  pointwise [Memref.IsWhole.read_unread, View.readAt_eq_ld, kernelRun0_A.sl.v880, kernelRun0_A.sl.v447, kernelRun0_A.sl.v446, kernelRun0_A.sl.cst_107, kernelRun0_A.sl.v421]
  rw [← hG]
  exact sel_q x5 hs _ _ (fun x => pc_6 c arg5 harg5 arg6 harg6 x3 x4 Z hz k x) l
/-- Block 6: the keys' lanes. -/
theorem ka_6 (hz : HZ x3 x4 Z) (hs : SelK x6) (k : Fin 256) (l : Fin 256) : kernelRun0_A.sl.v415 c arg5 harg5 arg6 harg6 arg8 harg8 x3 x4 x6 (ix2 k l) = ((kaugR (Cum Z (256 * 6 + k.val)) l : ℝ) : EReal) := by
  generalize hG : ((kaugR (Cum Z (256 * 6 + k.val)) l : ℝ) : EReal) = G
  pointwise [Memref.IsWhole.read_unread, View.readAt_eq_ld, kernelRun0_A.sl.v415, kernelRun0_A.sl.v414, kernelRun0_A.sl.cst_107, kernelRun0_A.sl.v389]
  rw [← hG]
  exact sel_k x6 hs _ _ (fun x => pc_6 c arg5 harg5 arg6 harg6 x3 x4 Z hz k x) l
/-- Block 7: the logarithms of the sigmoid. -/
theorem z_7 (k : Fin 256) (l : Fin 128) : kernelRun0_A.sl.v256 c arg5 harg5 arg6 harg6 x3 x4 (ix2 k l) = lsg (x3 (ix3 0 ⟨256 * 7 + k.val, by omega⟩ l) + x4 (ix2 0 l)) := by
  pointwise [Memref.IsWhole.read_unread, View.readAt_eq_ld, kernelRun0_A.sl.v256, kernelRun0_A.sl.v255, kernelRun0_A.sl.v254, kernelRun0_A.sl.v253, kernelRun0_A.sl.v251, kernelRun0_A.sl.v248, kernelRun0_A.sl.v65, kernelRun0_A.sl.v64, kernelRun0_A.sl.v244, kernelRun0_A.sl.v67, kernelRun0_A.sl.cst, kernelRun0_A.sl.v250]
  unfold lsg
  blk_point []
/-- Block 7: the sums inside the block. -/
theorem loc_7 (hz : HZ x3 x4 Z) (k : Fin 256) (l : Fin 128) : kernelRun0_A.sl.v268 c arg5 harg5 arg6 harg6 x3 x4 (ix2 k l) = ((∑ j ∈ Finset.range (k.val + 1), Z (256 * 7 + j) l : ℝ) : EReal) := by
  generalize hG : ((∑ j ∈ Finset.range (k.val + 1), Z (256 * 7 + j) l : ℝ) : EReal) = G
  pointwise [kernelRun0_A.sl.v268, kernelRun0_A.sl.v267, kernelRun0_A.sl.cst_30, kernelRun0_A.sl.v266, kernelRun0_A.sl.v265, kernelRun0_A.sl.v264, kernelRun0_A.sl.v261, kernelRun0_A.sl.v260, kernelRun0_A.sl.v259, kernelRun0_A.sl.v257, kernelRun0_A.sl.v59, kernelRun0_A.sl.v58, kernelRun0_A.sl.v57, kernelRun0_A.sl.v55, kernelRun0_A.sl.v54, kernelRun0_A.sl.v263, kernelRun0_A.sl.v262, kernelRun0_A.sl.v258]
  rw [← hG]
  exact tri_three k (fun x => kernelRun0_A.sl.v256 c arg5 harg5 arg6 harg6 x3 x4 (ix2 x l)) (fun j => Z (256 * 7 + j) l) (fun x => (z_7 c arg5 harg5 arg6 harg6 x3 x4 x l).trans (hz _ l))
/-- Block 7: the block's total. -/
theorem tot_7 (hz : HZ x3 x4 Z) (l : Fin 128) : kernelRun0_A.sl.v268 c arg5 harg5 arg6 harg6 x3 x4 (ix2 255 l) = ((∑ j ∈ Finset.range 256, Z (256 * 7 + j) l : ℝ) : EReal) :=
  loc_7 c arg5 harg5 arg6 harg6 x3 x4 Z hz 255 l
/-- Block 7: the running sums. -/
theorem cum_7 (hz : HZ x3 x4 Z) (k : Fin 256) (l : Fin 128) : kernelRun0_A.sl.v299 c arg5 harg5 arg6 harg6 x3 x4 (ix2 k l) = ((Cum Z (256 * 7 + k.val) l : ℝ) : EReal) := by
  generalize hG : ((Cum Z (256 * 7 + k.val) l : ℝ) : EReal) = G
  pointwise [kernelRun0_A.sl.v299, kernelRun0_A.sl.v298, kernelRun0_A.sl.v297, kernelRun0_A.sl.v296, kernelRun0_A.sl.v293, kernelRun0_A.sl.v292, kernelRun0_A.sl.v289, kernelRun0_A.sl.v288, kernelRun0_A.sl.v285, kernelRun0_A.sl.v284, kernelRun0_A.sl.v281, kernelRun0_A.sl.v280, kernelRun0_A.sl.v277, kernelRun0_A.sl.v276, kernelRun0_A.sl.v273, kernelRun0_A.sl.v272, kernelRun0_A.sl.v269, kernelRun0_A.sl.cst]
  rw [← hG]
  rw [loc_7 c arg5 harg5 arg6 harg6 x3 x4 Z hz, tot_0 c arg5 harg5 arg6 harg6 x3 x4 Z hz, tot_1 c arg5 harg5 arg6 harg6 x3 x4 Z hz, tot_2 c arg5 harg5 arg6 harg6 x3 x4 Z hz, tot_3 c arg5 harg5 arg6 harg6 x3 x4 Z hz, tot_4 c arg5 harg5 arg6 harg6 x3 x4 Z hz, tot_5 c arg5 harg5 arg6 harg6 x3 x4 Z hz, tot_6 c arg5 harg5 arg6 harg6 x3 x4 Z hz]
  simp only [← EReal.coe_add]
  refine congrArg _ ?_
  have h0 : ∑ x ∈ Finset.range (256 * 1), Z x l = (∑ x ∈ Finset.range (256 * 0), Z x l) + ∑ x ∈ Finset.range 256, Z (256 * 0 + x) l := Finset.sum_range_add (fun x => Z x l) (256 * 0) 256
  have h1 : ∑ x ∈ Finset.range (256 * 2), Z x l = (∑ x ∈ Finset.range (256 * 1), Z x l) + ∑ x ∈ Finset.range 256, Z (256 * 1 + x) l := Finset.sum_range_add (fun x => Z x l) (256 * 1) 256
  have h2 : ∑ x ∈ Finset.range (256 * 3), Z x l = (∑ x ∈ Finset.range (256 * 2), Z x l) + ∑ x ∈ Finset.range 256, Z (256 * 2 + x) l := Finset.sum_range_add (fun x => Z x l) (256 * 2) 256
  have h3 : ∑ x ∈ Finset.range (256 * 4), Z x l = (∑ x ∈ Finset.range (256 * 3), Z x l) + ∑ x ∈ Finset.range 256, Z (256 * 3 + x) l := Finset.sum_range_add (fun x => Z x l) (256 * 3) 256
  have h4 : ∑ x ∈ Finset.range (256 * 5), Z x l = (∑ x ∈ Finset.range (256 * 4), Z x l) + ∑ x ∈ Finset.range 256, Z (256 * 4 + x) l := Finset.sum_range_add (fun x => Z x l) (256 * 4) 256
  have h5 : ∑ x ∈ Finset.range (256 * 6), Z x l = (∑ x ∈ Finset.range (256 * 5), Z x l) + ∑ x ∈ Finset.range 256, Z (256 * 5 + x) l := Finset.sum_range_add (fun x => Z x l) (256 * 5) 256
  have h6 : ∑ x ∈ Finset.range (256 * 7), Z x l = (∑ x ∈ Finset.range (256 * 6), Z x l) + ∑ x ∈ Finset.range 256, Z (256 * 6 + x) l := Finset.sum_range_add (fun x => Z x l) (256 * 6) 256
  have e0 : ∑ x ∈ Finset.range (256 * 0), Z x l = 0 := rfl
  have e : Cum Z (256 * 7 + k.val) l = (∑ x ∈ Finset.range (256 * 7), Z x l) + ∑ x ∈ Finset.range (k.val + 1), Z (256 * 7 + x) l := Finset.sum_range_add (fun x => Z x l) (256 * 7) (k.val + 1)
  rw [e]
  linarith
/-- Block 7: the four pieces. -/
theorem pc_7 (hz : HZ x3 x4 Z) (k : Fin 256) (x : Fin 512) : kernelRun0_A.sl.v387 c arg5 harg5 arg6 harg6 x3 x4 (ix2 k x) = ((pieces (Cum Z (256 * 7 + k.val)) x : ℝ) : EReal) := by
  generalize hG : ((pieces (Cum Z (256 * 7 + k.val)) x : ℝ) : EReal) = G
  pointwise [kernelRun0_A.sl.v387, kernelRun0_A.sl.v386, kernelRun0_A.sl.v308, kernelRun0_A.sl.cst_97, kernelRun0_A.sl.v384, kernelRun0_A.sl.v383, kernelRun0_A.sl.v382, kernelRun0_A.sl.v381, kernelRun0_A.sl.v380, kernelRun0_A.sl.v379, kernelRun0_A.sl.v378, kernelRun0_A.sl.v377]
  rw [← hG]
  exact pieces_eq (Cum Z (256 * 7 + k.val)) (fun l => kernelRun0_A.sl.v299 c arg5 harg5 arg6 harg6 x3 x4 (ix2 k l)) (fun l => cum_7 c arg5 harg5 arg6 harg6 x3 x4 Z hz k l) x
/-- Block 7: the queries' lanes. -/
theorem qa_7 (hz : HZ x3 x4 Z) (hs : SelQ x5) (k : Fin 256) (l : Fin 256) : kernelRun0_A.sl.v951 c arg5 harg5 arg6 harg6 arg7 harg7 x3 x4 x5 (ix2 k l) = ((qaugR (Cum Z (256 * 7 + k.val)) l : ℝ) : EReal) := by
  generalize hG : ((qaugR (Cum Z (256 * 7 + k.val)) l : ℝ) : EReal) = G
  pointwise [Memref.IsWhole.read_unread, View.readAt_eq_ld, kernelRun0_A.sl.v951, kernelRun0_A.sl.v451, kernelRun0_A.sl.v450, kernelRun0_A.sl.cst_107, kernelRun0_A.sl.v421]
  rw [← hG]
  exact sel_q x5 hs _ _ (fun x => pc_7 c arg5 harg5 arg6 harg6 x3 x4 Z hz k x) l
/-- Block 7: the keys' lanes. -/
theorem ka_7 (hz : HZ x3 x4 Z) (hs : SelK x6) (k : Fin 256) (l : Fin 256) : kernelRun0_A.sl.v419 c arg5 harg5 arg6 harg6 arg8 harg8 x3 x4 x6 (ix2 k l) = ((kaugR (Cum Z (256 * 7 + k.val)) l : ℝ) : EReal) := by
  generalize hG : ((kaugR (Cum Z (256 * 7 + k.val)) l : ℝ) : EReal) = G
  pointwise [Memref.IsWhole.read_unread, View.readAt_eq_ld, kernelRun0_A.sl.v419, kernelRun0_A.sl.v418, kernelRun0_A.sl.cst_107, kernelRun0_A.sl.v389]
  rw [← hG]
  exact sel_k x6 hs _ _ (fun x => pc_7 c arg5 harg5 arg6 harg6 x3 x4 Z hz k x) l
end
end Cert.FoxIdeal.RefValue
end
-- ==== Proof.FoxArr.lean ====
module
public import proofs.«01_k».proof.Proof.FoxPrep
public import Idealize.ShloMosaic.Lib.Pipeline.ReadBack
@[expose] public section
set_option maxRecDepth 16384

noncomputable section
namespace Cert.FoxIdeal.RefValue
open Cert.FoxIdeal Cert.FoxIdeal.Gen Idealize.ShloMosaic Idealize.ShloMosaic.TcCoe Idealize.SL.Sem

/-- A head's own lanes, low head of the register. -/
theorem own0 : ∀ l : Fin 128, IntOp.andi (IntOp.cmpi CmpIPredicate.sge (BitVec.ofNat 32 l.val) 0#32) (IntOp.cmpi CmpIPredicate.slt (BitVec.ofNat 32 l.val) 64#32) = if l.val / 64 = 0 then 1#1 else 0#1 := by decide +kernel
/-- A head's own lanes, high head of the register. -/
theorem own1 : ∀ l : Fin 128, IntOp.andi (IntOp.cmpi CmpIPredicate.sge (BitVec.ofNat 32 l.val) 64#32) (IntOp.cmpi CmpIPredicate.slt (BitVec.ofNat 32 l.val) 128#32) = if l.val / 64 = 1 then 1#1 else 0#1 := by decide +kernel
/-- A block's row is a row of the array. -/
theorem row_lt (i : ℕ) (hi : i < 8) (k : Fin 256) : 256 * i + k.val < 2048 := by omega
/-- A choice by a word that says a proposition. -/
theorem sel_if {α : Type} (P : Prop) [Decidable P] (w : BitVec 1) (h : w = if P then 1#1 else 0#1) (a b : α) : Scalar.select w a b = if P then a else b := by
  subst h; split_ifs <;> rfl

/-- A key's lanes for head `2 * half + b`: the projected key on the head's own lanes, the decay's lanes elsewhere. -/
def kaV (y1 : Vec Ideal S1x2048x256 .bf16) (Z : ℕ → Fin 128 → ℝ) (half b : ℕ) (hh : half < 2) (s : Fin 2048) (l : Fin 128) : EReal :=
  if l.val / 64 = b then y1 (ix3 0 s ⟨128 * half + l.val, by omega⟩) else ((kaugR (Cum Z s.val) ⟨128 * half + l.val, by omega⟩ : ℝ) : EReal)
/-- A value's lanes for head `2 * half + b`: the projected value on the head's own lanes, ones elsewhere. -/
def vaV (y2 : Vec Ideal S1x2048x256 .bf16) (half b : ℕ) (hh : half < 2) (s : Fin 2048) (l : Fin 128) : EReal :=
  if l.val / 64 = b then y2 (ix3 0 s ⟨128 * half + l.val, by omega⟩) else 1

section
variable (c : Dev nD) (arg3 : Memref sig .tc .vmem S1x2048x256 .bf16) (harg3 : arg3.IsWhole) (arg4 : Memref sig .tc .vmem S1x2048x256 .bf16) (harg4 : arg4.IsWhole) (arg5 : Memref sig .tc .vmem S1x2048x128 .f32) (harg5 : arg5.IsWhole) (arg6 : Memref sig .tc .vmem S1x128 .f32) (harg6 : arg6.IsWhole)
  (arg7 : Memref sig .tc .vmem S512x256 .bf16) (harg7 : arg7.IsWhole) (arg8 : Memref sig .tc .vmem S512x256 .bf16) (harg8 : arg8.IsWhole)
  (y1 y2 : Vec Ideal S1x2048x256 .bf16) (y3 : Vec Ideal S1x2048x128 .f32) (y4 : Vec Ideal S1x128 .f32) (y5 : Vec Ideal S512x256 .bf16) (y6 : Vec Ideal S512x256 .bf16)
  (Z : ℕ → Fin 128 → ℝ)

/-- Head 3's keys in block 7. -/
theorem kp_3_7 (hz : HZ y3 y4 Z) (hs : SelK y6) (k : Fin 256) (l : Fin 128) :
    (show FVec Ideal S1x256x128 .bf16 from k0_pay308 (kernelRun0_A.sl.v419 c arg5 harg5 arg6 harg6 arg8 harg8 y3 y4 y6) (kernelRun0_A.sl.v987 c arg3 harg3 y1) kernelRun0_A.sl.v478) (ix3 0 k l) = kaV y1 Z 1 1 (by decide) ⟨256 * 7 + k.val, by omega⟩ l := by
  generalize hG : kaV y1 Z 1 1 (by decide) ⟨256 * 7 + k.val, by omega⟩ l = G
  pointwise [Memref.IsWhole.read_unread, View.readAt_eq_ld, k0_pay308, kernelRun0_A.sl.v987, kernelRun0_A.sl.v478, kernelRun0_A.sl.v476, kernelRun0_A.sl.v461, kernelRun0_A.sl.v60]
  rw [← hG]
  refine (sel_if _ _ (own1 l) _ _).trans ?_
  unfold kaV
  split_ifs
  · blk_point []
  · exact Eq.trans (congrArg (fun j : Fin 256 => kernelRun0_A.sl.v419 c arg5 harg5 arg6 harg6 arg8 harg8 y3 y4 y6 (ix2 k j)) (Fin.ext (by show 128 + l.val = 128 * 1 + l.val; omega)))
      (ka_7 c arg5 harg5 arg6 harg6 arg8 harg8 y3 y4 y6 Z hz hs k ⟨128 * 1 + l.val, by omega⟩)
/-- Head 2's keys in block 7. -/
theorem kp_2_7 (hz : HZ y3 y4 Z) (hs : SelK y6) (k : Fin 256) (l : Fin 128) :
    (show FVec Ideal S1x256x128 .bf16 from kernelRun0_A.sl.v1004 c arg3 harg3 arg5 harg5 arg6 harg6 arg8 harg8 y1 y3 y4 y6) (ix3 0 k l) = kaV y1 Z 1 0 (by decide) ⟨256 * 7 + k.val, by omega⟩ l := by
  generalize hG : kaV y1 Z 1 0 (by decide) ⟨256 * 7 + k.val, by omega⟩ l = G
  pointwise [Memref.IsWhole.read_unread, View.readAt_eq_ld, kernelRun0_A.sl.v1004, kernelRun0_A.sl.v1001, kernelRun0_A.sl.v1000, kernelRun0_A.sl.v987, kernelRun0_A.sl.v463, kernelRun0_A.sl.v461, kernelRun0_A.sl.v459, kernelRun0_A.sl.v60]
  rw [← hG]
  refine (sel_if _ _ (own0 l) _ _).trans ?_
  unfold kaV
  split_ifs
  · blk_point []
  · exact Eq.trans (congrArg (fun j : Fin 256 => kernelRun0_A.sl.v419 c arg5 harg5 arg6 harg6 arg8 harg8 y3 y4 y6 (ix2 k j)) (Fin.ext (by show 128 + l.val = 128 * 1 + l.val; omega)))
      (ka_7 c arg5 harg5 arg6 harg6 arg8 harg8 y3 y4 y6 Z hz hs k ⟨128 * 1 + l.val, by omega⟩)
/-- Head 1's keys in block 7. -/
theorem kp_1_7 (hz : HZ y3 y4 Z) (hs : SelK y6) (k : Fin 256) (l : Fin 128) :
    (show FVec Ideal S1x256x128 .bf16 from kernelRun0_A.sl.v985 c arg3 harg3 arg5 harg5 arg6 harg6 arg8 harg8 y1 y3 y4 y6) (ix3 0 k l) = kaV y1 Z 0 1 (by decide) ⟨256 * 7 + k.val, by omega⟩ l := by
  generalize hG : kaV y1 Z 0 1 (by decide) ⟨256 * 7 + k.val, by omega⟩ l = G
  pointwise [Memref.IsWhole.read_unread, View.readAt_eq_ld, kernelRun0_A.sl.v985, kernelRun0_A.sl.v982, kernelRun0_A.sl.v966, kernelRun0_A.sl.v953, kernelRun0_A.sl.v478, kernelRun0_A.sl.v476, kernelRun0_A.sl.v461, kernelRun0_A.sl.v60]
  rw [← hG]
  refine (sel_if _ _ (own1 l) _ _).trans ?_
  unfold kaV
  split_ifs
  · blk_point []
  · exact Eq.trans (congrArg (fun j : Fin 256 => kernelRun0_A.sl.v419 c arg5 harg5 arg6 harg6 arg8 harg8 y3 y4 y6 (ix2 k j)) (Fin.ext (by show l.val = 128 * 0 + l.val; omega)))
      (ka_7 c arg5 harg5 arg6 harg6 arg8 harg8 y3 y4 y6 Z hz hs k ⟨128 * 0 + l.val, by omega⟩)
/-- Head 0's keys in block 7. -/
theorem kp_0_7 (hz : HZ y3 y4 Z) (hs : SelK y6) (k : Fin 256) (l : Fin 128) :
    (show FVec Ideal S1x256x128 .bf16 from kernelRun0_A.sl.v970 c arg3 harg3 arg5 harg5 arg6 harg6 arg8 harg8 y1 y3 y4 y6) (ix3 0 k l) = kaV y1 Z 0 0 (by decide) ⟨256 * 7 + k.val, by omega⟩ l := by
  generalize hG : kaV y1 Z 0 0 (by decide) ⟨256 * 7 + k.val, by omega⟩ l = G
  pointwise [Memref.IsWhole.read_unread, View.readAt_eq_ld, kernelRun0_A.sl.v970, kernelRun0_A.sl.v967, kernelRun0_A.sl.v966, kernelRun0_A.sl.v953, kernelRun0_A.sl.v463, kernelRun0_A.sl.v461, kernelRun0_A.sl.v459, kernelRun0_A.sl.v60]
  rw [← hG]
  refine (sel_if _ _ (own0 l) _ _).trans ?_
  unfold kaV
  split_ifs
  · blk_point []
  · exact Eq.trans (congrArg (fun j : Fin 256 => kernelRun0_A.sl.v419 c arg5 harg5 arg6 harg6 arg8 harg8 y3 y4 y6 (ix2 k j)) (Fin.ext (by show l.val = 128 * 0 + l.val; omega)))
      (ka_7 c arg5 harg5 arg6 harg6 arg8 harg8 y3 y4 y6 Z hz hs k ⟨128 * 0 + l.val, by omega⟩)
/-- Head 3's keys in block 6. -/
theorem kp_3_6 (hz : HZ y3 y4 Z) (hs : SelK y6) (k : Fin 256) (l : Fin 128) :
    (show FVec Ideal S1x256x128 .bf16 from kernelRun0_A.sl.v948 c arg3 harg3 arg5 harg5 arg6 harg6 arg8 harg8 y1 y3 y4 y6) (ix3 0 k l) = kaV y1 Z 1 1 (by decide) ⟨256 * 6 + k.val, by omega⟩ l := by
  generalize hG : kaV y1 Z 1 1 (by decide) ⟨256 * 6 + k.val, by omega⟩ l = G
  pointwise [Memref.IsWhole.read_unread, View.readAt_eq_ld, kernelRun0_A.sl.v948, kernelRun0_A.sl.v945, kernelRun0_A.sl.v929, kernelRun0_A.sl.v916, kernelRun0_A.sl.v478, kernelRun0_A.sl.v476, kernelRun0_A.sl.v461, kernelRun0_A.sl.v60]
  rw [← hG]
  refine (sel_if _ _ (own1 l) _ _).trans ?_
  unfold kaV
  split_ifs
  · blk_point []
  · exact Eq.trans (congrArg (fun j : Fin 256 => kernelRun0_A.sl.v415 c arg5 harg5 arg6 harg6 arg8 harg8 y3 y4 y6 (ix2 k j)) (Fin.ext (by show 128 + l.val = 128 * 1 + l.val; omega)))
      (ka_6 c arg5 harg5 arg6 harg6 arg8 harg8 y3 y4 y6 Z hz hs k ⟨128 * 1 + l.val, by omega⟩)
/-- Head 2's keys in block 6. -/
theorem kp_2_6 (hz : HZ y3 y4 Z) (hs : SelK y6) (k : Fin 256) (l : Fin 128) :
    (show FVec Ideal S1x256x128 .bf16 from kernelRun0_A.sl.v933 c arg3 harg3 arg5 harg5 arg6 harg6 arg8 harg8 y1 y3 y4 y6) (ix3 0 k l) = kaV y1 Z 1 0 (by decide) ⟨256 * 6 + k.val, by omega⟩ l := by
  generalize hG : kaV y1 Z 1 0 (by decide) ⟨256 * 6 + k.val, by omega⟩ l = G
  pointwise [Memref.IsWhole.read_unread, View.readAt_eq_ld, kernelRun0_A.sl.v933, kernelRun0_A.sl.v930, kernelRun0_A.sl.v929, kernelRun0_A.sl.v916, kernelRun0_A.sl.v463, kernelRun0_A.sl.v461, kernelRun0_A.sl.v459, kernelRun0_A.sl.v60]
  rw [← hG]
  refine (sel_if _ _ (own0 l) _ _).trans ?_
  unfold kaV
  split_ifs
  · blk_point []
  · exact Eq.trans (congrArg (fun j : Fin 256 => kernelRun0_A.sl.v415 c arg5 harg5 arg6 harg6 arg8 harg8 y3 y4 y6 (ix2 k j)) (Fin.ext (by show 128 + l.val = 128 * 1 + l.val; omega)))
      (ka_6 c arg5 harg5 arg6 harg6 arg8 harg8 y3 y4 y6 Z hz hs k ⟨128 * 1 + l.val, by omega⟩)
/-- Head 1's keys in block 6. -/
theorem kp_1_6 (hz : HZ y3 y4 Z) (hs : SelK y6) (k : Fin 256) (l : Fin 128) :
    (show FVec Ideal S1x256x128 .bf16 from kernelRun0_A.sl.v914 c arg3 harg3 arg5 harg5 arg6 harg6 arg8 harg8 y1 y3 y4 y6) (ix3 0 k l) = kaV y1 Z 0 1 (by decide) ⟨256 * 6 + k.val, by omega⟩ l := by
  generalize hG : kaV y1 Z 0 1 (by decide) ⟨256 * 6 + k.val, by omega⟩ l = G
  pointwise [Memref.IsWhole.read_unread, View.readAt_eq_ld, kernelRun0_A.sl.v914, kernelRun0_A.sl.v911, kernelRun0_A.sl.v895, kernelRun0_A.sl.v882, kernelRun0_A.sl.v478, kernelRun0_A.sl.v476, kernelRun0_A.sl.v461, kernelRun0_A.sl.v60]
  rw [← hG]
  refine (sel_if _ _ (own1 l) _ _).trans ?_
  unfold kaV
  split_ifs
  · blk_point []
  · exact Eq.trans (congrArg (fun j : Fin 256 => kernelRun0_A.sl.v415 c arg5 harg5 arg6 harg6 arg8 harg8 y3 y4 y6 (ix2 k j)) (Fin.ext (by show l.val = 128 * 0 + l.val; omega)))
      (ka_6 c arg5 harg5 arg6 harg6 arg8 harg8 y3 y4 y6 Z hz hs k ⟨128 * 0 + l.val, by omega⟩)
/-- Head 0's keys in block 6. -/
theorem kp_0_6 (hz : HZ y3 y4 Z) (hs : SelK y6) (k : Fin 256) (l : Fin 128) :
    (show FVec Ideal S1x256x128 .bf16 from kernelRun0_A.sl.v899 c arg3 harg3 arg5 harg5 arg6 harg6 arg8 harg8 y1 y3 y4 y6) (ix3 0 k l) = kaV y1 Z 0 0 (by decide) ⟨256 * 6 + k.val, by omega⟩ l := by
  generalize hG : kaV y1 Z 0 0 (by decide) ⟨256 * 6 + k.val, by omega⟩ l = G
  pointwise [Memref.IsWhole.read_unread, View.readAt_eq_ld, kernelRun0_A.sl.v899, kernelRun0_A.sl.v896, kernelRun0_A.sl.v895, kernelRun0_A.sl.v882, kernelRun0_A.sl.v463, kernelRun0_A.sl.v461, kernelRun0_A.sl.v459, kernelRun0_A.sl.v60]
  rw [← hG]
  refine (sel_if _ _ (own0 l) _ _).trans ?_
  unfold kaV
  split_ifs
  · blk_point []
  · exact Eq.trans (congrArg (fun j : Fin 256 => kernelRun0_A.sl.v415 c arg5 harg5 arg6 harg6 arg8 harg8 y3 y4 y6 (ix2 k j)) (Fin.ext (by show l.val = 128 * 0 + l.val; omega)))
      (ka_6 c arg5 harg5 arg6 harg6 arg8 harg8 y3 y4 y6 Z hz hs k ⟨128 * 0 + l.val, by omega⟩)
/-- Head 3's keys in block 5. -/
theorem kp_3_5 (hz : HZ y3 y4 Z) (hs : SelK y6) (k : Fin 256) (l : Fin 128) :
    (show FVec Ideal S1x256x128 .bf16 from kernelRun0_A.sl.v877 c arg3 harg3 arg5 harg5 arg6 harg6 arg8 harg8 y1 y3 y4 y6) (ix3 0 k l) = kaV y1 Z 1 1 (by decide) ⟨256 * 5 + k.val, by omega⟩ l := by
  generalize hG : kaV y1 Z 1 1 (by decide) ⟨256 * 5 + k.val, by omega⟩ l = G
  pointwise [Memref.IsWhole.read_unread, View.readAt_eq_ld, kernelRun0_A.sl.v877, kernelRun0_A.sl.v874, kernelRun0_A.sl.v858, kernelRun0_A.sl.v845, kernelRun0_A.sl.v478, kernelRun0_A.sl.v476, kernelRun0_A.sl.v461, kernelRun0_A.sl.v60]
  rw [← hG]
  refine (sel_if _ _ (own1 l) _ _).trans ?_
  unfold kaV
  split_ifs
  · blk_point []
  · exact Eq.trans (congrArg (fun j : Fin 256 => kernelRun0_A.sl.v411 c arg5 harg5 arg6 harg6 arg8 harg8 y3 y4 y6 (ix2 k j)) (Fin.ext (by show 128 + l.val = 128 * 1 + l.val; omega)))
      (ka_5 c arg5 harg5 arg6 harg6 arg8 harg8 y3 y4 y6 Z hz hs k ⟨128 * 1 + l.val, by omega⟩)
/-- Head 2's keys in block 5. -/
theorem kp_2_5 (hz : HZ y3 y4 Z) (hs : SelK y6) (k : Fin 256) (l : Fin 128) :
    (show FVec Ideal S1x256x128 .bf16 from kernelRun0_A.sl.v862 c arg3 harg3 arg5 harg5 arg6 harg6 arg8 harg8 y1 y3 y4 y6) (ix3 0 k l) = kaV y1 Z 1 0 (by decide) ⟨256 * 5 + k.val, by omega⟩ l := by
  generalize hG : kaV y1 Z 1 0 (by decide) ⟨256 * 5 + k.val, by omega⟩ l = G
  pointwise [Memref.IsWhole.read_unread, View.readAt_eq_ld, kernelRun0_A.sl.v862, kernelRun0_A.sl.v859, kernelRun0_A.sl.v858, kernelRun0_A.sl.v845, kernelRun0_A.sl.v463, kernelRun0_A.sl.v461, kernelRun0_A.sl.v459, kernelRun0_A.sl.v60]
  rw [← hG]
  refine (sel_if _ _ (own0 l) _ _).trans ?_
  unfold kaV
  split_ifs
  · blk_point []
  · exact Eq.trans (congrArg (fun j : Fin 256 => kernelRun0_A.sl.v411 c arg5 harg5 arg6 harg6 arg8 harg8 y3 y4 y6 (ix2 k j)) (Fin.ext (by show 128 + l.val = 128 * 1 + l.val; omega)))
      (ka_5 c arg5 harg5 arg6 harg6 arg8 harg8 y3 y4 y6 Z hz hs k ⟨128 * 1 + l.val, by omega⟩)
/-- Head 1's keys in block 5. -/
theorem kp_1_5 (hz : HZ y3 y4 Z) (hs : SelK y6) (k : Fin 256) (l : Fin 128) :
    (show FVec Ideal S1x256x128 .bf16 from kernelRun0_A.sl.v843 c arg3 harg3 arg5 harg5 arg6 harg6 arg8 harg8 y1 y3 y4 y6) (ix3 0 k l) = kaV y1 Z 0 1 (by decide) ⟨256 * 5 + k.val, by omega⟩ l := by
  generalize hG : kaV y1 Z 0 1 (by decide) ⟨256 * 5 + k.val, by omega⟩ l = G
  pointwise [Memref.IsWhole.read_unread, View.readAt_eq_ld, kernelRun0_A.sl.v843, kernelRun0_A.sl.v840, kernelRun0_A.sl.v824, kernelRun0_A.sl.v811, kernelRun0_A.sl.v478, kernelRun0_A.sl.v476, kernelRun0_A.sl.v461, kernelRun0_A.sl.v60]
  rw [← hG]
  refine (sel_if _ _ (own1 l) _ _).trans ?_
  unfold kaV
  split_ifs
  · blk_point []
  · exact Eq.trans (congrArg (fun j : Fin 256 => kernelRun0_A.sl.v411 c arg5 harg5 arg6 harg6 arg8 harg8 y3 y4 y6 (ix2 k j)) (Fin.ext (by show l.val = 128 * 0 + l.val; omega)))
      (ka_5 c arg5 harg5 arg6 harg6 arg8 harg8 y3 y4 y6 Z hz hs k ⟨128 * 0 + l.val, by omega⟩)
/-- Head 0's keys in block 5. -/
theorem kp_0_5 (hz : HZ y3 y4 Z) (hs : SelK y6) (k : Fin 256) (l : Fin 128) :
    (show FVec Ideal S1x256x128 .bf16 from kernelRun0_A.sl.v828 c arg3 harg3 arg5 harg5 arg6 harg6 arg8 harg8 y1 y3 y4 y6) (ix3 0 k l) = kaV y1 Z 0 0 (by decide) ⟨256 * 5 + k.val, by omega⟩ l := by
  generalize hG : kaV y1 Z 0 0 (by decide) ⟨256 * 5 + k.val, by omega⟩ l = G
  pointwise [Memref.IsWhole.read_unread, View.readAt_eq_ld, kernelRun0_A.sl.v828, kernelRun0_A.sl.v825, kernelRun0_A.sl.v824, kernelRun0_A.sl.v811, kernelRun0_A.sl.v463, kernelRun0_A.sl.v461, kernelRun0_A.sl.v459, kernelRun0_A.sl.v60]
  rw [← hG]
  refine (sel_if _ _ (own0 l) _ _).trans ?_
  unfold kaV
  split_ifs
  · blk_point []
  · exact Eq.trans (congrArg (fun j : Fin 256 => kernelRun0_A.sl.v411 c arg5 harg5 arg6 harg6 arg8 harg8 y3 y4 y6 (ix2 k j)) (Fin.ext (by show l.val = 128 * 0 + l.val; omega)))
      (ka_5 c arg5 harg5 arg6 harg6 arg8 harg8 y3 y4 y6 Z hz hs k ⟨128 * 0 + l.val, by omega⟩)
/-- Head 3's keys in block 4. -/
theorem kp_3_4 (hz : HZ y3 y4 Z) (hs : SelK y6) (k : Fin 256) (l : Fin 128) :
    (show FVec Ideal S1x256x128 .bf16 from kernelRun0_A.sl.v806 c arg3 harg3 arg5 harg5 arg6 harg6 arg8 harg8 y1 y3 y4 y6) (ix3 0 k l) = kaV y1 Z 1 1 (by decide) ⟨256 * 4 + k.val, by omega⟩ l := by
  generalize hG : kaV y1 Z 1 1 (by decide) ⟨256 * 4 + k.val, by omega⟩ l = G
  pointwise [Memref.IsWhole.read_unread, View.readAt_eq_ld, kernelRun0_A.sl.v806, kernelRun0_A.sl.v803, kernelRun0_A.sl.v787, kernelRun0_A.sl.v774, kernelRun0_A.sl.v478, kernelRun0_A.sl.v476, kernelRun0_A.sl.v461, kernelRun0_A.sl.v60]
  rw [← hG]
  refine (sel_if _ _ (own1 l) _ _).trans ?_
  unfold kaV
  split_ifs
  · blk_point []
  · exact Eq.trans (congrArg (fun j : Fin 256 => kernelRun0_A.sl.v407 c arg5 harg5 arg6 harg6 arg8 harg8 y3 y4 y6 (ix2 k j)) (Fin.ext (by show 128 + l.val = 128 * 1 + l.val; omega)))
      (ka_4 c arg5 harg5 arg6 harg6 arg8 harg8 y3 y4 y6 Z hz hs k ⟨128 * 1 + l.val, by omega⟩)
/-- Head 2's keys in block 4. -/
theorem kp_2_4 (hz : HZ y3 y4 Z) (hs : SelK y6) (k : Fin 256) (l : Fin 128) :
    (show FVec Ideal S1x256x128 .bf16 from kernelRun0_A.sl.v791 c arg3 harg3 arg5 harg5 arg6 harg6 arg8 harg8 y1 y3 y4 y6) (ix3 0 k l) = kaV y1 Z 1 0 (by decide) ⟨256 * 4 + k.val, by omega⟩ l := by
  generalize hG : kaV y1 Z 1 0 (by decide) ⟨256 * 4 + k.val, by omega⟩ l = G
  pointwise [Memref.IsWhole.read_unread, View.readAt_eq_ld, kernelRun0_A.sl.v791, kernelRun0_A.sl.v788, kernelRun0_A.sl.v787, kernelRun0_A.sl.v774, kernelRun0_A.sl.v463, kernelRun0_A.sl.v461, kernelRun0_A.sl.v459, kernelRun0_A.sl.v60]
  rw [← hG]
  refine (sel_if _ _ (own0 l) _ _).trans ?_
  unfold kaV
  split_ifs
  · blk_point []
  · exact Eq.trans (congrArg (fun j : Fin 256 => kernelRun0_A.sl.v407 c arg5 harg5 arg6 harg6 arg8 harg8 y3 y4 y6 (ix2 k j)) (Fin.ext (by show 128 + l.val = 128 * 1 + l.val; omega)))
      (ka_4 c arg5 harg5 arg6 harg6 arg8 harg8 y3 y4 y6 Z hz hs k ⟨128 * 1 + l.val, by omega⟩)
/-- Head 1's keys in block 4. -/
theorem kp_1_4 (hz : HZ y3 y4 Z) (hs : SelK y6) (k : Fin 256) (l : Fin 128) :
    (show FVec Ideal S1x256x128 .bf16 from kernelRun0_A.sl.v772 c arg3 harg3 arg5 harg5 arg6 harg6 arg8 harg8 y1 y3 y4 y6) (ix3 0 k l) = kaV y1 Z 0 1 (by decide) ⟨256 * 4 + k.val, by omega⟩ l := by
  generalize hG : kaV y1 Z 0 1 (by decide) ⟨256 * 4 + k.val, by omega⟩ l = G
  pointwise [Memref.IsWhole.read_unread, View.readAt_eq_ld, kernelRun0_A.sl.v772, kernelRun0_A.sl.v769, kernelRun0_A.sl.v753, kernelRun0_A.sl.v740, kernelRun0_A.sl.v478, kernelRun0_A.sl.v476, kernelRun0_A.sl.v461, kernelRun0_A.sl.v60]
  rw [← hG]
  refine (sel_if _ _ (own1 l) _ _).trans ?_
  unfold kaV
  split_ifs
  · blk_point []
  · exact Eq.trans (congrArg (fun j : Fin 256 => kernelRun0_A.sl.v407 c arg5 harg5 arg6 harg6 arg8 harg8 y3 y4 y6 (ix2 k j)) (Fin.ext (by show l.val = 128 * 0 + l.val; omega)))
      (ka_4 c arg5 harg5 arg6 harg6 arg8 harg8 y3 y4 y6 Z hz hs k ⟨128 * 0 + l.val, by omega⟩)
/-- Head 0's keys in block 4. -/
theorem kp_0_4 (hz : HZ y3 y4 Z) (hs : SelK y6) (k : Fin 256) (l : Fin 128) :
    (show FVec Ideal S1x256x128 .bf16 from kernelRun0_A.sl.v757 c arg3 harg3 arg5 harg5 arg6 harg6 arg8 harg8 y1 y3 y4 y6) (ix3 0 k l) = kaV y1 Z 0 0 (by decide) ⟨256 * 4 + k.val, by omega⟩ l := by
  generalize hG : kaV y1 Z 0 0 (by decide) ⟨256 * 4 + k.val, by omega⟩ l = G
  pointwise [Memref.IsWhole.read_unread, View.readAt_eq_ld, kernelRun0_A.sl.v757, kernelRun0_A.sl.v754, kernelRun0_A.sl.v753, kernelRun0_A.sl.v740, kernelRun0_A.sl.v463, kernelRun0_A.sl.v461, kernelRun0_A.sl.v459, kernelRun0_A.sl.v60]
  rw [← hG]
  refine (sel_if _ _ (own0 l) _ _).trans ?_
  unfold kaV
  split_ifs
  · blk_point []
  · exact Eq.trans (congrArg (fun j : Fin 256 => kernelRun0_A.sl.v407 c arg5 harg5 arg6 harg6 arg8 harg8 y3 y4 y6 (ix2 k j)) (Fin.ext (by show l.val = 128 * 0 + l.val; omega)))
      (ka_4 c arg5 harg5 arg6 harg6 arg8 harg8 y3 y4 y6 Z hz hs k ⟨128 * 0 + l.val, by omega⟩)
/-- Head 3's keys in block 3. -/
theorem kp_3_3 (hz : HZ y3 y4 Z) (hs : SelK y6) (k : Fin 256) (l : Fin 128) :
    (show FVec Ideal S1x256x128 .bf16 from kernelRun0_A.sl.v735 c arg3 harg3 arg5 harg5 arg6 harg6 arg8 harg8 y1 y3 y4 y6) (ix3 0 k l) = kaV y1 Z 1 1 (by decide) ⟨256 * 3 + k.val, by omega⟩ l := by
  generalize hG : kaV y1 Z 1 1 (by decide) ⟨256 * 3 + k.val, by omega⟩ l = G
  pointwise [Memref.IsWhole.read_unread, View.readAt_eq_ld, kernelRun0_A.sl.v735, kernelRun0_A.sl.v732, kernelRun0_A.sl.v716, kernelRun0_A.sl.v703, kernelRun0_A.sl.v478, kernelRun0_A.sl.v476, kernelRun0_A.sl.v461, kernelRun0_A.sl.v60]
  rw [← hG]
  refine (sel_if _ _ (own1 l) _ _).trans ?_
  unfold kaV
  split_ifs
  · blk_point []
  · exact Eq.trans (congrArg (fun j : Fin 256 => kernelRun0_A.sl.v403 c arg5 harg5 arg6 harg6 arg8 harg8 y3 y4 y6 (ix2 k j)) (Fin.ext (by show 128 + l.val = 128 * 1 + l.val; omega)))
      (ka_3 c arg5 harg5 arg6 harg6 arg8 harg8 y3 y4 y6 Z hz hs k ⟨128 * 1 + l.val, by omega⟩)
/-- Head 2's keys in block 3. -/
theorem kp_2_3 (hz : HZ y3 y4 Z) (hs : SelK y6) (k : Fin 256) (l : Fin 128) :
    (show FVec Ideal S1x256x128 .bf16 from kernelRun0_A.sl.v720 c arg3 harg3 arg5 harg5 arg6 harg6 arg8 harg8 y1 y3 y4 y6) (ix3 0 k l) = kaV y1 Z 1 0 (by decide) ⟨256 * 3 + k.val, by omega⟩ l := by
  generalize hG : kaV y1 Z 1 0 (by decide) ⟨256 * 3 + k.val, by omega⟩ l = G
  pointwise [Memref.IsWhole.read_unread, View.readAt_eq_ld, kernelRun0_A.sl.v720, kernelRun0_A.sl.v717, kernelRun0_A.sl.v716, kernelRun0_A.sl.v703, kernelRun0_A.sl.v463, kernelRun0_A.sl.v461, kernelRun0_A.sl.v459, kernelRun0_A.sl.v60]
  rw [← hG]
  refine (sel_if _ _ (own0 l) _ _).trans ?_
  unfold kaV
  split_ifs
  · blk_point []
  · exact Eq.trans (congrArg (fun j : Fin 256 => kernelRun0_A.sl.v403 c arg5 harg5 arg6 harg6 arg8 harg8 y3 y4 y6 (ix2 k j)) (Fin.ext (by show 128 + l.val = 128 * 1 + l.val; omega)))
      (ka_3 c arg5 harg5 arg6 harg6 arg8 harg8 y3 y4 y6 Z hz hs k ⟨128 * 1 + l.val, by omega⟩)
/-- Head 1's keys in block 3. -/
theorem kp_1_3 (hz : HZ y3 y4 Z) (hs : SelK y6) (k : Fin 256) (l : Fin 128) :
    (show FVec Ideal S1x256x128 .bf16 from kernelRun0_A.sl.v701 c arg3 harg3 arg5 harg5 arg6 harg6 arg8 harg8 y1 y3 y4 y6) (ix3 0 k l) = kaV y1 Z 0 1 (by decide) ⟨256 * 3 + k.val, by omega⟩ l := by
  generalize hG : kaV y1 Z 0 1 (by decide) ⟨256 * 3 + k.val, by omega⟩ l = G
  pointwise [Memref.IsWhole.read_unread, View.readAt_eq_ld, kernelRun0_A.sl.v701, kernelRun0_A.sl.v698, kernelRun0_A.sl.v682, kernelRun0_A.sl.v669, kernelRun0_A.sl.v478, kernelRun0_A.sl.v476, kernelRun0_A.sl.v461, kernelRun0_A.sl.v60]
  rw [← hG]
  refine (sel_if _ _ (own1 l) _ _).trans ?_
  unfold kaV
  split_ifs
  · blk_point []
  · exact Eq.trans (congrArg (fun j : Fin 256 => kernelRun0_A.sl.v403 c arg5 harg5 arg6 harg6 arg8 harg8 y3 y4 y6 (ix2 k j)) (Fin.ext (by show l.val = 128 * 0 + l.val; omega)))
      (ka_3 c arg5 harg5 arg6 harg6 arg8 harg8 y3 y4 y6 Z hz hs k ⟨128 * 0 + l.val, by omega⟩)
/-- Head 0's keys in block 3. -/
theorem kp_0_3 (hz : HZ y3 y4 Z) (hs : SelK y6) (k : Fin 256) (l : Fin 128) :
    (show FVec Ideal S1x256x128 .bf16 from kernelRun0_A.sl.v686 c arg3 harg3 arg5 harg5 arg6 harg6 arg8 harg8 y1 y3 y4 y6) (ix3 0 k l) = kaV y1 Z 0 0 (by decide) ⟨256 * 3 + k.val, by omega⟩ l := by
  generalize hG : kaV y1 Z 0 0 (by decide) ⟨256 * 3 + k.val, by omega⟩ l = G
  pointwise [Memref.IsWhole.read_unread, View.readAt_eq_ld, kernelRun0_A.sl.v686, kernelRun0_A.sl.v683, kernelRun0_A.sl.v682, kernelRun0_A.sl.v669, kernelRun0_A.sl.v463, kernelRun0_A.sl.v461, kernelRun0_A.sl.v459, kernelRun0_A.sl.v60]
  rw [← hG]
  refine (sel_if _ _ (own0 l) _ _).trans ?_
  unfold kaV
  split_ifs
  · blk_point []
  · exact Eq.trans (congrArg (fun j : Fin 256 => kernelRun0_A.sl.v403 c arg5 harg5 arg6 harg6 arg8 harg8 y3 y4 y6 (ix2 k j)) (Fin.ext (by show l.val = 128 * 0 + l.val; omega)))
      (ka_3 c arg5 harg5 arg6 harg6 arg8 harg8 y3 y4 y6 Z hz hs k ⟨128 * 0 + l.val, by omega⟩)
/-- Head 3's keys in block 2. -/
theorem kp_3_2 (hz : HZ y3 y4 Z) (hs : SelK y6) (k : Fin 256) (l : Fin 128) :
    (show FVec Ideal S1x256x128 .bf16 from kernelRun0_A.sl.v664 c arg3 harg3 arg5 harg5 arg6 harg6 arg8 harg8 y1 y3 y4 y6) (ix3 0 k l) = kaV y1 Z 1 1 (by decide) ⟨256 * 2 + k.val, by omega⟩ l := by
  generalize hG : kaV y1 Z 1 1 (by decide) ⟨256 * 2 + k.val, by omega⟩ l = G
  pointwise [Memref.IsWhole.read_unread, View.readAt_eq_ld, kernelRun0_A.sl.v664, kernelRun0_A.sl.v661, kernelRun0_A.sl.v645, kernelRun0_A.sl.v632, kernelRun0_A.sl.v478, kernelRun0_A.sl.v476, kernelRun0_A.sl.v461, kernelRun0_A.sl.v60]
  rw [← hG]
  refine (sel_if _ _ (own1 l) _ _).trans ?_
  unfold kaV
  split_ifs
  · blk_point []
  · exact Eq.trans (congrArg (fun j : Fin 256 => kernelRun0_A.sl.v399 c arg5 harg5 arg6 harg6 arg8 harg8 y3 y4 y6 (ix2 k j)) (Fin.ext (by show 128 + l.val = 128 * 1 + l.val; omega)))
      (ka_2 c arg5 harg5 arg6 harg6 arg8 harg8 y3 y4 y6 Z hz hs k ⟨128 * 1 + l.val, by omega⟩)
/-- Head 2's keys in block 2. -/
theorem kp_2_2 (hz : HZ y3 y4 Z) (hs : SelK y6) (k : Fin 256) (l : Fin 128) :
    (show FVec Ideal S1x256x128 .bf16 from kernelRun0_A.sl.v649 c arg3 harg3 arg5 harg5 arg6 harg6 arg8 harg8 y1 y3 y4 y6) (ix3 0 k l) = kaV y1 Z 1 0 (by decide) ⟨256 * 2 + k.val, by omega⟩ l := by
  generalize hG : kaV y1 Z 1 0 (by decide) ⟨256 * 2 + k.val, by omega⟩ l = G
  pointwise [Memref.IsWhole.read_unread, View.readAt_eq_ld, kernelRun0_A.sl.v649, kernelRun0_A.sl.v646, kernelRun0_A.sl.v645, kernelRun0_A.sl.v632, kernelRun0_A.sl.v463, kernelRun0_A.sl.v461, kernelRun0_A.sl.v459, kernelRun0_A.sl.v60]
  rw [← hG]
  refine (sel_if _ _ (own0 l) _ _).trans ?_
  unfold kaV
  split_ifs
  · blk_point []
  · exact Eq.trans (congrArg (fun j : Fin 256 => kernelRun0_A.sl.v399 c arg5 harg5 arg6 harg6 arg8 harg8 y3 y4 y6 (ix2 k j)) (Fin.ext (by show 128 + l.val = 128 * 1 + l.val; omega)))
      (ka_2 c arg5 harg5 arg6 harg6 arg8 harg8 y3 y4 y6 Z hz hs k ⟨128 * 1 + l.val, by omega⟩)
/-- Head 1's keys in block 2. -/
theorem kp_1_2 (hz : HZ y3 y4 Z) (hs : SelK y6) (k : Fin 256) (l : Fin 128) :
    (show FVec Ideal S1x256x128 .bf16 from kernelRun0_A.sl.v630 c arg3 harg3 arg5 harg5 arg6 harg6 arg8 harg8 y1 y3 y4 y6) (ix3 0 k l) = kaV y1 Z 0 1 (by decide) ⟨256 * 2 + k.val, by omega⟩ l := by
  generalize hG : kaV y1 Z 0 1 (by decide) ⟨256 * 2 + k.val, by omega⟩ l = G
  pointwise [Memref.IsWhole.read_unread, View.readAt_eq_ld, kernelRun0_A.sl.v630, kernelRun0_A.sl.v627, kernelRun0_A.sl.v611, kernelRun0_A.sl.v598, kernelRun0_A.sl.v478, kernelRun0_A.sl.v476, kernelRun0_A.sl.v461, kernelRun0_A.sl.v60]
  rw [← hG]
  refine (sel_if _ _ (own1 l) _ _).trans ?_
  unfold kaV
  split_ifs
  · blk_point []
  · exact Eq.trans (congrArg (fun j : Fin 256 => kernelRun0_A.sl.v399 c arg5 harg5 arg6 harg6 arg8 harg8 y3 y4 y6 (ix2 k j)) (Fin.ext (by show l.val = 128 * 0 + l.val; omega)))
      (ka_2 c arg5 harg5 arg6 harg6 arg8 harg8 y3 y4 y6 Z hz hs k ⟨128 * 0 + l.val, by omega⟩)
/-- Head 0's keys in block 2. -/
theorem kp_0_2 (hz : HZ y3 y4 Z) (hs : SelK y6) (k : Fin 256) (l : Fin 128) :
    (show FVec Ideal S1x256x128 .bf16 from kernelRun0_A.sl.v615 c arg3 harg3 arg5 harg5 arg6 harg6 arg8 harg8 y1 y3 y4 y6) (ix3 0 k l) = kaV y1 Z 0 0 (by decide) ⟨256 * 2 + k.val, by omega⟩ l := by
  generalize hG : kaV y1 Z 0 0 (by decide) ⟨256 * 2 + k.val, by omega⟩ l = G
  pointwise [Memref.IsWhole.read_unread, View.readAt_eq_ld, kernelRun0_A.sl.v615, kernelRun0_A.sl.v612, kernelRun0_A.sl.v611, kernelRun0_A.sl.v598, kernelRun0_A.sl.v463, kernelRun0_A.sl.v461, kernelRun0_A.sl.v459, kernelRun0_A.sl.v60]
  rw [← hG]
  refine (sel_if _ _ (own0 l) _ _).trans ?_
  unfold kaV
  split_ifs
  · blk_point []
  · exact Eq.trans (congrArg (fun j : Fin 256 => kernelRun0_A.sl.v399 c arg5 harg5 arg6 harg6 arg8 harg8 y3 y4 y6 (ix2 k j)) (Fin.ext (by show l.val = 128 * 0 + l.val; omega)))
      (ka_2 c arg5 harg5 arg6 harg6 arg8 harg8 y3 y4 y6 Z hz hs k ⟨128 * 0 + l.val, by omega⟩)
/-- Head 3's keys in block 1. -/
theorem kp_3_1 (hz : HZ y3 y4 Z) (hs : SelK y6) (k : Fin 256) (l : Fin 128) :
    (show FVec Ideal S1x256x128 .bf16 from kernelRun0_A.sl.v593 c arg3 harg3 arg5 harg5 arg6 harg6 arg8 harg8 y1 y3 y4 y6) (ix3 0 k l) = kaV y1 Z 1 1 (by decide) ⟨256 * 1 + k.val, by omega⟩ l := by
  generalize hG : kaV y1 Z 1 1 (by decide) ⟨256 * 1 + k.val, by omega⟩ l = G
  pointwise [Memref.IsWhole.read_unread, View.readAt_eq_ld, kernelRun0_A.sl.v593, kernelRun0_A.sl.v590, kernelRun0_A.sl.v574, kernelRun0_A.sl.v561, kernelRun0_A.sl.v478, kernelRun0_A.sl.v476, kernelRun0_A.sl.v461, kernelRun0_A.sl.v60]
  rw [← hG]
  refine (sel_if _ _ (own1 l) _ _).trans ?_
  unfold kaV
  split_ifs
  · blk_point []
  · exact Eq.trans (congrArg (fun j : Fin 256 => kernelRun0_A.sl.v395 c arg5 harg5 arg6 harg6 arg8 harg8 y3 y4 y6 (ix2 k j)) (Fin.ext (by show 128 + l.val = 128 * 1 + l.val; omega)))
      (ka_1 c arg5 harg5 arg6 harg6 arg8 harg8 y3 y4 y6 Z hz hs k ⟨128 * 1 + l.val, by omega⟩)
/-- Head 2's keys in block 1. -/
theorem kp_2_1 (hz : HZ y3 y4 Z) (hs : SelK y6) (k : Fin 256) (l : Fin 128) :
    (show FVec Ideal S1x256x128 .bf16 from kernelRun0_A.sl.v578 c arg3 harg3 arg5 harg5 arg6 harg6 arg8 harg8 y1 y3 y4 y6) (ix3 0 k l) = kaV y1 Z 1 0 (by decide) ⟨256 * 1 + k.val, by omega⟩ l := by
  generalize hG : kaV y1 Z 1 0 (by decide) ⟨256 * 1 + k.val, by omega⟩ l = G
  pointwise [Memref.IsWhole.read_unread, View.readAt_eq_ld, kernelRun0_A.sl.v578, kernelRun0_A.sl.v575, kernelRun0_A.sl.v574, kernelRun0_A.sl.v561, kernelRun0_A.sl.v463, kernelRun0_A.sl.v461, kernelRun0_A.sl.v459, kernelRun0_A.sl.v60]
  rw [← hG]
  refine (sel_if _ _ (own0 l) _ _).trans ?_
  unfold kaV
  split_ifs
  · blk_point []
  · exact Eq.trans (congrArg (fun j : Fin 256 => kernelRun0_A.sl.v395 c arg5 harg5 arg6 harg6 arg8 harg8 y3 y4 y6 (ix2 k j)) (Fin.ext (by show 128 + l.val = 128 * 1 + l.val; omega)))
      (ka_1 c arg5 harg5 arg6 harg6 arg8 harg8 y3 y4 y6 Z hz hs k ⟨128 * 1 + l.val, by omega⟩)
/-- Head 1's keys in block 1. -/
theorem kp_1_1 (hz : HZ y3 y4 Z) (hs : SelK y6) (k : Fin 256) (l : Fin 128) :
    (show FVec Ideal S1x256x128 .bf16 from kernelRun0_A.sl.v559 c arg3 harg3 arg5 harg5 arg6 harg6 arg8 harg8 y1 y3 y4 y6) (ix3 0 k l) = kaV y1 Z 0 1 (by decide) ⟨256 * 1 + k.val, by omega⟩ l := by
  generalize hG : kaV y1 Z 0 1 (by decide) ⟨256 * 1 + k.val, by omega⟩ l = G
  pointwise [Memref.IsWhole.read_unread, View.readAt_eq_ld, kernelRun0_A.sl.v559, kernelRun0_A.sl.v556, kernelRun0_A.sl.v540, kernelRun0_A.sl.v527, kernelRun0_A.sl.v478, kernelRun0_A.sl.v476, kernelRun0_A.sl.v461, kernelRun0_A.sl.v60]
  rw [← hG]
  refine (sel_if _ _ (own1 l) _ _).trans ?_
  unfold kaV
  split_ifs
  · blk_point []
  · exact Eq.trans (congrArg (fun j : Fin 256 => kernelRun0_A.sl.v395 c arg5 harg5 arg6 harg6 arg8 harg8 y3 y4 y6 (ix2 k j)) (Fin.ext (by show l.val = 128 * 0 + l.val; omega)))
      (ka_1 c arg5 harg5 arg6 harg6 arg8 harg8 y3 y4 y6 Z hz hs k ⟨128 * 0 + l.val, by omega⟩)
/-- Head 0's keys in block 1. -/
theorem kp_0_1 (hz : HZ y3 y4 Z) (hs : SelK y6) (k : Fin 256) (l : Fin 128) :
    (show FVec Ideal S1x256x128 .bf16 from kernelRun0_A.sl.v544 c arg3 harg3 arg5 harg5 arg6 harg6 arg8 harg8 y1 y3 y4 y6) (ix3 0 k l) = kaV y1 Z 0 0 (by decide) ⟨256 * 1 + k.val, by omega⟩ l := by
  generalize hG : kaV y1 Z 0 0 (by decide) ⟨256 * 1 + k.val, by omega⟩ l = G
  pointwise [Memref.IsWhole.read_unread, View.readAt_eq_ld, kernelRun0_A.sl.v544, kernelRun0_A.sl.v541, kernelRun0_A.sl.v540, kernelRun0_A.sl.v527, kernelRun0_A.sl.v463, kernelRun0_A.sl.v461, kernelRun0_A.sl.v459, kernelRun0_A.sl.v60]
  rw [← hG]
  refine (sel_if _ _ (own0 l) _ _).trans ?_
  unfold kaV
  split_ifs
  · blk_point []
  · exact Eq.trans (congrArg (fun j : Fin 256 => kernelRun0_A.sl.v395 c arg5 harg5 arg6 harg6 arg8 harg8 y3 y4 y6 (ix2 k j)) (Fin.ext (by show l.val = 128 * 0 + l.val; omega)))
      (ka_1 c arg5 harg5 arg6 harg6 arg8 harg8 y3 y4 y6 Z hz hs k ⟨128 * 0 + l.val, by omega⟩)
/-- Head 3's keys in block 0. -/
theorem kp_3_0 (hz : HZ y3 y4 Z) (hs : SelK y6) (k : Fin 256) (l : Fin 128) :
    (show FVec Ideal S1x256x128 .bf16 from kernelRun0_A.sl.v522 c arg3 harg3 arg5 harg5 arg6 harg6 arg8 harg8 y1 y3 y4 y6) (ix3 0 k l) = kaV y1 Z 1 1 (by decide) ⟨256 * 0 + k.val, by omega⟩ l := by
  generalize hG : kaV y1 Z 1 1 (by decide) ⟨256 * 0 + k.val, by omega⟩ l = G
  pointwise [Memref.IsWhole.read_unread, View.readAt_eq_ld, kernelRun0_A.sl.v522, kernelRun0_A.sl.v519, kernelRun0_A.sl.v503, kernelRun0_A.sl.v490, kernelRun0_A.sl.v478, kernelRun0_A.sl.v476, kernelRun0_A.sl.v461, kernelRun0_A.sl.v60]
  rw [← hG]
  refine (sel_if _ _ (own1 l) _ _).trans ?_
  unfold kaV
  split_ifs
  · blk_point []
  · exact Eq.trans (congrArg (fun j : Fin 256 => kernelRun0_A.sl.v391 c arg5 harg5 arg6 harg6 arg8 harg8 y3 y4 y6 (ix2 k j)) (Fin.ext (by show 128 + l.val = 128 * 1 + l.val; omega)))
      (ka_0 c arg5 harg5 arg6 harg6 arg8 harg8 y3 y4 y6 Z hz hs k ⟨128 * 1 + l.val, by omega⟩)
/-- Head 2's keys in block 0. -/
theorem kp_2_0 (hz : HZ y3 y4 Z) (hs : SelK y6) (k : Fin 256) (l : Fin 128) :
    (show FVec Ideal S1x256x128 .bf16 from kernelRun0_A.sl.v507 c arg3 harg3 arg5 harg5 arg6 harg6 arg8 harg8 y1 y3 y4 y6) (ix3 0 k l) = kaV y1 Z 1 0 (by decide) ⟨256 * 0 + k.val, by omega⟩ l := by
  generalize hG : kaV y1 Z 1 0 (by decide) ⟨256 * 0 + k.val, by omega⟩ l = G
  pointwise [Memref.IsWhole.read_unread, View.readAt_eq_ld, kernelRun0_A.sl.v507, kernelRun0_A.sl.v504, kernelRun0_A.sl.v503, kernelRun0_A.sl.v490, kernelRun0_A.sl.v463, kernelRun0_A.sl.v461, kernelRun0_A.sl.v459, kernelRun0_A.sl.v60]
  rw [← hG]
  refine (sel_if _ _ (own0 l) _ _).trans ?_
  unfold kaV
  split_ifs
  · blk_point []
  · exact Eq.trans (congrArg (fun j : Fin 256 => kernelRun0_A.sl.v391 c arg5 harg5 arg6 harg6 arg8 harg8 y3 y4 y6 (ix2 k j)) (Fin.ext (by show 128 + l.val = 128 * 1 + l.val; omega)))
      (ka_0 c arg5 harg5 arg6 harg6 arg8 harg8 y3 y4 y6 Z hz hs k ⟨128 * 1 + l.val, by omega⟩)
/-- Head 1's keys in block 0. -/
theorem kp_1_0 (hz : HZ y3 y4 Z) (hs : SelK y6) (k : Fin 256) (l : Fin 128) :
    (show FVec Ideal S1x256x128 .bf16 from kernelRun0_A.sl.v488 c arg3 harg3 arg5 harg5 arg6 harg6 arg8 harg8 y1 y3 y4 y6) (ix3 0 k l) = kaV y1 Z 0 1 (by decide) ⟨256 * 0 + k.val, by omega⟩ l := by
  generalize hG : kaV y1 Z 0 1 (by decide) ⟨256 * 0 + k.val, by omega⟩ l = G
  pointwise [Memref.IsWhole.read_unread, View.readAt_eq_ld, kernelRun0_A.sl.v488, kernelRun0_A.sl.v485, kernelRun0_A.sl.v469, kernelRun0_A.sl.v456, kernelRun0_A.sl.v478, kernelRun0_A.sl.v476, kernelRun0_A.sl.v461, kernelRun0_A.sl.v60]
  rw [← hG]
  refine (sel_if _ _ (own1 l) _ _).trans ?_
  unfold kaV
  split_ifs
  · blk_point []
  · exact Eq.trans (congrArg (fun j : Fin 256 => kernelRun0_A.sl.v391 c arg5 harg5 arg6 harg6 arg8 harg8 y3 y4 y6 (ix2 k j)) (Fin.ext (by show l.val = 128 * 0 + l.val; omega)))
      (ka_0 c arg5 harg5 arg6 harg6 arg8 harg8 y3 y4 y6 Z hz hs k ⟨128 * 0 + l.val, by omega⟩)
/-- Head 0's keys in block 0. -/
theorem kp_0_0 (hz : HZ y3 y4 Z) (hs : SelK y6) (k : Fin 256) (l : Fin 128) :
    (show FVec Ideal S1x256x128 .bf16 from kernelRun0_A.sl.v473 c arg3 harg3 arg5 harg5 arg6 harg6 arg8 harg8 y1 y3 y4 y6) (ix3 0 k l) = kaV y1 Z 0 0 (by decide) ⟨256 * 0 + k.val, by omega⟩ l := by
  generalize hG : kaV y1 Z 0 0 (by decide) ⟨256 * 0 + k.val, by omega⟩ l = G
  pointwise [Memref.IsWhole.read_unread, View.readAt_eq_ld, kernelRun0_A.sl.v473, kernelRun0_A.sl.v470, kernelRun0_A.sl.v469, kernelRun0_A.sl.v456, kernelRun0_A.sl.v463, kernelRun0_A.sl.v461, kernelRun0_A.sl.v459, kernelRun0_A.sl.v60]
  rw [← hG]
  refine (sel_if _ _ (own0 l) _ _).trans ?_
  unfold kaV
  split_ifs
  · blk_point []
  · exact Eq.trans (congrArg (fun j : Fin 256 => kernelRun0_A.sl.v391 c arg5 harg5 arg6 harg6 arg8 harg8 y3 y4 y6 (ix2 k j)) (Fin.ext (by show l.val = 128 * 0 + l.val; omega)))
      (ka_0 c arg5 harg5 arg6 harg6 arg8 harg8 y3 y4 y6 Z hz hs k ⟨128 * 0 + l.val, by omega⟩)
/-- Head 3's values in block 7. -/
theorem vp_3_7 (k : Fin 256) (l : Fin 128) :
    (show FVec Ideal S1x256x128 .bf16 from k0_pay307 (kernelRun0_A.sl.v1011 c arg4 harg4 y2)) (ix3 0 k l) = vaV y2 1 1 (by decide) ⟨256 * 7 + k.val, by omega⟩ l := by
  generalize hG : vaV y2 1 1 (by decide) ⟨256 * 7 + k.val, by omega⟩ l = G
  pointwise [Memref.IsWhole.read_unread, View.readAt_eq_ld, k0_pay307, kernelRun0_A.sl.v1011, kernelRun0_A.sl.v464, kernelRun0_A.sl.cst_163, kernelRun0_A.sl.v989, kernelRun0_A.sl.v478, kernelRun0_A.sl.v476, kernelRun0_A.sl.v461, kernelRun0_A.sl.v60]
  rw [← hG]
  refine (sel_if _ _ (own1 l) _ _).trans ?_
  unfold vaV
  split_ifs
  · blk_point []
  · rfl
/-- Head 2's values in block 7. -/
theorem vp_2_7 (k : Fin 256) (l : Fin 128) :
    (show FVec Ideal S1x256x128 .bf16 from kernelRun0_A.sl.v999 c arg4 harg4 y2) (ix3 0 k l) = vaV y2 1 0 (by decide) ⟨256 * 7 + k.val, by omega⟩ l := by
  generalize hG : vaV y2 1 0 (by decide) ⟨256 * 7 + k.val, by omega⟩ l = G
  pointwise [Memref.IsWhole.read_unread, View.readAt_eq_ld, kernelRun0_A.sl.v999, kernelRun0_A.sl.v996, kernelRun0_A.sl.v464, kernelRun0_A.sl.cst_163, kernelRun0_A.sl.v989, kernelRun0_A.sl.v463, kernelRun0_A.sl.v461, kernelRun0_A.sl.v459, kernelRun0_A.sl.v60]
  rw [← hG]
  refine (sel_if _ _ (own0 l) _ _).trans ?_
  unfold vaV
  split_ifs
  · blk_point []
  · rfl
/-- Head 1's values in block 7. -/
theorem vp_1_7 (k : Fin 256) (l : Fin 128) :
    (show FVec Ideal S1x256x128 .bf16 from kernelRun0_A.sl.v980 c arg4 harg4 y2) (ix3 0 k l) = vaV y2 0 1 (by decide) ⟨256 * 7 + k.val, by omega⟩ l := by
  generalize hG : vaV y2 0 1 (by decide) ⟨256 * 7 + k.val, by omega⟩ l = G
  pointwise [Memref.IsWhole.read_unread, View.readAt_eq_ld, kernelRun0_A.sl.v980, kernelRun0_A.sl.v977, kernelRun0_A.sl.v464, kernelRun0_A.sl.cst_163, kernelRun0_A.sl.v955, kernelRun0_A.sl.v478, kernelRun0_A.sl.v476, kernelRun0_A.sl.v461, kernelRun0_A.sl.v60]
  rw [← hG]
  refine (sel_if _ _ (own1 l) _ _).trans ?_
  unfold vaV
  split_ifs
  · blk_point []
  · rfl
/-- Head 0's values in block 7. -/
theorem vp_0_7 (k : Fin 256) (l : Fin 128) :
    (show FVec Ideal S1x256x128 .bf16 from kernelRun0_A.sl.v965 c arg4 harg4 y2) (ix3 0 k l) = vaV y2 0 0 (by decide) ⟨256 * 7 + k.val, by omega⟩ l := by
  generalize hG : vaV y2 0 0 (by decide) ⟨256 * 7 + k.val, by omega⟩ l = G
  pointwise [Memref.IsWhole.read_unread, View.readAt_eq_ld, kernelRun0_A.sl.v965, kernelRun0_A.sl.v962, kernelRun0_A.sl.v464, kernelRun0_A.sl.cst_163, kernelRun0_A.sl.v955, kernelRun0_A.sl.v463, kernelRun0_A.sl.v461, kernelRun0_A.sl.v459, kernelRun0_A.sl.v60]
  rw [← hG]
  refine (sel_if _ _ (own0 l) _ _).trans ?_
  unfold vaV
  split_ifs
  · blk_point []
  · rfl
/-- Head 3's values in block 6. -/
theorem vp_3_6 (k : Fin 256) (l : Fin 128) :
    (show FVec Ideal S1x256x128 .bf16 from kernelRun0_A.sl.v943 c arg4 harg4 y2) (ix3 0 k l) = vaV y2 1 1 (by decide) ⟨256 * 6 + k.val, by omega⟩ l := by
  generalize hG : vaV y2 1 1 (by decide) ⟨256 * 6 + k.val, by omega⟩ l = G
  pointwise [Memref.IsWhole.read_unread, View.readAt_eq_ld, kernelRun0_A.sl.v943, kernelRun0_A.sl.v940, kernelRun0_A.sl.v464, kernelRun0_A.sl.cst_163, kernelRun0_A.sl.v918, kernelRun0_A.sl.v478, kernelRun0_A.sl.v476, kernelRun0_A.sl.v461, kernelRun0_A.sl.v60]
  rw [← hG]
  refine (sel_if _ _ (own1 l) _ _).trans ?_
  unfold vaV
  split_ifs
  · blk_point []
  · rfl
/-- Head 2's values in block 6. -/
theorem vp_2_6 (k : Fin 256) (l : Fin 128) :
    (show FVec Ideal S1x256x128 .bf16 from kernelRun0_A.sl.v928 c arg4 harg4 y2) (ix3 0 k l) = vaV y2 1 0 (by decide) ⟨256 * 6 + k.val, by omega⟩ l := by
  generalize hG : vaV y2 1 0 (by decide) ⟨256 * 6 + k.val, by omega⟩ l = G
  pointwise [Memref.IsWhole.read_unread, View.readAt_eq_ld, kernelRun0_A.sl.v928, kernelRun0_A.sl.v925, kernelRun0_A.sl.v464, kernelRun0_A.sl.cst_163, kernelRun0_A.sl.v918, kernelRun0_A.sl.v463, kernelRun0_A.sl.v461, kernelRun0_A.sl.v459, kernelRun0_A.sl.v60]
  rw [← hG]
  refine (sel_if _ _ (own0 l) _ _).trans ?_
  unfold vaV
  split_ifs
  · blk_point []
  · rfl
/-- Head 1's values in block 6. -/
theorem vp_1_6 (k : Fin 256) (l : Fin 128) :
    (show FVec Ideal S1x256x128 .bf16 from kernelRun0_A.sl.v909 c arg4 harg4 y2) (ix3 0 k l) = vaV y2 0 1 (by decide) ⟨256 * 6 + k.val, by omega⟩ l := by
  generalize hG : vaV y2 0 1 (by decide) ⟨256 * 6 + k.val, by omega⟩ l = G
  pointwise [Memref.IsWhole.read_unread, View.readAt_eq_ld, kernelRun0_A.sl.v909, kernelRun0_A.sl.v906, kernelRun0_A.sl.v464, kernelRun0_A.sl.cst_163, kernelRun0_A.sl.v884, kernelRun0_A.sl.v478, kernelRun0_A.sl.v476, kernelRun0_A.sl.v461, kernelRun0_A.sl.v60]
  rw [← hG]
  refine (sel_if _ _ (own1 l) _ _).trans ?_
  unfold vaV
  split_ifs
  · blk_point []
  · rfl
/-- Head 0's values in block 6. -/
theorem vp_0_6 (k : Fin 256) (l : Fin 128) :
    (show FVec Ideal S1x256x128 .bf16 from kernelRun0_A.sl.v894 c arg4 harg4 y2) (ix3 0 k l) = vaV y2 0 0 (by decide) ⟨256 * 6 + k.val, by omega⟩ l := by
  generalize hG : vaV y2 0 0 (by decide) ⟨256 * 6 + k.val, by omega⟩ l = G
  pointwise [Memref.IsWhole.read_unread, View.readAt_eq_ld, kernelRun0_A.sl.v894, kernelRun0_A.sl.v891, kernelRun0_A.sl.v464, kernelRun0_A.sl.cst_163, kernelRun0_A.sl.v884, kernelRun0_A.sl.v463, kernelRun0_A.sl.v461, kernelRun0_A.sl.v459, kernelRun0_A.sl.v60]
  rw [← hG]
  refine (sel_if _ _ (own0 l) _ _).trans ?_
  unfold vaV
  split_ifs
  · blk_point []
  · rfl
/-- Head 3's values in block 5. -/
theorem vp_3_5 (k : Fin 256) (l : Fin 128) :
    (show FVec Ideal S1x256x128 .bf16 from kernelRun0_A.sl.v872 c arg4 harg4 y2) (ix3 0 k l) = vaV y2 1 1 (by decide) ⟨256 * 5 + k.val, by omega⟩ l := by
  generalize hG : vaV y2 1 1 (by decide) ⟨256 * 5 + k.val, by omega⟩ l = G
  pointwise [Memref.IsWhole.read_unread, View.readAt_eq_ld, kernelRun0_A.sl.v872, kernelRun0_A.sl.v869, kernelRun0_A.sl.v464, kernelRun0_A.sl.cst_163, kernelRun0_A.sl.v847, kernelRun0_A.sl.v478, kernelRun0_A.sl.v476, kernelRun0_A.sl.v461, kernelRun0_A.sl.v60]
  rw [← hG]
  refine (sel_if _ _ (own1 l) _ _).trans ?_
  unfold vaV
  split_ifs
  · blk_point []
  · rfl
/-- Head 2's values in block 5. -/
theorem vp_2_5 (k : Fin 256) (l : Fin 128) :
    (show FVec Ideal S1x256x128 .bf16 from kernelRun0_A.sl.v857 c arg4 harg4 y2) (ix3 0 k l) = vaV y2 1 0 (by decide) ⟨256 * 5 + k.val, by omega⟩ l := by
  generalize hG : vaV y2 1 0 (by decide) ⟨256 * 5 + k.val, by omega⟩ l = G
  pointwise [Memref.IsWhole.read_unread, View.readAt_eq_ld, kernelRun0_A.sl.v857, kernelRun0_A.sl.v854, kernelRun0_A.sl.v464, kernelRun0_A.sl.cst_163, kernelRun0_A.sl.v847, kernelRun0_A.sl.v463, kernelRun0_A.sl.v461, kernelRun0_A.sl.v459, kernelRun0_A.sl.v60]
  rw [← hG]
  refine (sel_if _ _ (own0 l) _ _).trans ?_
  unfold vaV
  split_ifs
  · blk_point []
  · rfl
/-- Head 1's values in block 5. -/
theorem vp_1_5 (k : Fin 256) (l : Fin 128) :
    (show FVec Ideal S1x256x128 .bf16 from kernelRun0_A.sl.v838 c arg4 harg4 y2) (ix3 0 k l) = vaV y2 0 1 (by decide) ⟨256 * 5 + k.val, by omega⟩ l := by
  generalize hG : vaV y2 0 1 (by decide) ⟨256 * 5 + k.val, by omega⟩ l = G
  pointwise [Memref.IsWhole.read_unread, View.readAt_eq_ld, kernelRun0_A.sl.v838, kernelRun0_A.sl.v835, kernelRun0_A.sl.v464, kernelRun0_A.sl.cst_163, kernelRun0_A.sl.v813, kernelRun0_A.sl.r, kernelRun0_A.sl.v478, kernelRun0_A.sl.v476, kernelRun0_A.sl.v461, kernelRun0_A.sl.v60]
  rw [← hG]
  refine (sel_if _ _ (own1 l) _ _).trans ?_
  unfold vaV
  split_ifs
  · blk_point []
  · rfl
/-- Head 0's values in block 5. -/
theorem vp_0_5 (k : Fin 256) (l : Fin 128) :
    (show FVec Ideal S1x256x128 .bf16 from kernelRun0_A.sl.v823 c arg4 harg4 y2) (ix3 0 k l) = vaV y2 0 0 (by decide) ⟨256 * 5 + k.val, by omega⟩ l := by
  generalize hG : vaV y2 0 0 (by decide) ⟨256 * 5 + k.val, by omega⟩ l = G
  pointwise [Memref.IsWhole.read_unread, View.readAt_eq_ld, kernelRun0_A.sl.v823, kernelRun0_A.sl.v820, kernelRun0_A.sl.v464, kernelRun0_A.sl.cst_163, kernelRun0_A.sl.v813, kernelRun0_A.sl.r, kernelRun0_A.sl.v463, kernelRun0_A.sl.v461, kernelRun0_A.sl.v459, kernelRun0_A.sl.v60]
  rw [← hG]
  refine (sel_if _ _ (own0 l) _ _).trans ?_
  unfold vaV
  split_ifs
  · blk_point []
  · rfl
/-- Head 3's values in block 4. -/
theorem vp_3_4 (k : Fin 256) (l : Fin 128) :
    (show FVec Ideal S1x256x128 .bf16 from kernelRun0_A.sl.v801 c arg4 harg4 y2) (ix3 0 k l) = vaV y2 1 1 (by decide) ⟨256 * 4 + k.val, by omega⟩ l := by
  generalize hG : vaV y2 1 1 (by decide) ⟨256 * 4 + k.val, by omega⟩ l = G
  pointwise [Memref.IsWhole.read_unread, View.readAt_eq_ld, kernelRun0_A.sl.v801, kernelRun0_A.sl.v798, kernelRun0_A.sl.v464, kernelRun0_A.sl.cst_163, kernelRun0_A.sl.v776, kernelRun0_A.sl.v478, kernelRun0_A.sl.v476, kernelRun0_A.sl.v461, kernelRun0_A.sl.v60]
  rw [← hG]
  refine (sel_if _ _ (own1 l) _ _).trans ?_
  unfold vaV
  split_ifs
  · blk_point []
  · rfl
/-- Head 2's values in block 4. -/
theorem vp_2_4 (k : Fin 256) (l : Fin 128) :
    (show FVec Ideal S1x256x128 .bf16 from kernelRun0_A.sl.v786 c arg4 harg4 y2) (ix3 0 k l) = vaV y2 1 0 (by decide) ⟨256 * 4 + k.val, by omega⟩ l := by
  generalize hG : vaV y2 1 0 (by decide) ⟨256 * 4 + k.val, by omega⟩ l = G
  pointwise [Memref.IsWhole.read_unread, View.readAt_eq_ld, kernelRun0_A.sl.v786, kernelRun0_A.sl.v783, kernelRun0_A.sl.v464, kernelRun0_A.sl.cst_163, kernelRun0_A.sl.v776, kernelRun0_A.sl.v463, kernelRun0_A.sl.v461, kernelRun0_A.sl.v459, kernelRun0_A.sl.v60]
  rw [← hG]
  refine (sel_if _ _ (own0 l) _ _).trans ?_
  unfold vaV
  split_ifs
  · blk_point []
  · rfl
/-- Head 1's values in block 4. -/
theorem vp_1_4 (k : Fin 256) (l : Fin 128) :
    (show FVec Ideal S1x256x128 .bf16 from kernelRun0_A.sl.v767 c arg4 harg4 y2) (ix3 0 k l) = vaV y2 0 1 (by decide) ⟨256 * 4 + k.val, by omega⟩ l := by
  generalize hG : vaV y2 0 1 (by decide) ⟨256 * 4 + k.val, by omega⟩ l = G
  pointwise [Memref.IsWhole.read_unread, View.readAt_eq_ld, kernelRun0_A.sl.v767, kernelRun0_A.sl.v764, kernelRun0_A.sl.v464, kernelRun0_A.sl.cst_163, kernelRun0_A.sl.v742, kernelRun0_A.sl.v478, kernelRun0_A.sl.v476, kernelRun0_A.sl.v461, kernelRun0_A.sl.v60]
  rw [← hG]
  refine (sel_if _ _ (own1 l) _ _).trans ?_
  unfold vaV
  split_ifs
  · blk_point []
  · rfl
/-- Head 0's values in block 4. -/
theorem vp_0_4 (k : Fin 256) (l : Fin 128) :
    (show FVec Ideal S1x256x128 .bf16 from kernelRun0_A.sl.v752 c arg4 harg4 y2) (ix3 0 k l) = vaV y2 0 0 (by decide) ⟨256 * 4 + k.val, by omega⟩ l := by
  generalize hG : vaV y2 0 0 (by decide) ⟨256 * 4 + k.val, by omega⟩ l = G
  pointwise [Memref.IsWhole.read_unread, View.readAt_eq_ld, kernelRun0_A.sl.v752, kernelRun0_A.sl.v749, kernelRun0_A.sl.v464, kernelRun0_A.sl.cst_163, kernelRun0_A.sl.v742, kernelRun0_A.sl.v463, kernelRun0_A.sl.v461, kernelRun0_A.sl.v459, kernelRun0_A.sl.v60]
  rw [← hG]
  refine (sel_if _ _ (own0 l) _ _).trans ?_
  unfold vaV
  split_ifs
  · blk_point []
  · rfl
/-- Head 3's values in block 3. -/
theorem vp_3_3 (k : Fin 256) (l : Fin 128) :
    (show FVec Ideal S1x256x128 .bf16 from kernelRun0_A.sl.v730 c arg4 harg4 y2) (ix3 0 k l) = vaV y2 1 1 (by decide) ⟨256 * 3 + k.val, by omega⟩ l := by
  generalize hG : vaV y2 1 1 (by decide) ⟨256 * 3 + k.val, by omega⟩ l = G
  pointwise [Memref.IsWhole.read_unread, View.readAt_eq_ld, kernelRun0_A.sl.v730, kernelRun0_A.sl.v727, kernelRun0_A.sl.v464, kernelRun0_A.sl.cst_163, kernelRun0_A.sl.v705, kernelRun0_A.sl.v478, kernelRun0_A.sl.v476, kernelRun0_A.sl.v461, kernelRun0_A.sl.v60]
  rw [← hG]
  refine (sel_if _ _ (own1 l) _ _).trans ?_
  unfold vaV
  split_ifs
  · blk_point []
  · rfl
/-- Head 2's values in block 3. -/
theorem vp_2_3 (k : Fin 256) (l : Fin 128) :
    (show FVec Ideal S1x256x128 .bf16 from kernelRun0_A.sl.v715 c arg4 harg4 y2) (ix3 0 k l) = vaV y2 1 0 (by decide) ⟨256 * 3 + k.val, by omega⟩ l := by
  generalize hG : vaV y2 1 0 (by decide) ⟨256 * 3 + k.val, by omega⟩ l = G
  pointwise [Memref.IsWhole.read_unread, View.readAt_eq_ld, kernelRun0_A.sl.v715, kernelRun0_A.sl.v712, kernelRun0_A.sl.v464, kernelRun0_A.sl.cst_163, kernelRun0_A.sl.v705, kernelRun0_A.sl.v463, kernelRun0_A.sl.v461, kernelRun0_A.sl.v459, kernelRun0_A.sl.v60]
  rw [← hG]
  refine (sel_if _ _ (own0 l) _ _).trans ?_
  unfold vaV
  split_ifs
  · blk_point []
  · rfl
/-- Head 1's values in block 3. -/
theorem vp_1_3 (k : Fin 256) (l : Fin 128) :
    (show FVec Ideal S1x256x128 .bf16 from kernelRun0_A.sl.v696 c arg4 harg4 y2) (ix3 0 k l) = vaV y2 0 1 (by decide) ⟨256 * 3 + k.val, by omega⟩ l := by
  generalize hG : vaV y2 0 1 (by decide) ⟨256 * 3 + k.val, by omega⟩ l = G
  pointwise [Memref.IsWhole.read_unread, View.readAt_eq_ld, kernelRun0_A.sl.v696, kernelRun0_A.sl.v693, kernelRun0_A.sl.v464, kernelRun0_A.sl.cst_163, kernelRun0_A.sl.v671, kernelRun0_A.sl.v478, kernelRun0_A.sl.v476, kernelRun0_A.sl.v461, kernelRun0_A.sl.v60]
  rw [← hG]
  refine (sel_if _ _ (own1 l) _ _).trans ?_
  unfold vaV
  split_ifs
  · blk_point []
  · rfl
/-- Head 0's values in block 3. -/
theorem vp_0_3 (k : Fin 256) (l : Fin 128) :
    (show FVec Ideal S1x256x128 .bf16 from kernelRun0_A.sl.v681 c arg4 harg4 y2) (ix3 0 k l) = vaV y2 0 0 (by decide) ⟨256 * 3 + k.val, by omega⟩ l := by
  generalize hG : vaV y2 0 0 (by decide) ⟨256 * 3 + k.val, by omega⟩ l = G
  pointwise [Memref.IsWhole.read_unread, View.readAt_eq_ld, kernelRun0_A.sl.v681, kernelRun0_A.sl.v678, kernelRun0_A.sl.v464, kernelRun0_A.sl.cst_163, kernelRun0_A.sl.v671, kernelRun0_A.sl.v463, kernelRun0_A.sl.v461, kernelRun0_A.sl.v459, kernelRun0_A.sl.v60]
  rw [← hG]
  refine (sel_if _ _ (own0 l) _ _).trans ?_
  unfold vaV
  split_ifs
  · blk_point []
  · rfl
/-- Head 3's values in block 2. -/
theorem vp_3_2 (k : Fin 256) (l : Fin 128) :
    (show FVec Ideal S1x256x128 .bf16 from kernelRun0_A.sl.v659 c arg4 harg4 y2) (ix3 0 k l) = vaV y2 1 1 (by decide) ⟨256 * 2 + k.val, by omega⟩ l := by
  generalize hG : vaV y2 1 1 (by decide) ⟨256 * 2 + k.val, by omega⟩ l = G
  pointwise [Memref.IsWhole.read_unread, View.readAt_eq_ld, kernelRun0_A.sl.v659, kernelRun0_A.sl.v656, kernelRun0_A.sl.v464, kernelRun0_A.sl.cst_163, kernelRun0_A.sl.v634, kernelRun0_A.sl.v478, kernelRun0_A.sl.v476, kernelRun0_A.sl.v461, kernelRun0_A.sl.v60]
  rw [← hG]
  refine (sel_if _ _ (own1 l) _ _).trans ?_
  unfold vaV
  split_ifs
  · blk_point []
  · rfl
/-- Head 2's values in block 2. -/
theorem vp_2_2 (k : Fin 256) (l : Fin 128) :
    (show FVec Ideal S1x256x128 .bf16 from kernelRun0_A.sl.v644 c arg4 harg4 y2) (ix3 0 k l) = vaV y2 1 0 (by decide) ⟨256 * 2 + k.val, by omega⟩ l := by
  generalize hG : vaV y2 1 0 (by decide) ⟨256 * 2 + k.val, by omega⟩ l = G
  pointwise [Memref.IsWhole.read_unread, View.readAt_eq_ld, kernelRun0_A.sl.v644, kernelRun0_A.sl.v641, kernelRun0_A.sl.v464, kernelRun0_A.sl.cst_163, kernelRun0_A.sl.v634, kernelRun0_A.sl.v463, kernelRun0_A.sl.v461, kernelRun0_A.sl.v459, kernelRun0_A.sl.v60]
  rw [← hG]
  refine (sel_if _ _ (own0 l) _ _).trans ?_
  unfold vaV
  split_ifs
  · blk_point []
  · rfl
/-- Head 1's values in block 2. -/
theorem vp_1_2 (k : Fin 256) (l : Fin 128) :
    (show FVec Ideal S1x256x128 .bf16 from kernelRun0_A.sl.v625 c arg4 harg4 y2) (ix3 0 k l) = vaV y2 0 1 (by decide) ⟨256 * 2 + k.val, by omega⟩ l := by
  generalize hG : vaV y2 0 1 (by decide) ⟨256 * 2 + k.val, by omega⟩ l = G
  pointwise [Memref.IsWhole.read_unread, View.readAt_eq_ld, kernelRun0_A.sl.v625, kernelRun0_A.sl.v622, kernelRun0_A.sl.v464, kernelRun0_A.sl.cst_163, kernelRun0_A.sl.v600, kernelRun0_A.sl.v478, kernelRun0_A.sl.v476, kernelRun0_A.sl.v461, kernelRun0_A.sl.v60]
  rw [← hG]
  refine (sel_if _ _ (own1 l) _ _).trans ?_
  unfold vaV
  split_ifs
  · blk_point []
  · rfl
/-- Head 0's values in block 2. -/
theorem vp_0_2 (k : Fin 256) (l : Fin 128) :
    (show FVec Ideal S1x256x128 .bf16 from kernelRun0_A.sl.v610 c arg4 harg4 y2) (ix3 0 k l) = vaV y2 0 0 (by decide) ⟨256 * 2 + k.val, by omega⟩ l := by
  generalize hG : vaV y2 0 0 (by decide) ⟨256 * 2 + k.val, by omega⟩ l = G
  pointwise [Memref.IsWhole.read_unread, View.readAt_eq_ld, kernelRun0_A.sl.v610, kernelRun0_A.sl.v607, kernelRun0_A.sl.v464, kernelRun0_A.sl.cst_163, kernelRun0_A.sl.v600, kernelRun0_A.sl.v463, kernelRun0_A.sl.v461, kernelRun0_A.sl.v459, kernelRun0_A.sl.v60]
  rw [← hG]
  refine (sel_if _ _ (own0 l) _ _).trans ?_
  unfold vaV
  split_ifs
  · blk_point []
  · rfl
/-- Head 3's values in block 1. -/
theorem vp_3_1 (k : Fin 256) (l : Fin 128) :
    (show FVec Ideal S1x256x128 .bf16 from kernelRun0_A.sl.v588 c arg4 harg4 y2) (ix3 0 k l) = vaV y2 1 1 (by decide) ⟨256 * 1 + k.val, by omega⟩ l := by
  generalize hG : vaV y2 1 1 (by decide) ⟨256 * 1 + k.val, by omega⟩ l = G
  pointwise [Memref.IsWhole.read_unread, View.readAt_eq_ld, kernelRun0_A.sl.v588, kernelRun0_A.sl.v585, kernelRun0_A.sl.v464, kernelRun0_A.sl.cst_163, kernelRun0_A.sl.v563, kernelRun0_A.sl.v478, kernelRun0_A.sl.v476, kernelRun0_A.sl.v461, kernelRun0_A.sl.v60]
  rw [← hG]
  refine (sel_if _ _ (own1 l) _ _).trans ?_
  unfold vaV
  split_ifs
  · blk_point []
  · rfl
/-- Head 2's values in block 1. -/
theorem vp_2_1 (k : Fin 256) (l : Fin 128) :
    (show FVec Ideal S1x256x128 .bf16 from kernelRun0_A.sl.v573 c arg4 harg4 y2) (ix3 0 k l) = vaV y2 1 0 (by decide) ⟨256 * 1 + k.val, by omega⟩ l := by
  generalize hG : vaV y2 1 0 (by decide) ⟨256 * 1 + k.val, by omega⟩ l = G
  pointwise [Memref.IsWhole.read_unread, View.readAt_eq_ld, kernelRun0_A.sl.v573, kernelRun0_A.sl.v570, kernelRun0_A.sl.v464, kernelRun0_A.sl.cst_163, kernelRun0_A.sl.v563, kernelRun0_A.sl.v463, kernelRun0_A.sl.v461, kernelRun0_A.sl.v459, kernelRun0_A.sl.v60]
  rw [← hG]
  refine (sel_if _ _ (own0 l) _ _).trans ?_
  unfold vaV
  split_ifs
  · blk_point []
  · rfl
/-- Head 1's values in block 1. -/
theorem vp_1_1 (k : Fin 256) (l : Fin 128) :
    (show FVec Ideal S1x256x128 .bf16 from kernelRun0_A.sl.v554 c arg4 harg4 y2) (ix3 0 k l) = vaV y2 0 1 (by decide) ⟨256 * 1 + k.val, by omega⟩ l := by
  generalize hG : vaV y2 0 1 (by decide) ⟨256 * 1 + k.val, by omega⟩ l = G
  pointwise [Memref.IsWhole.read_unread, View.readAt_eq_ld, kernelRun0_A.sl.v554, kernelRun0_A.sl.v551, kernelRun0_A.sl.v464, kernelRun0_A.sl.cst_163, kernelRun0_A.sl.v529, kernelRun0_A.sl.v478, kernelRun0_A.sl.v476, kernelRun0_A.sl.v461, kernelRun0_A.sl.v60]
  rw [← hG]
  refine (sel_if _ _ (own1 l) _ _).trans ?_
  unfold vaV
  split_ifs
  · blk_point []
  · rfl
/-- Head 0's values in block 1. -/
theorem vp_0_1 (k : Fin 256) (l : Fin 128) :
    (show FVec Ideal S1x256x128 .bf16 from kernelRun0_A.sl.v539 c arg4 harg4 y2) (ix3 0 k l) = vaV y2 0 0 (by decide) ⟨256 * 1 + k.val, by omega⟩ l := by
  generalize hG : vaV y2 0 0 (by decide) ⟨256 * 1 + k.val, by omega⟩ l = G
  pointwise [Memref.IsWhole.read_unread, View.readAt_eq_ld, kernelRun0_A.sl.v539, kernelRun0_A.sl.v536, kernelRun0_A.sl.v464, kernelRun0_A.sl.cst_163, kernelRun0_A.sl.v529, kernelRun0_A.sl.v463, kernelRun0_A.sl.v461, kernelRun0_A.sl.v459, kernelRun0_A.sl.v60]
  rw [← hG]
  refine (sel_if _ _ (own0 l) _ _).trans ?_
  unfold vaV
  split_ifs
  · blk_point []
  · rfl
/-- Head 3's values in block 0. -/
theorem vp_3_0 (k : Fin 256) (l : Fin 128) :
    (show FVec Ideal S1x256x128 .bf16 from kernelRun0_A.sl.v517 c arg4 harg4 y2) (ix3 0 k l) = vaV y2 1 1 (by decide) ⟨256 * 0 + k.val, by omega⟩ l := by
  generalize hG : vaV y2 1 1 (by decide) ⟨256 * 0 + k.val, by omega⟩ l = G
  pointwise [Memref.IsWhole.read_unread, View.readAt_eq_ld, kernelRun0_A.sl.v517, kernelRun0_A.sl.v514, kernelRun0_A.sl.v464, kernelRun0_A.sl.cst_163, kernelRun0_A.sl.v492, kernelRun0_A.sl.v478, kernelRun0_A.sl.v476, kernelRun0_A.sl.v461, kernelRun0_A.sl.v60]
  rw [← hG]
  refine (sel_if _ _ (own1 l) _ _).trans ?_
  unfold vaV
  split_ifs
  · blk_point []
  · rfl
/-- Head 2's values in block 0. -/
theorem vp_2_0 (k : Fin 256) (l : Fin 128) :
    (show FVec Ideal S1x256x128 .bf16 from kernelRun0_A.sl.v502 c arg4 harg4 y2) (ix3 0 k l) = vaV y2 1 0 (by decide) ⟨256 * 0 + k.val, by omega⟩ l := by
  generalize hG : vaV y2 1 0 (by decide) ⟨256 * 0 + k.val, by omega⟩ l = G
  pointwise [Memref.IsWhole.read_unread, View.readAt_eq_ld, kernelRun0_A.sl.v502, kernelRun0_A.sl.v499, kernelRun0_A.sl.v464, kernelRun0_A.sl.cst_163, kernelRun0_A.sl.v492, kernelRun0_A.sl.v463, kernelRun0_A.sl.v461, kernelRun0_A.sl.v459, kernelRun0_A.sl.v60]
  rw [← hG]
  refine (sel_if _ _ (own0 l) _ _).trans ?_
  unfold vaV
  split_ifs
  · blk_point []
  · rfl
/-- Head 1's values in block 0. -/
theorem vp_1_0 (k : Fin 256) (l : Fin 128) :
    (show FVec Ideal S1x256x128 .bf16 from kernelRun0_A.sl.v483 c arg4 harg4 y2) (ix3 0 k l) = vaV y2 0 1 (by decide) ⟨256 * 0 + k.val, by omega⟩ l := by
  generalize hG : vaV y2 0 1 (by decide) ⟨256 * 0 + k.val, by omega⟩ l = G
  pointwise [Memref.IsWhole.read_unread, View.readAt_eq_ld, kernelRun0_A.sl.v483, kernelRun0_A.sl.v480, kernelRun0_A.sl.v464, kernelRun0_A.sl.cst_163, kernelRun0_A.sl.v458, kernelRun0_A.sl.v478, kernelRun0_A.sl.v476, kernelRun0_A.sl.v461, kernelRun0_A.sl.v60]
  rw [← hG]
  refine (sel_if _ _ (own1 l) _ _).trans ?_
  unfold vaV
  split_ifs
  · blk_point []
  · rfl
/-- Head 0's values in block 0. -/
theorem vp_0_0 (k : Fin 256) (l : Fin 128) :
    (show FVec Ideal S1x256x128 .bf16 from kernelRun0_A.sl.v468 c arg4 harg4 y2) (ix3 0 k l) = vaV y2 0 0 (by decide) ⟨256 * 0 + k.val, by omega⟩ l := by
  generalize hG : vaV y2 0 0 (by decide) ⟨256 * 0 + k.val, by omega⟩ l = G
  pointwise [Memref.IsWhole.read_unread, View.readAt_eq_ld, kernelRun0_A.sl.v468, kernelRun0_A.sl.v465, kernelRun0_A.sl.v464, kernelRun0_A.sl.cst_163, kernelRun0_A.sl.v458, kernelRun0_A.sl.v463, kernelRun0_A.sl.v461, kernelRun0_A.sl.v459, kernelRun0_A.sl.v60]
  rw [← hG]
  refine (sel_if _ _ (own0 l) _ _).trans ?_
  unfold vaV
  split_ifs
  · blk_point []
  · rfl
/-- The keys' array. -/
theorem kaArr (hz : HZ y3 y4 Z) (hs : SelK y6) (h : Fin 4) (s : Fin 2048) (l : Fin 128) :
    View.canon (kernelRun0_A.sl.HS0_32 c arg3 harg3 arg5 harg5 arg6 harg6 arg8 harg8 y1 y3 y4 y6) (ix3 h s l) = kaV y1 Z (h.val / 2) (h.val % 2) (by omega) s l := by
  unfold kernelRun0_A.sl.HS0_32
  canon_tiles w hw
  · idx_vars w
    obtain rfl : w0 = 0 := Subsingleton.elim _ _
    obtain rfl : h = 3 := Fin.ext (by show h.val = 3; omega)
    obtain rfl : l = w2 := Fin.ext (by omega)
    obtain rfl : s = ⟨256 * 7 + w1.val, row_lt 7 (by decide) w1⟩ := Fin.ext (by show s.val = 256 * 7 + w1.val; omega)
    exact kp_3_7 c arg3 harg3 arg5 harg5 arg6 harg6 arg8 harg8 y1 y3 y4 y6 Z hz hs w1 l
  · idx_vars w
    obtain rfl : w0 = 0 := Subsingleton.elim _ _
    obtain rfl : h = 2 := Fin.ext (by show h.val = 2; omega)
    obtain rfl : l = w2 := Fin.ext (by omega)
    obtain rfl : s = ⟨256 * 7 + w1.val, row_lt 7 (by decide) w1⟩ := Fin.ext (by show s.val = 256 * 7 + w1.val; omega)
    exact kp_2_7 c arg3 harg3 arg5 harg5 arg6 harg6 arg8 harg8 y1 y3 y4 y6 Z hz hs w1 l
  · idx_vars w
    obtain rfl : w0 = 0 := Subsingleton.elim _ _
    obtain rfl : h = 1 := Fin.ext (by show h.val = 1; omega)
    obtain rfl : l = w2 := Fin.ext (by omega)
    obtain rfl : s = ⟨256 * 7 + w1.val, row_lt 7 (by decide) w1⟩ := Fin.ext (by show s.val = 256 * 7 + w1.val; omega)
    exact kp_1_7 c arg3 harg3 arg5 harg5 arg6 harg6 arg8 harg8 y1 y3 y4 y6 Z hz hs w1 l
  · idx_vars w
    obtain rfl : w0 = 0 := Subsingleton.elim _ _
    obtain rfl : h = 0 := Fin.ext (by show h.val = 0; omega)
    obtain rfl : l = w2 := Fin.ext (by omega)
    obtain rfl : s = ⟨256 * 7 + w1.val, row_lt 7 (by decide) w1⟩ := Fin.ext (by show s.val = 256 * 7 + w1.val; omega)
    exact kp_0_7 c arg3 harg3 arg5 harg5 arg6 harg6 arg8 harg8 y1 y3 y4 y6 Z hz hs w1 l
  · idx_vars w
    obtain rfl : w0 = 0 := Subsingleton.elim _ _
    obtain rfl : h = 3 := Fin.ext (by show h.val = 3; omega)
    obtain rfl : l = w2 := Fin.ext (by omega)
    obtain rfl : s = ⟨256 * 6 + w1.val, row_lt 6 (by decide) w1⟩ := Fin.ext (by show s.val = 256 * 6 + w1.val; omega)
    exact kp_3_6 c arg3 harg3 arg5 harg5 arg6 harg6 arg8 harg8 y1 y3 y4 y6 Z hz hs w1 l
  · idx_vars w
    obtain rfl : w0 = 0 := Subsingleton.elim _ _
    obtain rfl : h = 2 := Fin.ext (by show h.val = 2; omega)
    obtain rfl : l = w2 := Fin.ext (by omega)
    obtain rfl : s = ⟨256 * 6 + w1.val, row_lt 6 (by decide) w1⟩ := Fin.ext (by show s.val = 256 * 6 + w1.val; omega)
    exact kp_2_6 c arg3 harg3 arg5 harg5 arg6 harg6 arg8 harg8 y1 y3 y4 y6 Z hz hs w1 l
  · idx_vars w
    obtain rfl : w0 = 0 := Subsingleton.elim _ _
    obtain rfl : h = 1 := Fin.ext (by show h.val = 1; omega)
    obtain rfl : l = w2 := Fin.ext (by omega)
    obtain rfl : s = ⟨256 * 6 + w1.val, row_lt 6 (by decide) w1⟩ := Fin.ext (by show s.val = 256 * 6 + w1.val; omega)
    exact kp_1_6 c arg3 harg3 arg5 harg5 arg6 harg6 arg8 harg8 y1 y3 y4 y6 Z hz hs w1 l
  · idx_vars w
    obtain rfl : w0 = 0 := Subsingleton.elim _ _
    obtain rfl : h = 0 := Fin.ext (by show h.val = 0; omega)
    obtain rfl : l = w2 := Fin.ext (by omega)
    obtain rfl : s = ⟨256 * 6 + w1.val, row_lt 6 (by decide) w1⟩ := Fin.ext (by show s.val = 256 * 6 + w1.val; omega)
    exact kp_0_6 c arg3 harg3 arg5 harg5 arg6 harg6 arg8 harg8 y1 y3 y4 y6 Z hz hs w1 l
  · idx_vars w
    obtain rfl : w0 = 0 := Subsingleton.elim _ _
    obtain rfl : h = 3 := Fin.ext (by show h.val = 3; omega)
    obtain rfl : l = w2 := Fin.ext (by omega)
    obtain rfl : s = ⟨256 * 5 + w1.val, row_lt 5 (by decide) w1⟩ := Fin.ext (by show s.val = 256 * 5 + w1.val; omega)
    exact kp_3_5 c arg3 harg3 arg5 harg5 arg6 harg6 arg8 harg8 y1 y3 y4 y6 Z hz hs w1 l
  · idx_vars w
    obtain rfl : w0 = 0 := Subsingleton.elim _ _
    obtain rfl : h = 2 := Fin.ext (by show h.val = 2; omega)
    obtain rfl : l = w2 := Fin.ext (by omega)
    obtain rfl : s = ⟨256 * 5 + w1.val, row_lt 5 (by decide) w1⟩ := Fin.ext (by show s.val = 256 * 5 + w1.val; omega)
    exact kp_2_5 c arg3 harg3 arg5 harg5 arg6 harg6 arg8 harg8 y1 y3 y4 y6 Z hz hs w1 l
  · idx_vars w
    obtain rfl : w0 = 0 := Subsingleton.elim _ _
    obtain rfl : h = 1 := Fin.ext (by show h.val = 1; omega)
    obtain rfl : l = w2 := Fin.ext (by omega)
    obtain rfl : s = ⟨256 * 5 + w1.val, row_lt 5 (by decide) w1⟩ := Fin.ext (by show s.val = 256 * 5 + w1.val; omega)
    exact kp_1_5 c arg3 harg3 arg5 harg5 arg6 harg6 arg8 harg8 y1 y3 y4 y6 Z hz hs w1 l
  · idx_vars w
    obtain rfl : w0 = 0 := Subsingleton.elim _ _
    obtain rfl : h = 0 := Fin.ext (by show h.val = 0; omega)
    obtain rfl : l = w2 := Fin.ext (by omega)
    obtain rfl : s = ⟨256 * 5 + w1.val, row_lt 5 (by decide) w1⟩ := Fin.ext (by show s.val = 256 * 5 + w1.val; omega)
    exact kp_0_5 c arg3 harg3 arg5 harg5 arg6 harg6 arg8 harg8 y1 y3 y4 y6 Z hz hs w1 l
  · idx_vars w
    obtain rfl : w0 = 0 := Subsingleton.elim _ _
    obtain rfl : h = 3 := Fin.ext (by show h.val = 3; omega)
    obtain rfl : l = w2 := Fin.ext (by omega)
    obtain rfl : s = ⟨256 * 4 + w1.val, row_lt 4 (by decide) w1⟩ := Fin.ext (by show s.val = 256 * 4 + w1.val; omega)
    exact kp_3_4 c arg3 harg3 arg5 harg5 arg6 harg6 arg8 harg8 y1 y3 y4 y6 Z hz hs w1 l
  · idx_vars w
    obtain rfl : w0 = 0 := Subsingleton.elim _ _
    obtain rfl : h = 2 := Fin.ext (by show h.val = 2; omega)
    obtain rfl : l = w2 := Fin.ext (by omega)
    obtain rfl : s = ⟨256 * 4 + w1.val, row_lt 4 (by decide) w1⟩ := Fin.ext (by show s.val = 256 * 4 + w1.val; omega)
    exact kp_2_4 c arg3 harg3 arg5 harg5 arg6 harg6 arg8 harg8 y1 y3 y4 y6 Z hz hs w1 l
  · idx_vars w
    obtain rfl : w0 = 0 := Subsingleton.elim _ _
    obtain rfl : h = 1 := Fin.ext (by show h.val = 1; omega)
    obtain rfl : l = w2 := Fin.ext (by omega)
    obtain rfl : s = ⟨256 * 4 + w1.val, row_lt 4 (by decide) w1⟩ := Fin.ext (by show s.val = 256 * 4 + w1.val; omega)
    exact kp_1_4 c arg3 harg3 arg5 harg5 arg6 harg6 arg8 harg8 y1 y3 y4 y6 Z hz hs w1 l
  · idx_vars w
    obtain rfl : w0 = 0 := Subsingleton.elim _ _
    obtain rfl : h = 0 := Fin.ext (by show h.val = 0; omega)
    obtain rfl : l = w2 := Fin.ext (by omega)
    obtain rfl : s = ⟨256 * 4 + w1.val, row_lt 4 (by decide) w1⟩ := Fin.ext (by show s.val = 256 * 4 + w1.val; omega)
    exact kp_0_4 c arg3 harg3 arg5 harg5 arg6 harg6 arg8 harg8 y1 y3 y4 y6 Z hz hs w1 l
  · idx_vars w
    obtain rfl : w0 = 0 := Subsingleton.elim _ _
    obtain rfl : h = 3 := Fin.ext (by show h.val = 3; omega)
    obtain rfl : l = w2 := Fin.ext (by omega)
    obtain rfl : s = ⟨256 * 3 + w1.val, row_lt 3 (by decide) w1⟩ := Fin.ext (by show s.val = 256 * 3 + w1.val; omega)
    exact kp_3_3 c arg3 harg3 arg5 harg5 arg6 harg6 arg8 harg8 y1 y3 y4 y6 Z hz hs w1 l
  · idx_vars w
    obtain rfl : w0 = 0 := Subsingleton.elim _ _
    obtain rfl : h = 2 := Fin.ext (by show h.val = 2; omega)
    obtain rfl : l = w2 := Fin.ext (by omega)
    obtain rfl : s = ⟨256 * 3 + w1.val, row_lt 3 (by decide) w1⟩ := Fin.ext (by show s.val = 256 * 3 + w1.val; omega)
    exact kp_2_3 c arg3 harg3 arg5 harg5 arg6 harg6 arg8 harg8 y1 y3 y4 y6 Z hz hs w1 l
  · idx_vars w
    obtain rfl : w0 = 0 := Subsingleton.elim _ _
    obtain rfl : h = 1 := Fin.ext (by show h.val = 1; omega)
    obtain rfl : l = w2 := Fin.ext (by omega)
    obtain rfl : s = ⟨256 * 3 + w1.val, row_lt 3 (by decide) w1⟩ := Fin.ext (by show s.val = 256 * 3 + w1.val; omega)
    exact kp_1_3 c arg3 harg3 arg5 harg5 arg6 harg6 arg8 harg8 y1 y3 y4 y6 Z hz hs w1 l
  · idx_vars w
    obtain rfl : w0 = 0 := Subsingleton.elim _ _
    obtain rfl : h = 0 := Fin.ext (by show h.val = 0; omega)
    obtain rfl : l = w2 := Fin.ext (by omega)
    obtain rfl : s = ⟨256 * 3 + w1.val, row_lt 3 (by decide) w1⟩ := Fin.ext (by show s.val = 256 * 3 + w1.val; omega)
    exact kp_0_3 c arg3 harg3 arg5 harg5 arg6 harg6 arg8 harg8 y1 y3 y4 y6 Z hz hs w1 l
  · idx_vars w
    obtain rfl : w0 = 0 := Subsingleton.elim _ _
    obtain rfl : h = 3 := Fin.ext (by show h.val = 3; omega)
    obtain rfl : l = w2 := Fin.ext (by omega)
    obtain rfl : s = ⟨256 * 2 + w1.val, row_lt 2 (by decide) w1⟩ := Fin.ext (by show s.val = 256 * 2 + w1.val; omega)
    exact kp_3_2 c arg3 harg3 arg5 harg5 arg6 harg6 arg8 harg8 y1 y3 y4 y6 Z hz hs w1 l
  · idx_vars w
    obtain rfl : w0 = 0 := Subsingleton.elim _ _
    obtain rfl : h = 2 := Fin.ext (by show h.val = 2; omega)
    obtain rfl : l = w2 := Fin.ext (by omega)
    obtain rfl : s = ⟨256 * 2 + w1.val, row_lt 2 (by decide) w1⟩ := Fin.ext (by show s.val = 256 * 2 + w1.val; omega)
    exact kp_2_2 c arg3 harg3 arg5 harg5 arg6 harg6 arg8 harg8 y1 y3 y4 y6 Z hz hs w1 l
  · idx_vars w
    obtain rfl : w0 = 0 := Subsingleton.elim _ _
    obtain rfl : h = 1 := Fin.ext (by show h.val = 1; omega)
    obtain rfl : l = w2 := Fin.ext (by omega)
    obtain rfl : s = ⟨256 * 2 + w1.val, row_lt 2 (by decide) w1⟩ := Fin.ext (by show s.val = 256 * 2 + w1.val; omega)
    exact kp_1_2 c arg3 harg3 arg5 harg5 arg6 harg6 arg8 harg8 y1 y3 y4 y6 Z hz hs w1 l
  · idx_vars w
    obtain rfl : w0 = 0 := Subsingleton.elim _ _
    obtain rfl : h = 0 := Fin.ext (by show h.val = 0; omega)
    obtain rfl : l = w2 := Fin.ext (by omega)
    obtain rfl : s = ⟨256 * 2 + w1.val, row_lt 2 (by decide) w1⟩ := Fin.ext (by show s.val = 256 * 2 + w1.val; omega)
    exact kp_0_2 c arg3 harg3 arg5 harg5 arg6 harg6 arg8 harg8 y1 y3 y4 y6 Z hz hs w1 l
  · idx_vars w
    obtain rfl : w0 = 0 := Subsingleton.elim _ _
    obtain rfl : h = 3 := Fin.ext (by show h.val = 3; omega)
    obtain rfl : l = w2 := Fin.ext (by omega)
    obtain rfl : s = ⟨256 * 1 + w1.val, row_lt 1 (by decide) w1⟩ := Fin.ext (by show s.val = 256 * 1 + w1.val; omega)
    exact kp_3_1 c arg3 harg3 arg5 harg5 arg6 harg6 arg8 harg8 y1 y3 y4 y6 Z hz hs w1 l
  · idx_vars w
    obtain rfl : w0 = 0 := Subsingleton.elim _ _
    obtain rfl : h = 2 := Fin.ext (by show h.val = 2; omega)
    obtain rfl : l = w2 := Fin.ext (by omega)
    obtain rfl : s = ⟨256 * 1 + w1.val, row_lt 1 (by decide) w1⟩ := Fin.ext (by show s.val = 256 * 1 + w1.val; omega)
    exact kp_2_1 c arg3 harg3 arg5 harg5 arg6 harg6 arg8 harg8 y1 y3 y4 y6 Z hz hs w1 l
  · idx_vars w
    obtain rfl : w0 = 0 := Subsingleton.elim _ _
    obtain rfl : h = 1 := Fin.ext (by show h.val = 1; omega)
    obtain rfl : l = w2 := Fin.ext (by omega)
    obtain rfl : s = ⟨256 * 1 + w1.val, row_lt 1 (by decide) w1⟩ := Fin.ext (by show s.val = 256 * 1 + w1.val; omega)
    exact kp_1_1 c arg3 harg3 arg5 harg5 arg6 harg6 arg8 harg8 y1 y3 y4 y6 Z hz hs w1 l
  · idx_vars w
    obtain rfl : w0 = 0 := Subsingleton.elim _ _
    obtain rfl : h = 0 := Fin.ext (by show h.val = 0; omega)
    obtain rfl : l = w2 := Fin.ext (by omega)
    obtain rfl : s = ⟨256 * 1 + w1.val, row_lt 1 (by decide) w1⟩ := Fin.ext (by show s.val = 256 * 1 + w1.val; omega)
    exact kp_0_1 c arg3 harg3 arg5 harg5 arg6 harg6 arg8 harg8 y1 y3 y4 y6 Z hz hs w1 l
  · idx_vars w
    obtain rfl : w0 = 0 := Subsingleton.elim _ _
    obtain rfl : h = 3 := Fin.ext (by show h.val = 3; omega)
    obtain rfl : l = w2 := Fin.ext (by omega)
    obtain rfl : s = ⟨256 * 0 + w1.val, row_lt 0 (by decide) w1⟩ := Fin.ext (by show s.val = 256 * 0 + w1.val; omega)
    exact kp_3_0 c arg3 harg3 arg5 harg5 arg6 harg6 arg8 harg8 y1 y3 y4 y6 Z hz hs w1 l
  · idx_vars w
    obtain rfl : w0 = 0 := Subsingleton.elim _ _
    obtain rfl : h = 2 := Fin.ext (by show h.val = 2; omega)
    obtain rfl : l = w2 := Fin.ext (by omega)
    obtain rfl : s = ⟨256 * 0 + w1.val, row_lt 0 (by decide) w1⟩ := Fin.ext (by show s.val = 256 * 0 + w1.val; omega)
    exact kp_2_0 c arg3 harg3 arg5 harg5 arg6 harg6 arg8 harg8 y1 y3 y4 y6 Z hz hs w1 l
  · idx_vars w
    obtain rfl : w0 = 0 := Subsingleton.elim _ _
    obtain rfl : h = 1 := Fin.ext (by show h.val = 1; omega)
    obtain rfl : l = w2 := Fin.ext (by omega)
    obtain rfl : s = ⟨256 * 0 + w1.val, row_lt 0 (by decide) w1⟩ := Fin.ext (by show s.val = 256 * 0 + w1.val; omega)
    exact kp_1_0 c arg3 harg3 arg5 harg5 arg6 harg6 arg8 harg8 y1 y3 y4 y6 Z hz hs w1 l
  · idx_vars w
    obtain rfl : w0 = 0 := Subsingleton.elim _ _
    obtain rfl : h = 0 := Fin.ext (by show h.val = 0; omega)
    obtain rfl : l = w2 := Fin.ext (by omega)
    obtain rfl : s = ⟨256 * 0 + w1.val, row_lt 0 (by decide) w1⟩ := Fin.ext (by show s.val = 256 * 0 + w1.val; omega)
    exact kp_0_0 c arg3 harg3 arg5 harg5 arg6 harg6 arg8 harg8 y1 y3 y4 y6 Z hz hs w1 l
/-- The values' array. -/
theorem vaArr  (h : Fin 4) (s : Fin 2048) (l : Fin 128) :
    View.canon (kernelRun0_A.sl.HS2_32 c arg4 harg4 y2) (ix3 h s l) = vaV y2 (h.val / 2) (h.val % 2) (by omega) s l := by
  unfold kernelRun0_A.sl.HS2_32
  canon_tiles w hw
  · idx_vars w
    obtain rfl : w0 = 0 := Subsingleton.elim _ _
    obtain rfl : h = 3 := Fin.ext (by show h.val = 3; omega)
    obtain rfl : l = w2 := Fin.ext (by omega)
    obtain rfl : s = ⟨256 * 7 + w1.val, row_lt 7 (by decide) w1⟩ := Fin.ext (by show s.val = 256 * 7 + w1.val; omega)
    exact vp_3_7 c arg4 harg4 y2 w1 l
  · idx_vars w
    obtain rfl : w0 = 0 := Subsingleton.elim _ _
    obtain rfl : h = 2 := Fin.ext (by show h.val = 2; omega)
    obtain rfl : l = w2 := Fin.ext (by omega)
    obtain rfl : s = ⟨256 * 7 + w1.val, row_lt 7 (by decide) w1⟩ := Fin.ext (by show s.val = 256 * 7 + w1.val; omega)
    exact vp_2_7 c arg4 harg4 y2 w1 l
  · idx_vars w
    obtain rfl : w0 = 0 := Subsingleton.elim _ _
    obtain rfl : h = 1 := Fin.ext (by show h.val = 1; omega)
    obtain rfl : l = w2 := Fin.ext (by omega)
    obtain rfl : s = ⟨256 * 7 + w1.val, row_lt 7 (by decide) w1⟩ := Fin.ext (by show s.val = 256 * 7 + w1.val; omega)
    exact vp_1_7 c arg4 harg4 y2 w1 l
  · idx_vars w
    obtain rfl : w0 = 0 := Subsingleton.elim _ _
    obtain rfl : h = 0 := Fin.ext (by show h.val = 0; omega)
    obtain rfl : l = w2 := Fin.ext (by omega)
    obtain rfl : s = ⟨256 * 7 + w1.val, row_lt 7 (by decide) w1⟩ := Fin.ext (by show s.val = 256 * 7 + w1.val; omega)
    exact vp_0_7 c arg4 harg4 y2 w1 l
  · idx_vars w
    obtain rfl : w0 = 0 := Subsingleton.elim _ _
    obtain rfl : h = 3 := Fin.ext (by show h.val = 3; omega)
    obtain rfl : l = w2 := Fin.ext (by omega)
    obtain rfl : s = ⟨256 * 6 + w1.val, row_lt 6 (by decide) w1⟩ := Fin.ext (by show s.val = 256 * 6 + w1.val; omega)
    exact vp_3_6 c arg4 harg4 y2 w1 l
  · idx_vars w
    obtain rfl : w0 = 0 := Subsingleton.elim _ _
    obtain rfl : h = 2 := Fin.ext (by show h.val = 2; omega)
    obtain rfl : l = w2 := Fin.ext (by omega)
    obtain rfl : s = ⟨256 * 6 + w1.val, row_lt 6 (by decide) w1⟩ := Fin.ext (by show s.val = 256 * 6 + w1.val; omega)
    exact vp_2_6 c arg4 harg4 y2 w1 l
  · idx_vars w
    obtain rfl : w0 = 0 := Subsingleton.elim _ _
    obtain rfl : h = 1 := Fin.ext (by show h.val = 1; omega)
    obtain rfl : l = w2 := Fin.ext (by omega)
    obtain rfl : s = ⟨256 * 6 + w1.val, row_lt 6 (by decide) w1⟩ := Fin.ext (by show s.val = 256 * 6 + w1.val; omega)
    exact vp_1_6 c arg4 harg4 y2 w1 l
  · idx_vars w
    obtain rfl : w0 = 0 := Subsingleton.elim _ _
    obtain rfl : h = 0 := Fin.ext (by show h.val = 0; omega)
    obtain rfl : l = w2 := Fin.ext (by omega)
    obtain rfl : s = ⟨256 * 6 + w1.val, row_lt 6 (by decide) w1⟩ := Fin.ext (by show s.val = 256 * 6 + w1.val; omega)
    exact vp_0_6 c arg4 harg4 y2 w1 l
  · idx_vars w
    obtain rfl : w0 = 0 := Subsingleton.elim _ _
    obtain rfl : h = 3 := Fin.ext (by show h.val = 3; omega)
    obtain rfl : l = w2 := Fin.ext (by omega)
    obtain rfl : s = ⟨256 * 5 + w1.val, row_lt 5 (by decide) w1⟩ := Fin.ext (by show s.val = 256 * 5 + w1.val; omega)
    exact vp_3_5 c arg4 harg4 y2 w1 l
  · idx_vars w
    obtain rfl : w0 = 0 := Subsingleton.elim _ _
    obtain rfl : h = 2 := Fin.ext (by show h.val = 2; omega)
    obtain rfl : l = w2 := Fin.ext (by omega)
    obtain rfl : s = ⟨256 * 5 + w1.val, row_lt 5 (by decide) w1⟩ := Fin.ext (by show s.val = 256 * 5 + w1.val; omega)
    exact vp_2_5 c arg4 harg4 y2 w1 l
  · idx_vars w
    obtain rfl : w0 = 0 := Subsingleton.elim _ _
    obtain rfl : h = 1 := Fin.ext (by show h.val = 1; omega)
    obtain rfl : l = w2 := Fin.ext (by omega)
    obtain rfl : s = ⟨256 * 5 + w1.val, row_lt 5 (by decide) w1⟩ := Fin.ext (by show s.val = 256 * 5 + w1.val; omega)
    exact vp_1_5 c arg4 harg4 y2 w1 l
  · idx_vars w
    obtain rfl : w0 = 0 := Subsingleton.elim _ _
    obtain rfl : h = 0 := Fin.ext (by show h.val = 0; omega)
    obtain rfl : l = w2 := Fin.ext (by omega)
    obtain rfl : s = ⟨256 * 5 + w1.val, row_lt 5 (by decide) w1⟩ := Fin.ext (by show s.val = 256 * 5 + w1.val; omega)
    exact vp_0_5 c arg4 harg4 y2 w1 l
  · idx_vars w
    obtain rfl : w0 = 0 := Subsingleton.elim _ _
    obtain rfl : h = 3 := Fin.ext (by show h.val = 3; omega)
    obtain rfl : l = w2 := Fin.ext (by omega)
    obtain rfl : s = ⟨256 * 4 + w1.val, row_lt 4 (by decide) w1⟩ := Fin.ext (by show s.val = 256 * 4 + w1.val; omega)
    exact vp_3_4 c arg4 harg4 y2 w1 l
  · idx_vars w
    obtain rfl : w0 = 0 := Subsingleton.elim _ _
    obtain rfl : h = 2 := Fin.ext (by show h.val = 2; omega)
    obtain rfl : l = w2 := Fin.ext (by omega)
    obtain rfl : s = ⟨256 * 4 + w1.val, row_lt 4 (by decide) w1⟩ := Fin.ext (by show s.val = 256 * 4 + w1.val; omega)
    exact vp_2_4 c arg4 harg4 y2 w1 l
  · idx_vars w
    obtain rfl : w0 = 0 := Subsingleton.elim _ _
    obtain rfl : h = 1 := Fin.ext (by show h.val = 1; omega)
    obtain rfl : l = w2 := Fin.ext (by omega)
    obtain rfl : s = ⟨256 * 4 + w1.val, row_lt 4 (by decide) w1⟩ := Fin.ext (by show s.val = 256 * 4 + w1.val; omega)
    exact vp_1_4 c arg4 harg4 y2 w1 l
  · idx_vars w
    obtain rfl : w0 = 0 := Subsingleton.elim _ _
    obtain rfl : h = 0 := Fin.ext (by show h.val = 0; omega)
    obtain rfl : l = w2 := Fin.ext (by omega)
    obtain rfl : s = ⟨256 * 4 + w1.val, row_lt 4 (by decide) w1⟩ := Fin.ext (by show s.val = 256 * 4 + w1.val; omega)
    exact vp_0_4 c arg4 harg4 y2 w1 l
  · idx_vars w
    obtain rfl : w0 = 0 := Subsingleton.elim _ _
    obtain rfl : h = 3 := Fin.ext (by show h.val = 3; omega)
    obtain rfl : l = w2 := Fin.ext (by omega)
    obtain rfl : s = ⟨256 * 3 + w1.val, row_lt 3 (by decide) w1⟩ := Fin.ext (by show s.val = 256 * 3 + w1.val; omega)
    exact vp_3_3 c arg4 harg4 y2 w1 l
  · idx_vars w
    obtain rfl : w0 = 0 := Subsingleton.elim _ _
    obtain rfl : h = 2 := Fin.ext (by show h.val = 2; omega)
    obtain rfl : l = w2 := Fin.ext (by omega)
    obtain rfl : s = ⟨256 * 3 + w1.val, row_lt 3 (by decide) w1⟩ := Fin.ext (by show s.val = 256 * 3 + w1.val; omega)
    exact vp_2_3 c arg4 harg4 y2 w1 l
  · idx_vars w
    obtain rfl : w0 = 0 := Subsingleton.elim _ _
    obtain rfl : h = 1 := Fin.ext (by show h.val = 1; omega)
    obtain rfl : l = w2 := Fin.ext (by omega)
    obtain rfl : s = ⟨256 * 3 + w1.val, row_lt 3 (by decide) w1⟩ := Fin.ext (by show s.val = 256 * 3 + w1.val; omega)
    exact vp_1_3 c arg4 harg4 y2 w1 l
  · idx_vars w
    obtain rfl : w0 = 0 := Subsingleton.elim _ _
    obtain rfl : h = 0 := Fin.ext (by show h.val = 0; omega)
    obtain rfl : l = w2 := Fin.ext (by omega)
    obtain rfl : s = ⟨256 * 3 + w1.val, row_lt 3 (by decide) w1⟩ := Fin.ext (by show s.val = 256 * 3 + w1.val; omega)
    exact vp_0_3 c arg4 harg4 y2 w1 l
  · idx_vars w
    obtain rfl : w0 = 0 := Subsingleton.elim _ _
    obtain rfl : h = 3 := Fin.ext (by show h.val = 3; omega)
    obtain rfl : l = w2 := Fin.ext (by omega)
    obtain rfl : s = ⟨256 * 2 + w1.val, row_lt 2 (by decide) w1⟩ := Fin.ext (by show s.val = 256 * 2 + w1.val; omega)
    exact vp_3_2 c arg4 harg4 y2 w1 l
  · idx_vars w
    obtain rfl : w0 = 0 := Subsingleton.elim _ _
    obtain rfl : h = 2 := Fin.ext (by show h.val = 2; omega)
    obtain rfl : l = w2 := Fin.ext (by omega)
    obtain rfl : s = ⟨256 * 2 + w1.val, row_lt 2 (by decide) w1⟩ := Fin.ext (by show s.val = 256 * 2 + w1.val; omega)
    exact vp_2_2 c arg4 harg4 y2 w1 l
  · idx_vars w
    obtain rfl : w0 = 0 := Subsingleton.elim _ _
    obtain rfl : h = 1 := Fin.ext (by show h.val = 1; omega)
    obtain rfl : l = w2 := Fin.ext (by omega)
    obtain rfl : s = ⟨256 * 2 + w1.val, row_lt 2 (by decide) w1⟩ := Fin.ext (by show s.val = 256 * 2 + w1.val; omega)
    exact vp_1_2 c arg4 harg4 y2 w1 l
  · idx_vars w
    obtain rfl : w0 = 0 := Subsingleton.elim _ _
    obtain rfl : h = 0 := Fin.ext (by show h.val = 0; omega)
    obtain rfl : l = w2 := Fin.ext (by omega)
    obtain rfl : s = ⟨256 * 2 + w1.val, row_lt 2 (by decide) w1⟩ := Fin.ext (by show s.val = 256 * 2 + w1.val; omega)
    exact vp_0_2 c arg4 harg4 y2 w1 l
  · idx_vars w
    obtain rfl : w0 = 0 := Subsingleton.elim _ _
    obtain rfl : h = 3 := Fin.ext (by show h.val = 3; omega)
    obtain rfl : l = w2 := Fin.ext (by omega)
    obtain rfl : s = ⟨256 * 1 + w1.val, row_lt 1 (by decide) w1⟩ := Fin.ext (by show s.val = 256 * 1 + w1.val; omega)
    exact vp_3_1 c arg4 harg4 y2 w1 l
  · idx_vars w
    obtain rfl : w0 = 0 := Subsingleton.elim _ _
    obtain rfl : h = 2 := Fin.ext (by show h.val = 2; omega)
    obtain rfl : l = w2 := Fin.ext (by omega)
    obtain rfl : s = ⟨256 * 1 + w1.val, row_lt 1 (by decide) w1⟩ := Fin.ext (by show s.val = 256 * 1 + w1.val; omega)
    exact vp_2_1 c arg4 harg4 y2 w1 l
  · idx_vars w
    obtain rfl : w0 = 0 := Subsingleton.elim _ _
    obtain rfl : h = 1 := Fin.ext (by show h.val = 1; omega)
    obtain rfl : l = w2 := Fin.ext (by omega)
    obtain rfl : s = ⟨256 * 1 + w1.val, row_lt 1 (by decide) w1⟩ := Fin.ext (by show s.val = 256 * 1 + w1.val; omega)
    exact vp_1_1 c arg4 harg4 y2 w1 l
  · idx_vars w
    obtain rfl : w0 = 0 := Subsingleton.elim _ _
    obtain rfl : h = 0 := Fin.ext (by show h.val = 0; omega)
    obtain rfl : l = w2 := Fin.ext (by omega)
    obtain rfl : s = ⟨256 * 1 + w1.val, row_lt 1 (by decide) w1⟩ := Fin.ext (by show s.val = 256 * 1 + w1.val; omega)
    exact vp_0_1 c arg4 harg4 y2 w1 l
  · idx_vars w
    obtain rfl : w0 = 0 := Subsingleton.elim _ _
    obtain rfl : h = 3 := Fin.ext (by show h.val = 3; omega)
    obtain rfl : l = w2 := Fin.ext (by omega)
    obtain rfl : s = ⟨256 * 0 + w1.val, row_lt 0 (by decide) w1⟩ := Fin.ext (by show s.val = 256 * 0 + w1.val; omega)
    exact vp_3_0 c arg4 harg4 y2 w1 l
  · idx_vars w
    obtain rfl : w0 = 0 := Subsingleton.elim _ _
    obtain rfl : h = 2 := Fin.ext (by show h.val = 2; omega)
    obtain rfl : l = w2 := Fin.ext (by omega)
    obtain rfl : s = ⟨256 * 0 + w1.val, row_lt 0 (by decide) w1⟩ := Fin.ext (by show s.val = 256 * 0 + w1.val; omega)
    exact vp_2_0 c arg4 harg4 y2 w1 l
  · idx_vars w
    obtain rfl : w0 = 0 := Subsingleton.elim _ _
    obtain rfl : h = 1 := Fin.ext (by show h.val = 1; omega)
    obtain rfl : l = w2 := Fin.ext (by omega)
    obtain rfl : s = ⟨256 * 0 + w1.val, row_lt 0 (by decide) w1⟩ := Fin.ext (by show s.val = 256 * 0 + w1.val; omega)
    exact vp_1_0 c arg4 harg4 y2 w1 l
  · idx_vars w
    obtain rfl : w0 = 0 := Subsingleton.elim _ _
    obtain rfl : h = 0 := Fin.ext (by show h.val = 0; omega)
    obtain rfl : l = w2 := Fin.ext (by omega)
    obtain rfl : s = ⟨256 * 0 + w1.val, row_lt 0 (by decide) w1⟩ := Fin.ext (by show s.val = 256 * 0 + w1.val; omega)
    exact vp_0_0 c arg4 harg4 y2 w1 l
/-- The array of the queries' decay lanes. -/
theorem qaArr (hz : HZ y3 y4 Z) (hs : SelQ y5) (s : Fin 2048) (l : Fin 256) :
    View.canon (kernelRun0_A.sl.HS1_8 c arg5 harg5 arg6 harg6 arg7 harg7 y3 y4 y5) (ix2 s l) = ((qaugR (Cum Z s.val) l : ℝ) : EReal) := by
  unfold kernelRun0_A.sl.HS1_8
  canon_tiles w hw
  · idx_vars w
    obtain rfl : l = w1 := Fin.ext (by omega)
    obtain rfl : s = ⟨256 * 7 + w0.val, row_lt 7 (by decide) w0⟩ := Fin.ext (by show s.val = 256 * 7 + w0.val; omega)
    exact qa_7 c arg5 harg5 arg6 harg6 arg7 harg7 y3 y4 y5 Z hz hs w0 l
  · idx_vars w
    obtain rfl : l = w1 := Fin.ext (by omega)
    obtain rfl : s = ⟨256 * 6 + w0.val, row_lt 6 (by decide) w0⟩ := Fin.ext (by show s.val = 256 * 6 + w0.val; omega)
    exact qa_6 c arg5 harg5 arg6 harg6 arg7 harg7 y3 y4 y5 Z hz hs w0 l
  · idx_vars w
    obtain rfl : l = w1 := Fin.ext (by omega)
    obtain rfl : s = ⟨256 * 5 + w0.val, row_lt 5 (by decide) w0⟩ := Fin.ext (by show s.val = 256 * 5 + w0.val; omega)
    exact qa_5 c arg5 harg5 arg6 harg6 arg7 harg7 y3 y4 y5 Z hz hs w0 l
  · idx_vars w
    obtain rfl : l = w1 := Fin.ext (by omega)
    obtain rfl : s = ⟨256 * 4 + w0.val, row_lt 4 (by decide) w0⟩ := Fin.ext (by show s.val = 256 * 4 + w0.val; omega)
    exact qa_4 c arg5 harg5 arg6 harg6 arg7 harg7 y3 y4 y5 Z hz hs w0 l
  · idx_vars w
    obtain rfl : l = w1 := Fin.ext (by omega)
    obtain rfl : s = ⟨256 * 3 + w0.val, row_lt 3 (by decide) w0⟩ := Fin.ext (by show s.val = 256 * 3 + w0.val; omega)
    exact qa_3 c arg5 harg5 arg6 harg6 arg7 harg7 y3 y4 y5 Z hz hs w0 l
  · idx_vars w
    obtain rfl : l = w1 := Fin.ext (by omega)
    obtain rfl : s = ⟨256 * 2 + w0.val, row_lt 2 (by decide) w0⟩ := Fin.ext (by show s.val = 256 * 2 + w0.val; omega)
    exact qa_2 c arg5 harg5 arg6 harg6 arg7 harg7 y3 y4 y5 Z hz hs w0 l
  · idx_vars w
    obtain rfl : l = w1 := Fin.ext (by omega)
    obtain rfl : s = ⟨256 * 1 + w0.val, row_lt 1 (by decide) w0⟩ := Fin.ext (by show s.val = 256 * 1 + w0.val; omega)
    exact qa_1 c arg5 harg5 arg6 harg6 arg7 harg7 y3 y4 y5 Z hz hs w0 l
  · idx_vars w
    obtain rfl : l = w1 := Fin.ext (by omega)
    obtain rfl : s = ⟨256 * 0 + w0.val, row_lt 0 (by decide) w0⟩ := Fin.ext (by show s.val = 256 * 0 + w0.val; omega)
    exact qa_0 c arg5 harg5 arg6 harg6 arg7 harg7 y3 y4 y5 Z hz hs w0 l
end
end Cert.FoxIdeal.RefValue
end
-- ==== Proof.FoxTile.lean ====
module
public import proofs.«01_k».proof.Proof.Gen.FoxIdeal.Value
public import Idealize.ShloMosaic.Lib.Pipeline.ValueKit
public import Idealize.ShloMosaic.Lib.Pipeline.ReadBack
public import Idealize.ShloMosaic.Lib.Pointwise
@[expose] public section
set_option maxRecDepth 16384

noncomputable section
namespace Cert.FoxIdeal.RefValue
open Cert.FoxIdeal Cert.FoxIdeal.Gen Idealize.ShloMosaic Idealize.ShloMosaic.TcCoe Idealize.SL.Sem
variable (m : (ℓ : Loc nD τ sig) → Buf (Elt Ideal) ℓ) (c : Dev nD)

/-- A query lane of a head: the projected value on the head's own lanes `lo ≤ l < hi`, the decay's lanes elsewhere. -/
def qlane (lo hi : BitVec 32) (o : ℕ) (ho : o ≤ 128) (x0 : Vec Ideal S1x512x256 .bf16) (aug : Fin 512 → Fin 256 → EReal) (r : Fin 512) (l : Fin 128) : EReal :=
  Scalar.select (IntOp.andi (IntOp.cmpi .sge (BitVec.ofNat 32 l) lo) (IntOp.cmpi .slt (BitVec.ofNat 32 l) hi))
    (x0 (ix3 0 r ⟨o + l, by omega⟩)) (aug r ⟨o + l, by omega⟩)

/-- A score: the product of a query's lanes with a key's. -/
def score {N : ℕ} (q : Fin 128 → EReal) (ka : Fin N → Fin 128 → EReal) (j : Fin N) : EReal := ∑ l, q l * ka j l

/-- A score of the query's own tile: masked above the diagonal. -/
def ownScore (r : Fin 512) (q : Fin 128 → EReal) (ka : Fin 512 → Fin 128 → EReal) (j : Fin 512) : EReal :=
  Scalar.select (IntOp.cmpi .sge (BitVec.ofNat 32 r) (BitVec.ofNat 32 j)) (score q ka j) (Named.named κ "mask" (0xF149F2CA#32 : BitVec 32) : Ideal .f32)

/-- The largest score of a query. -/
def mx {N : ℕ} (r : Fin 512) (q : Fin 128 → EReal) (ko : Fin 512 → Fin 128 → EReal) (kp : Fin N → Fin 128 → EReal) : EReal :=
  max (Finset.fold max (Ideal.ofBits FTy.f32 4286578688#32) (ownScore r q ko) Finset.univ)
    (Finset.fold max (Ideal.ofBits FTy.f32 4286578688#32) (score q kp) Finset.univ)

/-- The weighted sum of the values over the query's own tile and the tiles before it. -/
def acc {N : ℕ} (r : Fin 512) (q : Fin 128 → EReal) (ko : Fin 512 → Fin 128 → EReal) (kp : Fin N → Fin 128 → EReal)
    (vo : Fin 512 → Fin 128 → EReal) (vp : Fin N → Fin 128 → EReal) (l : Fin 128) : EReal :=
  (∑ j, Ideal.exp (ownScore r q ko j - mx r q ko kp) * vo j l) + ∑ j, Ideal.exp (score q kp j - mx r q ko kp) * vp j l

/-- The lane half a register away. -/
def far (l : Fin 128) : Fin 128 := ⟨(l.val + 128 - 64) % 128, by omega⟩

/-- One half-register of a query's output: head `h0`'s ratio on the low lanes, head `h1`'s on the high ones. -/
def tile {N : ℕ} (hN : N + 512 ≤ 2048) (sK sV : Vec Ideal S4x2048x128 .bf16) (h0 h1 : Fin 4) (r : Fin 512) (q0 q1 : Fin 128 → EReal) (l : Fin 128) : EReal :=
  Scalar.select (IntOp.cmpi .slt (BitVec.ofNat 32 l) 64#32)
    (Ideal.div
      (acc r q0 (fun j l => sK (ix3 h0 ⟨N + j, by omega⟩ l)) (fun (j : Fin N) l => sK (ix3 h0 ⟨j, by omega⟩ l)) (fun j l => sV (ix3 h0 ⟨N + j, by omega⟩ l)) (fun (j : Fin N) l => sV (ix3 h0 ⟨j, by omega⟩ l)) l)
      (acc r q0 (fun j l => sK (ix3 h0 ⟨N + j, by omega⟩ l)) (fun (j : Fin N) l => sK (ix3 h0 ⟨j, by omega⟩ l)) (fun j l => sV (ix3 h0 ⟨N + j, by omega⟩ l)) (fun (j : Fin N) l => sV (ix3 h0 ⟨j, by omega⟩ l)) (far l)))
    (Ideal.div
      (acc r q1 (fun j l => sK (ix3 h1 ⟨N + j, by omega⟩ l)) (fun (j : Fin N) l => sK (ix3 h1 ⟨j, by omega⟩ l)) (fun j l => sV (ix3 h1 ⟨N + j, by omega⟩ l)) (fun (j : Fin N) l => sV (ix3 h1 ⟨j, by omega⟩ l)) l)
      (acc r q1 (fun j l => sK (ix3 h1 ⟨N + j, by omega⟩ l)) (fun (j : Fin N) l => sK (ix3 h1 ⟨j, by omega⟩ l)) (fun j l => sV (ix3 h1 ⟨N + j, by omega⟩ l)) (fun (j : Fin N) l => sV (ix3 h1 ⟨j, by omega⟩ l)) (far l)))

/-- The rows of the decay's lanes a point reads. -/
theorem off1 : ∀ t : Fin cfg0.N, k0_off1 (grid0.coords t) = ![512 * (t.val % 4), 0] := by decide +kernel
/-- Their first row. -/
theorem off1_0 (t : Fin cfg0.N) : k0_off1 (grid0.coords t) 0 = 512 * (t.val % 4) := by rw [off1]; rfl
/-- Their first lane. -/
theorem off1_1 (t : Fin cfg0.N) : k0_off1 (grid0.coords t) 1 = 0 := by rw [off1]; rfl
/-- The same for the high register. -/
theorem off2 : ∀ t : Fin cfg0.N, k0_off2 (grid0.coords t) = ![512 * (t.val % 4), 128] := by decide +kernel
/-- Their first row. -/
theorem off2_0 (t : Fin cfg0.N) : k0_off2 (grid0.coords t) 0 = 512 * (t.val % 4) := by rw [off2]; rfl
/-- Their first lane. -/
theorem off2_1 (t : Fin cfg0.N) : k0_off2 (grid0.coords t) 1 = 128 := by rw [off2]; rfl

/-- A head's query lanes at a point. -/
def q (t : Fin cfg0.N) (lo hi : BitVec 32) (p : Fin 128 → Fin 256) (sQ : Vec Ideal S2048x256 .bf16) (r : Fin 512) (l : Fin 128) : EReal :=
  Scalar.select (IntOp.andi (IntOp.cmpi .sge (BitVec.ofNat 32 l) lo) (IntOp.cmpi .slt (BitVec.ofNat 32 l) hi))
    (iblk m c 0 t (ix3 0 r (p l))) (sQ (ix2 ⟨512 * (t.val % 4) + r, by omega⟩ (p l)))

/-- The lane of the low register. -/
def pl (l : Fin 128) : Fin 256 := ⟨l, by omega⟩
/-- The lane of the high register. -/
def ph (l : Fin 128) : Fin 256 := ⟨128 + l, by omega⟩
set_option maxHeartbeats 1000000 in
/-- The output tile with 1 tiles before it, from the scratch the point reads. -/
theorem out_B (t : Fin cfg0.N) (h0 : ¬t.val % 4 = 0) (h1 : 1 ≤ t.val % 4) (h2 : ¬t.val % 4 ≠ 1) (r : Fin 512) (j : Fin 256) :
   (outsAt0 m c t.val t.isLt).1 (ix3 0 r j) =
     if h : j.val < 128 then tile (N := 512) (by omega) (outsAt0 m c (t.val - 1) (Nat.lt_of_le_of_lt (Nat.sub_le _ _) t.isLt)).2.1 (outsAt0 m c (t.val - 1) (Nat.lt_of_le_of_lt (Nat.sub_le _ _) t.isLt)).2.2.2 0 1 r (q m c t 0#32 64#32 pl (outsAt0 m c (t.val - 1) (Nat.lt_of_le_of_lt (Nat.sub_le _ _) t.isLt)).2.2.1 r) (q m c t 64#32 128#32 pl (outsAt0 m c (t.val - 1) (Nat.lt_of_le_of_lt (Nat.sub_le _ _) t.isLt)).2.2.1 r) ⟨j.val, h⟩
     else tile (N := 512) (by omega) (outsAt0 m c (t.val - 1) (Nat.lt_of_le_of_lt (Nat.sub_le _ _) t.isLt)).2.1 (outsAt0 m c (t.val - 1) (Nat.lt_of_le_of_lt (Nat.sub_le _ _) t.isLt)).2.2.2 2 3 r (q m c t 0#32 64#32 ph (outsAt0 m c (t.val - 1) (Nat.lt_of_le_of_lt (Nat.sub_le _ _) t.isLt)).2.2.1 r) (q m c t 64#32 128#32 ph (outsAt0 m c (t.val - 1) (Nat.lt_of_le_of_lt (Nat.sub_le _ _) t.isLt)).2.2.1 r) ⟨j.val - 128, by omega⟩ := by
  rw [outsAt0_B m c t h0 h1 h2]
  dsimp only
  generalize (outsAt0 m c (t.val - 1) (Nat.lt_of_le_of_lt (Nat.sub_le _ _) t.isLt)) = sc
  unfold out0_B_7
  frame_out
  canon_tiles x hx
  · idx_vars x
    obtain rfl : r = x1 := Fin.ext (by omega)
    refine Eq.trans ?_ (dif_neg (by omega)).symm
    rw [show (⟨j.val - 128, by omega⟩ : Fin 128) = x2 from Fin.ext (by simp; omega)]
    pointwise [read_unread_whole, off1_0, off1_1, off2_0, off2_1, k0_pay1, k0_pay2, k0_pay3, k0_pay4, k0_pay5, k0_pay6, k0_pay7, k0_pay8, k0_pay9, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313]
    unfold tile acc mx ownScore score q far ph
    blk_point []
  · idx_vars x
    obtain rfl : r = x1 := Fin.ext (by omega)
    refine Eq.trans ?_ (dif_pos (by omega)).symm
    rw [show (⟨j.val, by omega⟩ : Fin 128) = x2 from Fin.ext (by simp; omega)]
    pointwise [read_unread_whole, off1_0, off1_1, off2_0, off2_1, k0_pay1, k0_pay2, k0_pay3, k0_pay4, k0_pay5, k0_pay6, k0_pay7, k0_pay8, k0_pay9, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313]
    unfold tile acc mx ownScore score q far pl
    blk_point []
set_option maxHeartbeats 1000000 in
/-- The output tile with 2 tiles before it, from the scratch the point reads. -/
theorem out_C (t : Fin cfg0.N) (h0 : ¬t.val % 4 = 0) (h1 : 1 ≤ t.val % 4) (h2 : t.val % 4 ≠ 1) (h3 : ¬t.val % 4 ≠ 2) (r : Fin 512) (j : Fin 256) :
   (outsAt0 m c t.val t.isLt).1 (ix3 0 r j) =
     if h : j.val < 128 then tile (N := 1024) (by omega) (outsAt0 m c (t.val - 1) (Nat.lt_of_le_of_lt (Nat.sub_le _ _) t.isLt)).2.1 (outsAt0 m c (t.val - 1) (Nat.lt_of_le_of_lt (Nat.sub_le _ _) t.isLt)).2.2.2 0 1 r (q m c t 0#32 64#32 pl (outsAt0 m c (t.val - 1) (Nat.lt_of_le_of_lt (Nat.sub_le _ _) t.isLt)).2.2.1 r) (q m c t 64#32 128#32 pl (outsAt0 m c (t.val - 1) (Nat.lt_of_le_of_lt (Nat.sub_le _ _) t.isLt)).2.2.1 r) ⟨j.val, h⟩
     else tile (N := 1024) (by omega) (outsAt0 m c (t.val - 1) (Nat.lt_of_le_of_lt (Nat.sub_le _ _) t.isLt)).2.1 (outsAt0 m c (t.val - 1) (Nat.lt_of_le_of_lt (Nat.sub_le _ _) t.isLt)).2.2.2 2 3 r (q m c t 0#32 64#32 ph (outsAt0 m c (t.val - 1) (Nat.lt_of_le_of_lt (Nat.sub_le _ _) t.isLt)).2.2.1 r) (q m c t 64#32 128#32 ph (outsAt0 m c (t.val - 1) (Nat.lt_of_le_of_lt (Nat.sub_le _ _) t.isLt)).2.2.1 r) ⟨j.val - 128, by omega⟩ := by
  rw [outsAt0_C m c t h0 h1 h2 h3]
  dsimp only
  generalize (outsAt0 m c (t.val - 1) (Nat.lt_of_le_of_lt (Nat.sub_le _ _) t.isLt)) = sc
  unfold out0_C_7
  frame_out
  canon_tiles x hx
  · idx_vars x
    obtain rfl : r = x1 := Fin.ext (by omega)
    refine Eq.trans ?_ (dif_neg (by omega)).symm
    rw [show (⟨j.val - 128, by omega⟩ : Fin 128) = x2 from Fin.ext (by simp; omega)]
    pointwise [read_unread_whole, off1_0, off1_1, off2_0, off2_1, k0_pay1, k0_pay2, k0_pay3, k0_pay4, k0_pay5, k0_pay6, k0_pay7, k0_pay8, k0_pay9, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313]
    unfold tile acc mx ownScore score q far ph
    blk_point []
  · idx_vars x
    obtain rfl : r = x1 := Fin.ext (by omega)
    refine Eq.trans ?_ (dif_pos (by omega)).symm
    rw [show (⟨j.val, by omega⟩ : Fin 128) = x2 from Fin.ext (by simp; omega)]
    pointwise [read_unread_whole, off1_0, off1_1, off2_0, off2_1, k0_pay1, k0_pay2, k0_pay3, k0_pay4, k0_pay5, k0_pay6, k0_pay7, k0_pay8, k0_pay9, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313]
    unfold tile acc mx ownScore score q far pl
    blk_point []
set_option maxHeartbeats 1000000 in
/-- The output tile with 3 tiles before it, from the scratch the point reads. -/
theorem out_D (t : Fin cfg0.N) (h0 : ¬t.val % 4 = 0) (h1 : 1 ≤ t.val % 4) (h2 : t.val % 4 ≠ 1) (h3 : t.val % 4 ≠ 2) (r : Fin 512) (j : Fin 256) :
   (outsAt0 m c t.val t.isLt).1 (ix3 0 r j) =
     if h : j.val < 128 then tile (N := 1536) (by omega) (outsAt0 m c (t.val - 1) (Nat.lt_of_le_of_lt (Nat.sub_le _ _) t.isLt)).2.1 (outsAt0 m c (t.val - 1) (Nat.lt_of_le_of_lt (Nat.sub_le _ _) t.isLt)).2.2.2 0 1 r (q m c t 0#32 64#32 pl (outsAt0 m c (t.val - 1) (Nat.lt_of_le_of_lt (Nat.sub_le _ _) t.isLt)).2.2.1 r) (q m c t 64#32 128#32 pl (outsAt0 m c (t.val - 1) (Nat.lt_of_le_of_lt (Nat.sub_le _ _) t.isLt)).2.2.1 r) ⟨j.val, h⟩
     else tile (N := 1536) (by omega) (outsAt0 m c (t.val - 1) (Nat.lt_of_le_of_lt (Nat.sub_le _ _) t.isLt)).2.1 (outsAt0 m c (t.val - 1) (Nat.lt_of_le_of_lt (Nat.sub_le _ _) t.isLt)).2.2.2 2 3 r (q m c t 0#32 64#32 ph (outsAt0 m c (t.val - 1) (Nat.lt_of_le_of_lt (Nat.sub_le _ _) t.isLt)).2.2.1 r) (q m c t 64#32 128#32 ph (outsAt0 m c (t.val - 1) (Nat.lt_of_le_of_lt (Nat.sub_le _ _) t.isLt)).2.2.1 r) ⟨j.val - 128, by omega⟩ := by
  rw [outsAt0_D m c t h0 h1 h2 h3]
  dsimp only
  generalize (outsAt0 m c (t.val - 1) (Nat.lt_of_le_of_lt (Nat.sub_le _ _) t.isLt)) = sc
  unfold out0_D_7
  frame_out
  canon_tiles x hx
  · idx_vars x
    obtain rfl : r = x1 := Fin.ext (by omega)
    refine Eq.trans ?_ (dif_neg (by omega)).symm
    rw [show (⟨j.val - 128, by omega⟩ : Fin 128) = x2 from Fin.ext (by simp; omega)]
    pointwise [read_unread_whole, off1_0, off1_1, off2_0, off2_1, k0_pay1, k0_pay2, k0_pay3, k0_pay4, k0_pay5, k0_pay6, k0_pay7, k0_pay8, k0_pay9, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313]
    unfold tile acc mx ownScore score q far ph
    blk_point []
  · idx_vars x
    obtain rfl : r = x1 := Fin.ext (by omega)
    refine Eq.trans ?_ (dif_pos (by omega)).symm
    rw [show (⟨j.val, by omega⟩ : Fin 128) = x2 from Fin.ext (by simp; omega)]
    pointwise [read_unread_whole, off1_0, off1_1, off2_0, off2_1, k0_pay1, k0_pay2, k0_pay3, k0_pay4, k0_pay5, k0_pay6, k0_pay7, k0_pay8, k0_pay9, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313]
    unfold tile acc mx ownScore score q far pl
    blk_point []
end Cert.FoxIdeal.RefValue
end
-- ==== Proof.FoxTileA.lean ====
module
public import proofs.«01_k».proof.Proof.FoxArr
public import proofs.«01_k».proof.Proof.FoxTile
@[expose] public section
set_option maxRecDepth 16384

noncomputable section
namespace Cert.FoxIdeal.RefValue
open Cert.FoxIdeal Cert.FoxIdeal.Gen Idealize.ShloMosaic Idealize.ShloMosaic.TcCoe Idealize.SL.Sem

section
variable (c : Dev nD) (t : Fin cfg0.N) (arg2 : Memref sig .tc .vmem S1x512x256 .bf16) (harg2 : arg2.IsWhole) (arg3 : Memref sig .tc .vmem S1x2048x256 .bf16) (harg3 : arg3.IsWhole) (arg4 : Memref sig .tc .vmem S1x2048x256 .bf16) (harg4 : arg4.IsWhole) (arg5 : Memref sig .tc .vmem S1x2048x128 .f32) (harg5 : arg5.IsWhole) (arg6 : Memref sig .tc .vmem S1x128 .f32) (harg6 : arg6.IsWhole)
  (arg7 : Memref sig .tc .vmem S512x256 .bf16) (harg7 : arg7.IsWhole) (arg8 : Memref sig .tc .vmem S512x256 .bf16) (harg8 : arg8.IsWhole)
  (arg10 : Memref sig .tc .vmem S4x2048x128 .bf16) (arg11 : Memref sig .tc .vmem S2048x256 .bf16) (arg12 : Memref sig .tc .vmem S4x2048x128 .bf16)
  (x0 : Vec Ideal S1x512x256 .bf16) (x1 x2 : Vec Ideal S1x2048x256 .bf16) (x3 : Vec Ideal S1x2048x128 .f32) (x4 : Vec Ideal S1x128 .f32) (x5 : Vec Ideal S512x256 .bf16) (x6 : Vec Ideal S512x256 .bf16)

/-- A read of the queries' decay lanes. -/
theorem v16_at (r : Fin 512) (l : Fin 128) : kernelRun0_A.sl.v16 c (grid0.coords t) arg5 harg5 arg6 harg6 arg7 harg7 arg11 x3 x4 x5 (ix2 r l)
    = View.canon (kernelRun0_A.sl.HS1_8 c arg5 harg5 arg6 harg6 arg7 harg7 x3 x4 x5) (ix2 ⟨512 * (t.val % 4) + r.val, by omega⟩ ⟨l.val, by omega⟩) := by
  unfold kernelRun0_A.sl.v16
  refine (congrFun (View.readCov_eq_canon' arg11.view (kernelRun0_A.sl.HS1_8 c arg5 harg5 arg6 harg6 arg7 harg7 x3 x4 x5) _) _).trans ?_
  refine congrArg (View.canon (kernelRun0_A.sl.HS1_8 c arg5 harg5 arg6 harg6 arg7 harg7 x3 x4 x5)) (funext fun a => Fin.ext ?_)
  fin_cases a <;> simp [LoadRect.idx, off1]
/-- A read of the queries' decay lanes. -/
theorem v36_at (r : Fin 512) (l : Fin 128) : kernelRun0_A.sl.v36 c (grid0.coords t) arg5 harg5 arg6 harg6 arg7 harg7 arg11 x3 x4 x5 (ix2 r l)
    = View.canon (kernelRun0_A.sl.HS1_8 c arg5 harg5 arg6 harg6 arg7 harg7 x3 x4 x5) (ix2 ⟨512 * (t.val % 4) + r.val, by omega⟩ ⟨128 + l.val, by omega⟩) := by
  unfold kernelRun0_A.sl.v36
  refine (congrFun (View.readCov_eq_canon' arg11.view (kernelRun0_A.sl.HS1_8 c arg5 harg5 arg6 harg6 arg7 harg7 x3 x4 x5) _) _).trans ?_
  refine congrArg (View.canon (kernelRun0_A.sl.HS1_8 c arg5 harg5 arg6 harg6 arg7 harg7 x3 x4 x5)) (funext fun a => Fin.ext ?_)
  fin_cases a <;> simp [LoadRect.idx, off2]
/-- A read of head 0's lanes in the query's own tile. -/
theorem v54_1_at (r : Fin 512) (l : Fin 128) : kernelRun0_A.sl.v54_1 c arg3 harg3 arg5 harg5 arg6 harg6 arg8 harg8 arg10 x1 x3 x4 x6 (ix3 0 r l)
    = View.canon (kernelRun0_A.sl.HS0_32 c arg3 harg3 arg5 harg5 arg6 harg6 arg8 harg8 x1 x3 x4 x6) (ix3 0 ⟨0 + r.val, by omega⟩ l) := by
  unfold kernelRun0_A.sl.v54_1
  refine (congrFun (View.readCov_eq_canon' _ (kernelRun0_A.sl.HS0_32 c arg3 harg3 arg5 harg5 arg6 harg6 arg8 harg8 x1 x3 x4 x6) _) _).trans ?_
  refine congrArg (View.canon (kernelRun0_A.sl.HS0_32 c arg3 harg3 arg5 harg5 arg6 harg6 arg8 harg8 x1 x3 x4 x6)) (funext fun a => Fin.ext ?_)
  fin_cases a <;> simp [LoadRect.idx]
/-- A read of head 1's lanes in the query's own tile. -/
theorem v59_1_at (r : Fin 512) (l : Fin 128) : kernelRun0_A.sl.v59_1 c arg3 harg3 arg5 harg5 arg6 harg6 arg8 harg8 arg10 x1 x3 x4 x6 (ix3 0 r l)
    = View.canon (kernelRun0_A.sl.HS0_32 c arg3 harg3 arg5 harg5 arg6 harg6 arg8 harg8 x1 x3 x4 x6) (ix3 1 ⟨0 + r.val, by omega⟩ l) := by
  unfold kernelRun0_A.sl.v59_1
  refine (congrFun (View.readCov_eq_canon' _ (kernelRun0_A.sl.HS0_32 c arg3 harg3 arg5 harg5 arg6 harg6 arg8 harg8 x1 x3 x4 x6) _) _).trans ?_
  refine congrArg (View.canon (kernelRun0_A.sl.HS0_32 c arg3 harg3 arg5 harg5 arg6 harg6 arg8 harg8 x1 x3 x4 x6)) (funext fun a => Fin.ext ?_)
  fin_cases a <;> simp [LoadRect.idx]
/-- A read of head 2's lanes in the query's own tile. -/
theorem v64_1_at (r : Fin 512) (l : Fin 128) : kernelRun0_A.sl.v64_1 c arg3 harg3 arg5 harg5 arg6 harg6 arg8 harg8 arg10 x1 x3 x4 x6 (ix3 0 r l)
    = View.canon (kernelRun0_A.sl.HS0_32 c arg3 harg3 arg5 harg5 arg6 harg6 arg8 harg8 x1 x3 x4 x6) (ix3 2 ⟨0 + r.val, by omega⟩ l) := by
  unfold kernelRun0_A.sl.v64_1
  refine (congrFun (View.readCov_eq_canon' _ (kernelRun0_A.sl.HS0_32 c arg3 harg3 arg5 harg5 arg6 harg6 arg8 harg8 x1 x3 x4 x6) _) _).trans ?_
  refine congrArg (View.canon (kernelRun0_A.sl.HS0_32 c arg3 harg3 arg5 harg5 arg6 harg6 arg8 harg8 x1 x3 x4 x6)) (funext fun a => Fin.ext ?_)
  fin_cases a <;> simp [LoadRect.idx]
/-- A read of head 3's lanes in the query's own tile. -/
theorem v69_1_at (r : Fin 512) (l : Fin 128) : kernelRun0_A.sl.v69_1 c arg3 harg3 arg5 harg5 arg6 harg6 arg8 harg8 arg10 x1 x3 x4 x6 (ix3 0 r l)
    = View.canon (kernelRun0_A.sl.HS0_32 c arg3 harg3 arg5 harg5 arg6 harg6 arg8 harg8 x1 x3 x4 x6) (ix3 3 ⟨0 + r.val, by omega⟩ l) := by
  unfold kernelRun0_A.sl.v69_1
  refine (congrFun (View.readCov_eq_canon' _ (kernelRun0_A.sl.HS0_32 c arg3 harg3 arg5 harg5 arg6 harg6 arg8 harg8 x1 x3 x4 x6) _) _).trans ?_
  refine congrArg (View.canon (kernelRun0_A.sl.HS0_32 c arg3 harg3 arg5 harg5 arg6 harg6 arg8 harg8 x1 x3 x4 x6)) (funext fun a => Fin.ext ?_)
  fin_cases a <;> simp [LoadRect.idx]
/-- A read of head 0's lanes in the query's own tile. -/
theorem v86_1_at (r : Fin 512) (l : Fin 128) : kernelRun0_A.sl.v86_1 c arg4 harg4 arg12 x2 (ix3 0 r l)
    = View.canon (kernelRun0_A.sl.HS2_32 c arg4 harg4 x2) (ix3 0 ⟨0 + r.val, by omega⟩ l) := by
  unfold kernelRun0_A.sl.v86_1
  refine (congrFun (View.readCov_eq_canon' _ (kernelRun0_A.sl.HS2_32 c arg4 harg4 x2) _) _).trans ?_
  refine congrArg (View.canon (kernelRun0_A.sl.HS2_32 c arg4 harg4 x2)) (funext fun a => Fin.ext ?_)
  fin_cases a <;> simp [LoadRect.idx]
/-- A read of head 1's lanes in the query's own tile. -/
theorem v93_at (r : Fin 512) (l : Fin 128) : kernelRun0_A.sl.v93 c arg4 harg4 arg12 x2 (ix3 0 r l)
    = View.canon (kernelRun0_A.sl.HS2_32 c arg4 harg4 x2) (ix3 1 ⟨0 + r.val, by omega⟩ l) := by
  unfold kernelRun0_A.sl.v93
  refine (congrFun (View.readCov_eq_canon' _ (kernelRun0_A.sl.HS2_32 c arg4 harg4 x2) _) _).trans ?_
  refine congrArg (View.canon (kernelRun0_A.sl.HS2_32 c arg4 harg4 x2)) (funext fun a => Fin.ext ?_)
  fin_cases a <;> simp [LoadRect.idx]
/-- A read of head 2's lanes in the query's own tile. -/
theorem v100_1_at (r : Fin 512) (l : Fin 128) : kernelRun0_A.sl.v100_1 c arg4 harg4 arg12 x2 (ix3 0 r l)
    = View.canon (kernelRun0_A.sl.HS2_32 c arg4 harg4 x2) (ix3 2 ⟨0 + r.val, by omega⟩ l) := by
  unfold kernelRun0_A.sl.v100_1
  refine (congrFun (View.readCov_eq_canon' _ (kernelRun0_A.sl.HS2_32 c arg4 harg4 x2) _) _).trans ?_
  refine congrArg (View.canon (kernelRun0_A.sl.HS2_32 c arg4 harg4 x2)) (funext fun a => Fin.ext ?_)
  fin_cases a <;> simp [LoadRect.idx]
/-- A read of head 3's lanes in the query's own tile. -/
theorem v107_1_at (r : Fin 512) (l : Fin 128) : kernelRun0_A.sl.v107_1 c arg4 harg4 arg12 x2 (ix3 0 r l)
    = View.canon (kernelRun0_A.sl.HS2_32 c arg4 harg4 x2) (ix3 3 ⟨0 + r.val, by omega⟩ l) := by
  unfold kernelRun0_A.sl.v107_1
  refine (congrFun (View.readCov_eq_canon' _ (kernelRun0_A.sl.HS2_32 c arg4 harg4 x2) _) _).trans ?_
  refine congrArg (View.canon (kernelRun0_A.sl.HS2_32 c arg4 harg4 x2)) (funext fun a => Fin.ext ?_)
  fin_cases a <;> simp [LoadRect.idx]
/-- The 32-bit minus infinity. -/
theorem ninf : (Ideal.ofBits FTy.f32 4286578688#32 : EReal) = ⊥ := by
  show Ideal.ieee 8 23 4286578688#32 = ⊥
  unfold Ideal.ieee
  dsimp only
  rw [if_pos (by decide), if_pos (by decide), if_pos (by decide)]
/-- The largest of a value and minus infinity. -/
theorem max_bits (a : EReal) : max a (Ideal.ofBits FTy.f32 4286578688#32 : EReal) = a := by
  rw [show (Ideal.ofBits FTy.f32 4286578688#32 : EReal) = ⊥ from ninf]
  exact max_bot_right a
set_option maxHeartbeats 1000000 in
/-- The first tile's output from the scratch of its point. -/
theorem tileA (r : Fin 512) (j : Fin 256) :
    View.canon ([⟨Rect.unit ![0, 0, 128] ![1, 512, 128] inb_S1x512x256_S1x512x128_0_0_128,
      k0_pay10
        (kernelRun0_A.sl.r_11 c (grid0.coords t) arg2 harg2 arg3 harg3 arg4 harg4 arg5 harg5 arg6 harg6 arg7 harg7
          arg8 harg8 arg10 arg11 arg12 x0 x1 x2 x3 x4 x5 x6)⟩,
    ⟨Rect.unit ![0, 0, 0] S1x512x128.size
        inb_S1x512x256_S1x512x128_0_0_0,
      k0_pay305 k0_pay309
        (kernelRun0_A.sl.r_4 c (grid0.coords t) arg2 harg2 arg3 harg3 arg5 harg5 arg6 harg6 arg7 harg7 arg8 harg8
          arg10 arg11 x0 x1 x3 x4 x5 x6)
        (kernelRun0_A.sl.r_7 c (grid0.coords t) arg2 harg2 arg3 harg3 arg5 harg5 arg6 harg6 arg7 harg7 arg8 harg8
          arg10 arg11 x0 x1 x3 x4 x5 x6)
        (kernelRun0_A.sl.r_10 c (grid0.coords t) arg2 harg2 arg3 harg3 arg5 harg5 arg6 harg6 arg7 harg7 arg8 harg8
          arg10 arg11 x0 x1 x3 x4 x5 x6)
        (kernelRun0_A.sl.v86_1 c arg4 harg4 arg12 x2)
        (kernelRun0_A.sl.v93 c arg4 harg4 arg12 x2)⟩] : List (View.Piece (Elt Ideal) S1x512x256 .bf16)) (ix3 0 r j) =
      if h : j.val < 128 then tile (N := 0) (by omega) (View.canon (kernelRun0_A.sl.HS0_32 c arg3 harg3 arg5 harg5 arg6 harg6 arg8 harg8 x1 x3 x4 x6)) (View.canon (kernelRun0_A.sl.HS2_32 c arg4 harg4 x2)) 0 1 r (fun l => Scalar.select (IntOp.andi (IntOp.cmpi .sge (BitVec.ofNat 32 l.val) 0#32) (IntOp.cmpi .slt (BitVec.ofNat 32 l.val) 64#32)) (x0 (ix3 0 r (pl l))) (View.canon (kernelRun0_A.sl.HS1_8 c arg5 harg5 arg6 harg6 arg7 harg7 x3 x4 x5) (ix2 ⟨512 * (t.val % 4) + r.val, by omega⟩ (pl l)))) (fun l => Scalar.select (IntOp.andi (IntOp.cmpi .sge (BitVec.ofNat 32 l.val) 64#32) (IntOp.cmpi .slt (BitVec.ofNat 32 l.val) 128#32)) (x0 (ix3 0 r (pl l))) (View.canon (kernelRun0_A.sl.HS1_8 c arg5 harg5 arg6 harg6 arg7 harg7 x3 x4 x5) (ix2 ⟨512 * (t.val % 4) + r.val, by omega⟩ (pl l)))) ⟨j.val, h⟩
      else tile (N := 0) (by omega) (View.canon (kernelRun0_A.sl.HS0_32 c arg3 harg3 arg5 harg5 arg6 harg6 arg8 harg8 x1 x3 x4 x6)) (View.canon (kernelRun0_A.sl.HS2_32 c arg4 harg4 x2)) 2 3 r (fun l => Scalar.select (IntOp.andi (IntOp.cmpi .sge (BitVec.ofNat 32 l.val) 0#32) (IntOp.cmpi .slt (BitVec.ofNat 32 l.val) 64#32)) (x0 (ix3 0 r (ph l))) (View.canon (kernelRun0_A.sl.HS1_8 c arg5 harg5 arg6 harg6 arg7 harg7 x3 x4 x5) (ix2 ⟨512 * (t.val % 4) + r.val, by omega⟩ (ph l)))) (fun l => Scalar.select (IntOp.andi (IntOp.cmpi .sge (BitVec.ofNat 32 l.val) 64#32) (IntOp.cmpi .slt (BitVec.ofNat 32 l.val) 128#32)) (x0 (ix3 0 r (ph l))) (View.canon (kernelRun0_A.sl.HS1_8 c arg5 harg5 arg6 harg6 arg7 harg7 x3 x4 x5) (ix2 ⟨512 * (t.val % 4) + r.val, by omega⟩ (ph l)))) ⟨j.val - 128, by omega⟩ := by
  canon_tiles w hw
  · idx_vars w
    obtain rfl : r = w1 := Fin.ext (by omega)
    refine Eq.trans ?_ (dif_neg (by omega)).symm
    rw [show (⟨j.val - 128, by omega⟩ : Fin 128) = w2 from Fin.ext (by simp; omega)]
    pointwise [Memref.IsWhole.read_unread, View.readAt_eq_ld, v16_at, v36_at, v54_1_at, v59_1_at, v64_1_at, v69_1_at, v86_1_at, v93_at, v100_1_at, v107_1_at, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.v5, k0_pay1, k0_pay2, k0_pay3, k0_pay4, k0_pay5, k0_pay6, k0_pay7, k0_pay8, k0_pay9, k0_pay10, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313]
    unfold tile acc mx ownScore score far ph
    simp only [Finset.univ_eq_empty, Finset.sum_empty, Finset.fold_empty, add_zero, max_bits]
    blk_point []
  · idx_vars w
    obtain rfl : r = w1 := Fin.ext (by omega)
    refine Eq.trans ?_ (dif_pos (by omega)).symm
    rw [show (⟨j.val, by omega⟩ : Fin 128) = w2 from Fin.ext (by simp; omega)]
    pointwise [Memref.IsWhole.read_unread, View.readAt_eq_ld, v16_at, v36_at, v54_1_at, v59_1_at, v64_1_at, v69_1_at, v86_1_at, v93_at, v100_1_at, v107_1_at, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.v5, k0_pay1, k0_pay2, k0_pay3, k0_pay4, k0_pay5, k0_pay6, k0_pay7, k0_pay8, k0_pay9, k0_pay10, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313]
    unfold tile acc mx ownScore score far pl
    simp only [Finset.univ_eq_empty, Finset.sum_empty, Finset.fold_empty, add_zero, max_bits]
    blk_point []
end
end Cert.FoxIdeal.RefValue
end
-- ==== Proof.FoxBlock.lean ====
module
public import proofs.«01_k».proof.Proof.FoxSum
public import Idealize.ShloMosaic.Lib.Pipeline.ReadBack
public import Idealize.ShloMosaic.Lib.Tactic.CleanTypes
@[expose] public section
set_option maxRecDepth 16384

noncomputable section
namespace Cert.FoxIdeal.RefValue
open Cert.FoxIdeal Cert.FoxIdeal.Gen Idealize.ShloMosaic Idealize.ShloMosaic.TcCoe Idealize.SL.Sem
variable (m : (ℓ : Loc nD τ sig) → Buf (Elt Ideal) ℓ) (c : Dev nD)

/-- The windows' block numbers at each grid point. -/
theorem idx : ∀ t : Fin cfg0.N, win0_0.index t = ![t.val / 4, t.val % 4, 0] ∧ win0_1.index t = ![t.val / 4, 0, 1] ∧ win0_2.index t = ![t.val / 4, 0, 2]
    ∧ win0_3.index t = ![t.val / 4, 0, 0] ∧ win0_4.index t = ![0, 0] ∧ win0_5.index t = ![0, 0] ∧ win0_6.index t = ![0, 0] ∧ win0_7.index t = ![t.val / 4, t.val % 4, 0] := by
  decide +kernel

/-- The remainder of integer division rounded down, as word operations. -/
def fm (n w : BitVec 32) : BitVec 32 :=
  Scalar.select (IntOp.andi (IntOp.cmpi .ne (IntOp.cmpi .slt (IntOp.remsi .host w (Scalar.select (IntOp.cmpi .eq n 0#32) 1#32 n)) 0#32) (IntOp.cmpi .slt (Scalar.select (IntOp.cmpi .eq n 0#32) 1#32 n) 0#32)) (IntOp.cmpi .ne (IntOp.remsi .host w (Scalar.select (IntOp.cmpi .eq n 0#32) 1#32 n)) 0#32))
    (IntOp.addi (IntOp.remsi .host w (Scalar.select (IntOp.cmpi .eq n 0#32) 1#32 n)) (Scalar.select (IntOp.cmpi .eq n 0#32) 1#32 n))
    (IntOp.remsi .host w (Scalar.select (IntOp.cmpi .eq n 0#32) 1#32 n))

/-- The remainder word, folded. -/
theorem fm_eq (n w : BitVec 32) :
  Scalar.select (IntOp.andi (IntOp.cmpi .ne (IntOp.cmpi .slt (IntOp.remsi .host w (Scalar.select (IntOp.cmpi .eq n 0#32) 1#32 n)) 0#32) (IntOp.cmpi .slt (Scalar.select (IntOp.cmpi .eq n 0#32) 1#32 n) 0#32)) (IntOp.cmpi .ne (IntOp.remsi .host w (Scalar.select (IntOp.cmpi .eq n 0#32) 1#32 n)) 0#32))
    (IntOp.addi (IntOp.remsi .host w (Scalar.select (IntOp.cmpi .eq n 0#32) 1#32 n)) (Scalar.select (IntOp.cmpi .eq n 0#32) 1#32 n))
    (IntOp.remsi .host w (Scalar.select (IntOp.cmpi .eq n 0#32) 1#32 n)) = fm n w := rfl

/-- The quotient of integer division rounded down, as word operations. -/
def fd (n w : BitVec 32) : BitVec 32 :=
  Scalar.select (IntOp.andi (IntOp.cmpi .ne (if w = 0 then (0 : BitVec 32) else if w.msb = true then -1 else 1) (if n = 0 then (0 : BitVec 32) else if n.msb = true then -1 else 1)) (IntOp.cmpi .ne (IntOp.remsi .host w n) 0#32))
    (IntOp.subi (IntOp.divsi .host w n) 1#32) (IntOp.divsi .host w n)

/-- The quotient word, folded. -/
theorem fd_eq (n w : BitVec 32) :
  Scalar.select (IntOp.andi (IntOp.cmpi .ne (if w = 0 then (0 : BitVec 32) else if w.msb = true then -1 else 1) (if n = 0 then (0 : BitVec 32) else if n.msb = true then -1 else 1)) (IntOp.cmpi .ne (IntOp.remsi .host w n) 0#32))
    (IntOp.subi (IntOp.divsi .host w n) 1#32) (IntOp.divsi .host w n) = fd n w := rfl

/-- A column's remainder by 64. -/
theorem fm64 : ∀ l : Fin 256, fm 64#32 (BitVec.ofNat 32 l.val) = BitVec.ofNat 32 (l.val % 64) := by decide +kernel

/-- A column's head. -/
theorem headw : ∀ l : Fin 256, IntOp.subi (IntOp.addi (IntOp.muli 2#32 (fd 128#32 (BitVec.ofNat 32 l.val))) 1#32) (fd 64#32 (fm 128#32 (BitVec.ofNat 32 l.val))) = BitVec.ofNat 32 (hd l) := by decide +kernel

/-- The row a query-side column selects. -/
theorem tgt_q : ∀ l : Fin 256, IntOp.addi (IntOp.addi (IntOp.muli (BitVec.ofNat 32 (l.val % 64)) 128#32) 0#32) (BitVec.ofNat 32 (hd l)) = BitVec.ofNat 32 (l.val % 64 * 128 + hd l) := by decide +kernel

/-- The row a key-side column selects. -/
theorem tgt_k : ∀ l : Fin 256, 3 ≤ l.val % 64 → IntOp.addi (IntOp.addi (IntOp.muli (IntOp.subi (BitVec.ofNat 32 (l.val % 64)) 3#32) 128#32) 0#32) (BitVec.ofNat 32 (hd l)) = BitVec.ofNat 32 ((l.val % 64 - 3) * 128 + hd l) := by decide +kernel

/-- Whether a column is among its half's first three. -/
theorem lt3 : ∀ l : Fin 256, IntOp.cmpi .slt (BitVec.ofNat 32 (l.val % 64)) 3#32 = if l.val % 64 < 3 then 1#1 else 0#1 := by decide +kernel
/-- Whether a column is past its half's first three. -/
theorem ge3 : ∀ l : Fin 256, IntOp.cmpi .sge (BitVec.ofNat 32 (l.val % 64)) 3#32 = if l.val % 64 < 3 then 0#1 else 1#1 := by decide +kernel
/-- Whether a column is among its half's first six. -/
theorem lt6 : ∀ l : Fin 256, IntOp.cmpi .slt (BitVec.ofNat 32 (l.val % 64)) 6#32 = if l.val % 64 < 6 then 1#1 else 0#1 := by decide +kernel

/-- Equality of two small words. -/
theorem eqw (x n : Nat) (hx : x < 2 ^ 32) (hn : n < 2 ^ 32) : IntOp.cmpi .eq (BitVec.ofNat 32 x) (BitVec.ofNat 32 n) = if x = n then 1#1 else 0#1 := by
  have : (BitVec.ofNat 32 x = BitVec.ofNat 32 n) ↔ x = n := by
    constructor
    · intro h
      have := congrArg BitVec.toNat h
      rwa [BitVec.toNat_ofNat, BitVec.toNat_ofNat, Nat.mod_eq_of_lt hx, Nat.mod_eq_of_lt hn] at this
    · rintro rfl; rfl
  by_cases h : x = n
  · subst h; simp [IntOp.cmpi]
  · have h2 := fun e => h (this.1 e)
    simp [IntOp.cmpi, h, beq_eq_false_iff_ne.2 h2]

/-- The pattern of minus one. -/
theorem minus1 : (Ideal.ofBits FTy.f32 3212836864#32 : EReal) = -1 := by
  rw [show (-1 : EReal) = ((-1 : ℝ) : EReal) by rw [EReal.coe_neg]; rfl]
  simp [Ideal.ofBits, Ideal.ieee, -EReal.coe_mul, -EReal.coe_neg]; norm_num

/-- The query side's selector at an entry. -/
theorem selq_word (x : Fin 512) (l : Fin 256) :
  Scalar.select (IntOp.ori (IntOp.andi (IntOp.cmpi .slt (fm 64#32 (BitVec.ofNat 32 l.val)) 3#32)
      (IntOp.cmpi .eq (BitVec.ofNat 32 x.val) (IntOp.addi (IntOp.addi (IntOp.muli (fm 64#32 (BitVec.ofNat 32 l.val)) 128#32) 0#32) (IntOp.subi (IntOp.addi (IntOp.muli 2#32 (fd 128#32 (BitVec.ofNat 32 l.val))) 1#32) (fd 64#32 (fm 128#32 (BitVec.ofNat 32 l.val)))))))
    (IntOp.andi (IntOp.andi (IntOp.cmpi .sge (fm 64#32 (BitVec.ofNat 32 l.val)) 3#32) (IntOp.cmpi .slt (fm 64#32 (BitVec.ofNat 32 l.val)) 6#32)) (IntOp.cmpi .eq (BitVec.ofNat 32 x.val) 384#32))) (1 : EReal) 0
   = ((if l.val % 64 < 6 ∧ x.val = (if l.val % 64 < 3 then l.val % 64 * 128 + hd l else 384) then 1 else 0 : ℝ) : EReal) := by
  have hh := hd_lt l
  rw [headw, fm64, tgt_q, lt3, ge3, lt6, eqw _ _ (by omega) (by omega), eqw _ 384 (by omega) (by omega)]
  generalize l.val % 64 * 128 + hd l = n
  by_cases h3 : l.val % 64 < 3
  · have h6 : l.val % 64 < 6 := by omega
    by_cases hx : x.val = n <;> by_cases hx' : x.val = 384 <;> simp only [h3, h6, hx, hx', if_true, if_false, true_and, false_and] <;> (try split_ifs) <;> simp [Scalar.select, IntOp.andi, IntOp.ori]
  · by_cases h6 : l.val % 64 < 6 <;>
    by_cases hx : x.val = n <;> by_cases hx' : x.val = 384 <;> simp only [h3, h6, hx, hx', if_true, if_false, true_and, false_and] <;> (try split_ifs) <;> simp [Scalar.select, IntOp.andi, IntOp.ori]

/-- The key side's selector at an entry. -/
theorem selk_word (x : Fin 512) (l : Fin 256) :
  Scalar.select (IntOp.andi (IntOp.cmpi .slt (fm 64#32 (BitVec.ofNat 32 l.val)) 3#32) (IntOp.cmpi .eq (BitVec.ofNat 32 x.val) 384#32)) (1 : EReal)
    (Scalar.select (IntOp.andi (IntOp.andi (IntOp.cmpi .sge (fm 64#32 (BitVec.ofNat 32 l.val)) 3#32) (IntOp.cmpi .slt (fm 64#32 (BitVec.ofNat 32 l.val)) 6#32))
      (IntOp.cmpi .eq (BitVec.ofNat 32 x.val) (IntOp.addi (IntOp.addi (IntOp.muli (IntOp.subi (fm 64#32 (BitVec.ofNat 32 l.val)) 3#32) 128#32) 0#32) (IntOp.subi (IntOp.addi (IntOp.muli 2#32 (fd 128#32 (BitVec.ofNat 32 l.val))) 1#32) (fd 64#32 (fm 128#32 (BitVec.ofNat 32 l.val)))))))
      (Ideal.ofBits FTy.f32 3212836864#32) 0)
   = ((if l.val % 64 < 6 ∧ x.val = (if l.val % 64 < 3 then 384 else (l.val % 64 - 3) * 128 + hd l) then (if l.val % 64 < 3 then 1 else -1) else 0 : ℝ) : EReal) := by
  have hh := hd_lt l
  rw [headw, fm64, lt3, ge3, lt6, eqw _ 384 (by omega) (by omega), minus1]
  by_cases h3 : l.val % 64 < 3
  · have h6 : l.val % 64 < 6 := by omega
    by_cases hx' : x.val = 384 <;> simp [h3, h6, hx', Scalar.select, IntOp.andi]
  · rw [tgt_k l (by omega), eqw _ _ (by omega) (by omega)]
    generalize (l.val % 64 - 3) * 128 + hd l = n
    by_cases h6 : l.val % 64 < 6 <;>
    by_cases hx : x.val = n <;> simp only [h3, h6, hx, if_true, if_false, true_and, false_and] <;> (try split_ifs) <;> simp [Scalar.select, IntOp.andi]

/-- The query side's selector as the host prepares it. -/
theorem V_selq : SelQ (V m c main_v49 : Vec Ideal S512x256 .bf16) := by
  intro x l
  refine Eq.trans ?_ (selq_word x l)
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.cons_append, List.nil_append, List.append_nil]
  entry_read
  simp only [StableHlo.TRef.ofBuf_toBuf]
  simp only [StableHlo.TRef.ofBuf, StableHlo.TRef.toBuf, cast_eq]
  clean_types
  generalize hG : Scalar.select _ _ _ = G
  pointwise []
  rw [← hG]
  rfl
/-- The key side's selector as the host prepares it. -/
theorem V_selk : SelK (V m c main_v50 : Vec Ideal S512x256 .bf16) := by
  intro x l
  refine Eq.trans ?_ (selk_word x l)
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.cons_append, List.nil_append, List.append_nil]
  entry_read
  simp only [StableHlo.TRef.ofBuf_toBuf]
  simp only [StableHlo.TRef.ofBuf, StableHlo.TRef.toBuf, cast_eq]
  clean_types
  generalize hG : Scalar.select _ _ _ = G
  pointwise []
  rw [← hG]
  rfl
/-- The queries. -/
abbrev gq : FVec Ideal S16x2048x256 .f32 := m (c, Proc.devRef .tc main_arg0)
/-- The keys. -/
abbrev gk : FVec Ideal S16x2048x256 .f32 := m (c, Proc.devRef .tc main_arg1)
/-- The values. -/
abbrev gv : FVec Ideal S16x2048x256 .f32 := m (c, Proc.devRef .tc main_arg2)
/-- The forget logits. -/
abbrev gf : FVec Ideal S16x2048x4 .f32 := m (c, Proc.devRef .tc main_arg3)
/-- The forget bias. -/
abbrev gb : FVec Ideal S4 .f32 := m (c, Proc.devRef .tc main_arg4)

/-- The packed operand: scaled queries, keys and values side by side. -/
theorem V_v3 : V m c main_v3 = (truncf .bf16 (concatenate S16x2048x768 2 [⟨S16x2048x256, (mulf (gq m c) (broadcastInDim S16x2048x256 ![] bcast_S_S16x2048x256 (constant S_ .f32 0x3E000000#32 : FVec Ideal S_ .f32) : FVec Ideal S16x2048x256 .f32) : FVec Ideal S16x2048x256 .f32)⟩, ⟨S16x2048x256, gk m c⟩, ⟨S16x2048x256, gv m c⟩] concatenates_S16x2048x256_S16x2048x256_S16x2048x256_S16x2048x768_d2 : FVec Ideal S16x2048x768 .f32) bitsLt_bf16_f32 : FVec Ideal S16x2048x768 .bf16) := by
  unfold V
  rw [List.flatten_cons, StableHlo.after_append, StableHlo.after_of_writes_sub (W := [main_call0_v0, main_v4, main_v5, main_c_0, main_call1_v0, main_v6, main_v7, main_v8, main_c_1, main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v9, main_c_2, main_v10, main_v11, main_c_3, main_v12, main_v13, main_c_4, main_call3_v0, main_call3_c, main_call3_v1, main_call3_c_0, main_call3_v2, main_call3_v3, main_call3_v4, main_call3_c_1, main_call3_v5, main_call3_v6, main_call3_c_2, main_call3_v7, main_call3_v8, main_call3_c_3, main_call3_v9, main_call3_v10, main_call3_v11, main_call3_v12, main_call3_v13, main_call3_v14, main_v14, main_c_5, main_call4_v0, main_call4_v1, main_call4_v2, main_call4_v3, main_call4_v4, main_call4_v5, main_call4_v6, main_call4_v7, main_call4_v8, main_call4_c, main_call4_v9, main_call4_v10, main_call4_v11, main_call4_c_0, main_call4_v12, main_call4_v13, main_v15, main_v16, main_c_6, main_call5_v0, main_call5_c, main_call5_v1, main_call5_c_0, main_call5_v2, main_call5_v3, main_call5_v4, main_call5_c_1, main_call5_v5, main_call5_v6, main_call5_c_2, main_call5_v7, main_call5_v8, main_call5_c_3, main_call5_v9, main_call5_v10, main_call5_v11, main_call5_v12, main_call5_v13, main_call5_v14, main_v17, main_c_7, main_v18, main_v19, main_c_8, main_v20, main_v21, main_c_9, main_v22, main_v23, main_c_10, main_v24, main_v25, main_v26, main_c_11, main_v27, main_v28, main_c_12, main_v29, main_v30, main_v31, main_v32, main_c_13, main_v33, main_v34, main_c_14, main_v35, main_v36, main_c_15, main_v37, main_v38, main_v39, main_v40, main_v41, main_v42, main_v43, main_cst_16, main_cst_17, main_call6_v0, main_call6_v1, main_v44, main_v45, main_v46, main_cst_18, main_cst_19, main_call7_v0, main_call7_v1, main_v47, main_cst_20, main_call8_v0, main_v48, main_v49, main_v50]) _ _ (StableHlo.forall_writes_sub_of_map rfl) (by decide)]
  rfl

/-- The pattern of one eighth. -/
theorem eighth : (Ideal.ofBits FTy.f32 1040187392#32 : EReal) = ((1 / 8 : ℝ) : EReal) := by
  simp [Ideal.ofBits, Ideal.ieee, -EReal.coe_mul]; norm_num

/-- A query lane of the packed operand. -/
theorem v3_0 (b : Fin 16) (s : Fin 2048) (j : Fin 256) : (V m c main_v3 : FVec Ideal S16x2048x768 .bf16) (ix3 b s ⟨j.val, by omega⟩) = gq m c (ix3 b s j) * ((1 / 8 : ℝ) : EReal) := by
  rw [V_v3, ← eighth]
  generalize hG : gq m c (ix3 b s j) * _ = G
  pointwise []
  rw [← hG]

/-- A key lane of the packed operand. -/
theorem v3_1 (b : Fin 16) (s : Fin 2048) (j : Fin 256) : (V m c main_v3 : FVec Ideal S16x2048x768 .bf16) (ix3 b s ⟨256 + j.val, by omega⟩) = gk m c (ix3 b s j) := by
  rw [V_v3]
  pointwise []

/-- A value lane of the packed operand. -/
theorem v3_2 (b : Fin 16) (s : Fin 2048) (j : Fin 256) : (V m c main_v3 : FVec Ideal S16x2048x768 .bf16) (ix3 b s ⟨512 + j.val, by omega⟩) = gv m c (ix3 b s j) := by
  rw [V_v3]
  pointwise []
  rw [dif_neg (by omega), dif_neg (by omega)]
  refine congrArg _ ?_
  congr 1
  exact Fin.ext (by show 512 + j.val - 256 - 256 = j.val; omega)

/-- The zero the host pads with. -/
theorem zero_pad : (FloatOps.sitofp (F := Ideal) FTy.f32 0#32 : EReal) = 0 := by simp [FloatOps.sitofp]

/-- The forget logits, padded with zeros to a full row of lanes. -/
theorem v4_at (b : Fin 16) (s : Fin 2048) (j : Fin 128) : (V m c main_v4 : FVec Ideal S16x2048x128 .f32) (ix3 b s j) = if h : j.val < 4 then gf m c (ix3 b s ⟨j.val, h⟩) else 0 := by
  rw [← zero_pad]
  generalize hG : (dite (j.val < 4) _ _ : EReal) = G
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.cons_append, List.nil_append, List.append_nil]
  entry_read
  simp only [StableHlo.TRef.ofBuf_toBuf]
  simp only [StableHlo.TRef.ofBuf, StableHlo.TRef.toBuf, cast_eq]
  clean_types
  pointwise []
  rw [← hG]

/-- The forget bias, padded with zeros to a full row of lanes. -/
theorem v6_at (j : Fin 128) : (V m c main_v6 : FVec Ideal S1x128 .f32) (ix2 0 j) = if h : j.val < 4 then gb m c (ix1 ⟨j.val, h⟩) else 0 := by
  rw [← zero_pad]
  generalize hG : (dite (j.val < 4) _ _ : EReal) = G
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.cons_append, List.nil_append, List.append_nil]
  entry_read
  simp only [StableHlo.TRef.ofBuf_toBuf]
  simp only [StableHlo.TRef.ofBuf, StableHlo.TRef.toBuf, cast_eq]
  clean_types
  pointwise []
  rw [← hG]

variable (t : Fin cfg0.N) (b : Fin 16) (hb : b.val = t.val / 4)
include hb

/-- The queries' block at a grid point. -/
theorem iblk_q (r : Fin 512) (l : Fin 256) : (iblk m c 0 t : FVec Ideal S1x512x256 .bf16) (ix3 0 r l) = gq m c (ix3 b ⟨512 * (t.val % 4) + r.val, by omega⟩ l) * ((1 / 8 : ℝ) : EReal) := by
  rw [← v3_0]
  blk_ext [iblk, idx t]

/-- The keys' block at a grid point. -/
theorem iblk_k (s : Fin 2048) (l : Fin 256) : (iblk m c 1 t : FVec Ideal S1x2048x256 .bf16) (ix3 0 s l) = gk m c (ix3 b s l) := by
  rw [← v3_1]
  blk_ext [iblk, idx t]

/-- The values' block at a grid point. -/
theorem iblk_v (s : Fin 2048) (l : Fin 256) : (iblk m c 2 t : FVec Ideal S1x2048x256 .bf16) (ix3 0 s l) = gv m c (ix3 b s l) := by
  rw [← v3_2]
  blk_ext [iblk, idx t]

/-- The forget logits' block at a grid point. -/
theorem iblk_f (s : Fin 2048) (l : Fin 128) : (iblk m c 3 t : FVec Ideal S1x2048x128 .f32) (ix3 0 s l) = if h : l.val < 4 then gf m c (ix3 b s ⟨l.val, h⟩) else 0 := by
  rw [← v4_at]
  blk_ext [iblk, idx t]

omit hb in
/-- The forget bias's block at a grid point. -/
theorem iblk_b (l : Fin 128) : (iblk m c 4 t : FVec Ideal S1x128 .f32) (ix2 0 l) = if h : l.val < 4 then gb m c (ix1 ⟨l.val, h⟩) else 0 := by
  rw [← v6_at]
  blk_ext [iblk, idx t]

omit hb in
/-- The query side's selector at every grid point. -/
theorem iblk_selq : SelQ (iblk m c 5 t) := fun x l => by
  rw [← V_selq m c x l]
  blk_ext [iblk, idx t]

omit hb in
/-- The key side's selector at every grid point. -/
theorem iblk_selk : SelK (iblk m c 6 t) := fun x l => by
  rw [← V_selk m c x l]
  blk_ext [iblk, idx t]

end Cert.FoxIdeal.RefValue
end
-- ==== Proof.FoxPoint.lean ====
module
public import proofs.«01_k».proof.Proof.FoxTileA
public import proofs.«01_k».proof.Proof.FoxBlock
@[expose] public section
set_option maxRecDepth 16384

noncomputable section
namespace Cert.FoxIdeal.RefValue
open Cert.FoxIdeal Cert.FoxIdeal.Gen Idealize.ShloMosaic Idealize.ShloMosaic.TcCoe Idealize.SL.Sem
variable (m : (ℓ : Loc nD τ sig) → Buf (Elt Ideal) ℓ) (c : Dev nD)

/-- Off a sequence's first point the scratch is the previous point's. -/
theorem carry (t : Fin cfg0.N) (h0 : ¬t.val % 4 = 0) :
    (outsAt0 m c t.val t.isLt).2 = (outsAt0 m c (t.val - 1) (Nat.lt_of_le_of_lt (Nat.sub_le _ _) t.isLt)).2 := by
  by_cases h2 : t.val % 4 ≠ 1
  · by_cases h3 : t.val % 4 ≠ 2
    · rw [outsAt0_D m c t h0 (by omega) h2 h3]; rfl
    · rw [outsAt0_C m c t h0 (by omega) h2 h3]; rfl
  · rw [outsAt0_B m c t h0 (by omega) h2]; rfl

/-- The keys' scratch a sequence's first point leaves. -/
theorem scr_k (t : Fin cfg0.N) (h0 : t.val % 4 = 0) :
    (outsAt0 m c t.val t.isLt).2.1 = View.canon (kernelRun0_A.sl.HS0_32 c (ms0_1 t) (hs0_1 t) (ms0_3 t) (hs0_3 t) (ms0_4 t) (hs0_4 t) (ms0_6 t) (hs0_6 t) (iblk m c 1 t) (iblk m c 3 t) (iblk m c 4 t) (iblk m c 6 t)) := by
  rw [outsAt0_A m c t h0 (by omega)]
  dsimp only
  unfold sout0_A_0
  rw [View.read_writes_junk_eq_canon]
  rfl

/-- The queries' decay scratch a sequence's first point leaves. -/
theorem scr_q (t : Fin cfg0.N) (h0 : t.val % 4 = 0) :
    (outsAt0 m c t.val t.isLt).2.2.1 = View.canon (kernelRun0_A.sl.HS1_8 c (ms0_3 t) (hs0_3 t) (ms0_4 t) (hs0_4 t) (ms0_5 t) (hs0_5 t) (iblk m c 3 t) (iblk m c 4 t) (iblk m c 5 t)) := by
  rw [outsAt0_A m c t h0 (by omega)]
  dsimp only
  unfold sout0_A_1
  rw [View.read_writes_junk_eq_canon]
  rfl

/-- The values' scratch a sequence's first point leaves. -/
theorem scr_v (t : Fin cfg0.N) (h0 : t.val % 4 = 0) :
    (outsAt0 m c t.val t.isLt).2.2.2 = View.canon (kernelRun0_A.sl.HS2_32 c (ms0_2 t) (hs0_2 t) (iblk m c 2 t)) := by
  rw [outsAt0_A m c t h0 (by omega)]
  dsimp only
  unfold sout0_A_2
  rw [View.read_writes_junk_eq_canon]
  rfl

/-- A point's output tile from the scratch it leaves. -/
theorem out_point (t : Fin cfg0.N) (N : ℕ) (hN : N + 512 ≤ 2048) (e : N = 512 * (t.val % 4)) (r : Fin 512) (j : Fin 256) :
    (outsAt0 m c t.val t.isLt).1 (ix3 0 r j) =
     if h : j.val < 128 then tile (N := N) hN (outsAt0 m c t.val t.isLt).2.1 (outsAt0 m c t.val t.isLt).2.2.2 0 1 r (q m c t 0#32 64#32 pl (outsAt0 m c t.val t.isLt).2.2.1 r) (q m c t 64#32 128#32 pl (outsAt0 m c t.val t.isLt).2.2.1 r) ⟨j.val, h⟩
     else tile (N := N) hN (outsAt0 m c t.val t.isLt).2.1 (outsAt0 m c t.val t.isLt).2.2.2 2 3 r (q m c t 0#32 64#32 ph (outsAt0 m c t.val t.isLt).2.2.1 r) (q m c t 64#32 128#32 ph (outsAt0 m c t.val t.isLt).2.2.1 r) ⟨j.val - 128, by omega⟩ := by
  by_cases h0 : t.val % 4 = 0
  · obtain rfl : N = 0 := by omega
    rw [scr_k m c t h0, scr_v m c t h0, scr_q m c t h0, outsAt0_A m c t h0 (by omega)]
    dsimp only
    unfold out0_A_7
    rw [View.read_writes_junk_eq_canon]
    exact tileA c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 scM0_1 scM0_2 (iblk m c 0 t) (iblk m c 1 t) (iblk m c 2 t) (iblk m c 3 t) (iblk m c 4 t) (iblk m c 5 t) (iblk m c 6 t) r j
  · rw [carry m c t h0]
    by_cases h2 : t.val % 4 ≠ 1
    · by_cases h3 : t.val % 4 ≠ 2
      · obtain rfl : N = 1536 := by omega
        exact out_D m c t h0 (by omega) h2 h3 r j
      · obtain rfl : N = 1024 := by omega
        exact out_C m c t h0 (by omega) h2 h3 r j
    · obtain rfl : N = 512 := by omega
      exact out_B m c t h0 (by omega) h2 r j

/-- `Z` holds the log-sigmoids of a sequence's forget gates. -/
def HG (b : Fin 16) (Z : ℕ → Fin 128 → ℝ) : Prop := ∀ (s : Fin 2048) (l : Fin 128),
  lsg ((if h : l.val < 4 then gf m c (ix3 b s ⟨l.val, h⟩) else 0) + (if h : l.val < 4 then gb m c (ix1 ⟨l.val, h⟩) else 0)) = ((Z s.val l : ℝ) : EReal)

/-- The scratch at every point of a sequence: the keys and their decay lanes, the queries' decay lanes, the values and ones. -/
theorem scr (b : Fin 16) (Z : ℕ → Fin 128 → ℝ) (hz : HG m c b Z) : ∀ (k : ℕ) (t : Fin cfg0.N), b.val = t.val / 4 → t.val % 4 = k →
    (∀ (h : Fin 4) (s : Fin 2048) (l : Fin 128), (outsAt0 m c t.val t.isLt).2.1 (ix3 h s l) =
      if l.val / 64 = h.val % 2 then gk m c (ix3 b s ⟨128 * (h.val / 2) + l.val, by omega⟩) else ((kaugR (Cum Z s.val) ⟨128 * (h.val / 2) + l.val, by omega⟩ : ℝ) : EReal))
    ∧ (∀ (h : Fin 4) (s : Fin 2048) (l : Fin 128), (outsAt0 m c t.val t.isLt).2.2.2 (ix3 h s l) =
      if l.val / 64 = h.val % 2 then gv m c (ix3 b s ⟨128 * (h.val / 2) + l.val, by omega⟩) else 1)
    ∧ (∀ (s : Fin 2048) (l : Fin 256), (outsAt0 m c t.val t.isLt).2.2.1 (ix2 s l) = ((qaugR (Cum Z s.val) l : ℝ) : EReal)) := by
  intro k
  induction k with
  | zero =>
    intro t hb h0
    have hz' : HZ (iblk m c 3 t) (iblk m c 4 t) Z := fun s l => by
      have e := hz s l
      rw [← iblk_f m c t b hb, ← iblk_b m c t] at e
      exact e
    refine ⟨fun h s l => ?_, fun h s l => ?_, fun s l => ?_⟩
    · rw [scr_k m c t h0]
      refine (kaArr c _ _ _ _ _ _ _ _ _ _ _ _ Z hz' (iblk_selk m c t) h s l).trans ?_
      unfold kaV
      rw [← iblk_k m c t b hb]
    · rw [scr_v m c t h0]
      refine (vaArr c _ _ _ h s l).trans ?_
      unfold vaV
      rw [← iblk_v m c t b hb]
    · rw [scr_q m c t h0]
      exact qaArr c _ _ _ _ _ _ _ _ _ Z hz' (iblk_selq m c t) s l
  | succ k ih =>
    intro t hb h0
    rw [carry m c t (by omega)]
    exact ih ⟨t.val - 1, Nat.lt_of_le_of_lt (Nat.sub_le _ _) t.isLt⟩ (by show b.val = (t.val - 1) / 4; omega) (by show (t.val - 1) % 4 = k; omega)

end Cert.FoxIdeal.RefValue
end
-- ==== Proof.FoxMath.lean ====
module
public import proofs.«01_k».proof.Proof.FoxPoint
@[expose] public section
set_option maxRecDepth 16384

noncomputable section
namespace Cert.FoxIdeal.RefValue
open Cert.FoxIdeal Cert.FoxIdeal.Gen Idealize.ShloMosaic Idealize.ShloMosaic.TcCoe Idealize.SL.Sem

/-- The masked scores of query `I`, as the reference has them. -/
def msk (s : ℕ → ℝ) (I x : Fin 2048) : EReal :=
  Scalar.select (IntOp.cmpi .sge (BitVec.ofNat 32 I) (BitVec.ofNat 32 x)) ((s x.val : ℝ) : EReal) (Ideal.ofBits FTy.f32 4286578688#32)

/-- The unnormalised weights of query `I`. -/
def wgt (S : Fin 2048 → EReal) (x : Fin 2048) : EReal :=
  Ideal.exp (S x - max (Ideal.ofBits FTy.f32 4286578688#32) (Finset.univ.fold max (Ideal.ofBits FTy.f32 4286578688#32) S))

/-- Attention: the values weighted by the softmax of the masked scores. -/
def attn (S : Fin 2048 → EReal) (V : ℕ → EReal) : EReal :=
  ∑ x : Fin 2048, V x.val * Ideal.div (wgt S x) (∑ y : Fin 2048, wgt S y)

/-- The weight of key `x` for query `I` against the maximum `M`. -/
def ew (s : ℕ → ℝ) (M : ℝ) (I x : ℕ) : ℝ := if x ≤ I then Real.exp (s x - M) else 0

/-- The largest of values that are real or `⊥`, one of them real, is real. -/
theorem fold_real {n : ℕ} (g : Fin n → EReal) (h : ∀ j, g j = ⊥ ∨ ∃ r : ℝ, g j = (r : EReal)) :
    (Finset.univ.fold max (⊥ : EReal) g = ⊥) ∨ ∃ M : ℝ, Finset.univ.fold max (⊥ : EReal) g = (M : EReal) := by
  classical
  have key : ∀ u : Finset (Fin n), (u.fold max (⊥ : EReal) g = ⊥) ∨ ∃ M : ℝ, u.fold max (⊥ : EReal) g = (M : EReal) := by
    intro u
    induction u using Finset.induction_on with
    | empty => left; simp
    | insert a u ha ih =>
      rw [Finset.fold_insert ha]
      rcases h a with e | ⟨r, e⟩ <;> rcases ih with e' | ⟨r', e'⟩ <;> rw [e, e']
      · left; simp
      · right; exact ⟨r', by simp⟩
      · right; exact ⟨r, by simp⟩
      · right; exact ⟨max r r', (EReal.coe_strictMono.monotone.map_max).symm⟩
  exact key _

/-- The same with a real among the values: the maximum is real. -/
theorem fold_some {n : ℕ} (g : Fin n → EReal) (h : ∀ j, g j = ⊥ ∨ ∃ r : ℝ, g j = (r : EReal)) (j0 : Fin n) (r0 : ℝ) (h0 : g j0 = (r0 : EReal)) :
    ∃ M : ℝ, Finset.univ.fold max (⊥ : EReal) g = (M : EReal) := by
  rcases fold_real g h with e | e
  · exfalso
    have hle : g j0 ≤ Finset.univ.fold max (⊥ : EReal) g := Finset.le_fold_max _ |>.2 (Or.inr ⟨j0, Finset.mem_univ _, le_rfl⟩)
    rw [e, h0] at hle
    exact absurd (le_bot_iff.1 hle) (EReal.coe_ne_bot _)
  · exact e

/-- A comparison of two row numbers. -/
theorem sel_le (a b : ℕ) (ha : a < 4096) (hb : b < 4096) (x y : EReal) :
    Scalar.select (IntOp.cmpi .sge (BitVec.ofNat 32 a) (BitVec.ofNat 32 b)) x y = if b ≤ a then x else y := by
  by_cases h : b ≤ a
  · rw [if_pos h, (WordCmp.cmpi_sge_ofNat_eq_one_iff (by norm_num; omega) (by norm_num; omega)).2 h]; rfl
  · rw [if_neg h, (WordCmp.cmpi_sge_ofNat_eq_zero_iff (by norm_num; omega) (by norm_num; omega)).2 h]; rfl

/-- A masked score by cases. -/
theorem msk_eq (s : ℕ → ℝ) (I x : Fin 2048) : msk s I x = if x.val ≤ I.val then ((s x.val : ℝ) : EReal) else ⊥ := by
  unfold msk
  rw [sel_le _ _ (by omega) (by omega), ninf]

/-- An own-tile score by cases. -/
theorem own_eq (r : Fin 512) (q : Fin 128 → EReal) (ka : Fin 512 → Fin 128 → EReal) (j : Fin 512) :
    ownScore r q ka j = if j.val ≤ r.val then score q ka j else ⊥ := by
  unfold ownScore
  rw [sel_le _ _ (by omega) (by omega)]
  rfl

/-- The exponential of a masked score less a real maximum. -/
theorem exp_msk (P : Prop) [Decidable P] (s M : ℝ) :
    Ideal.exp ((if P then (s : EReal) else ⊥) - (M : EReal)) = ((if P then Real.exp (s - M) else 0 : ℝ) : EReal) := by
  split_ifs
  · rw [← EReal.coe_sub]; rfl
  · rw [EReal.bot_sub]; rfl

/-- A real factor times a finite sum of nonnegative real multiples. -/
theorem sum_mul_real {n : ℕ} (f : Fin n → EReal) (a : ℝ) (ha : 0 ≤ a) : (∑ x, f x) * (a : EReal) = ∑ x, f x * (a : EReal) := by
  classical
  have key : ∀ u : Finset (Fin n), (∑ x ∈ u, f x) * (a : EReal) = ∑ x ∈ u, f x * (a : EReal) := by
    intro u
    induction u using Finset.induction_on with
    | empty => simp
    | insert i u hi ih =>
      rw [Finset.sum_insert hi, Finset.sum_insert hi, ← ih]
      exact EReal.right_distrib_of_nonneg_of_ne_top (by exact_mod_cast ha) (EReal.coe_ne_top _) _ _
  exact key _

/-- A ratio of weighted sums does not depend on the weights' scale. -/
theorem ratio {n : ℕ} (w w' : Fin n → ℝ) (a : ℝ) (ha : 0 < a) (hw : ∀ x, w x = a * w' x) (h0 : ∀ x, 0 ≤ w' x) (hp : 0 < ∑ x, w' x) (v : Fin n → EReal) :
    Ideal.div (∑ x, (w x : EReal) * v x) ((∑ x, w x : ℝ) : EReal) = ∑ x, v x * Ideal.div (w' x : EReal) ((∑ y, w' y : ℝ) : EReal) := by
  have hs : ∑ x, w x = a * ∑ x, w' x := by rw [Finset.mul_sum]; exact Finset.sum_congr rfl fun x _ => hw x
  have hpw : 0 < ∑ x, w x := by rw [hs]; exact mul_pos ha hp
  rw [Ideal.div_coe hpw.ne', sum_mul_real _ _ (by positivity)]
  refine Finset.sum_congr rfl fun x _ => ?_
  rw [Ideal.div_coe hp.ne', mul_comm (w x : EReal), mul_assoc, ← EReal.coe_mul, ← EReal.coe_mul]
  refine congrArg (fun z : ℝ => v x * (z : EReal)) ?_
  rw [hs, hw x]
  have := hp.ne'
  field_simp

/-- A sum over the sequence whose terms end after the tile at `N`. -/
theorem split_sum (N : ℕ) (hN : N + 512 ≤ 2048) (F : ℕ → EReal) (h : ∀ x, N + 512 ≤ x → F x = 0) :
    (∑ j : Fin 512, F (N + j.val)) + ∑ j : Fin N, F j.val = ∑ x : Fin 2048, F x.val := by
  rw [Fin.sum_univ_eq_sum_range (fun j => F (N + j)) 512, Fin.sum_univ_eq_sum_range F N, Fin.sum_univ_eq_sum_range F 2048,
    add_comm, ← Finset.sum_range_add F N 512]
  refine (Finset.sum_subset (Finset.range_subset_range.2 hN) fun x _ hx => h x ?_)
  simpa using hx

/-- The kernel's sums run over the keys up to the query. -/
theorem acc_eq (N : ℕ) (hN : N + 512 ≤ 2048) (r : Fin 512) (q : Fin 128 → EReal) (ko : Fin 512 → Fin 128 → EReal) (kp : Fin N → Fin 128 → EReal)
    (vo : Fin 512 → Fin 128 → EReal) (vp : Fin N → Fin 128 → EReal) (l : Fin 128) (s : ℕ → ℝ) (V : ℕ → EReal) (M : ℝ)
    (hM : mx r q ko kp = (M : EReal))
    (hko : ∀ j : Fin 512, score q ko j = ((s (N + j.val) : ℝ) : EReal)) (hkp : ∀ j : Fin N, score q kp j = ((s j.val : ℝ) : EReal))
    (hvo : ∀ j : Fin 512, vo j l = V (N + j.val)) (hvp : ∀ j : Fin N, vp j l = V j.val) :
    acc r q ko kp vo vp l = ∑ x : Fin 2048, ((ew s M (N + r.val) x.val : ℝ) : EReal) * V x.val := by
  unfold acc
  rw [hM, ← split_sum N hN (fun x => ((ew s M (N + r.val) x : ℝ) : EReal) * V x) (fun x hx => by
    rw [ew, if_neg (by omega), EReal.coe_zero, zero_mul])]
  refine congrArg₂ (fun a b : EReal => a + b) (Finset.sum_congr rfl fun j _ => ?_) (Finset.sum_congr rfl fun j _ => ?_)
  · rw [own_eq, hko, hvo, exp_msk]
    refine congrArg (fun z : ℝ => (z : EReal) * V (N + j.val)) ?_
    unfold ew
    by_cases h : j.val ≤ r.val
    · rw [if_pos h, if_pos (by omega)]
    · rw [if_neg h, if_neg (by omega)]
  · rw [hkp, hvp, ← EReal.coe_sub]
    refine congrArg (fun z : EReal => z * V j.val) ?_
    rw [ew, if_pos (by omega)]
    rfl

/-- The kernel's maximum is real. -/
theorem mx_real (N : ℕ) (r : Fin 512) (q : Fin 128 → EReal) (ko : Fin 512 → Fin 128 → EReal) (kp : Fin N → Fin 128 → EReal) (s : ℕ → ℝ)
    (hko : ∀ j : Fin 512, score q ko j = ((s (N + j.val) : ℝ) : EReal)) (hkp : ∀ j : Fin N, score q kp j = ((s j.val : ℝ) : EReal)) :
    ∃ M : ℝ, mx r q ko kp = (M : EReal) := by
  unfold mx
  rw [ninf]
  obtain ⟨a, ea⟩ := fold_some (ownScore r q ko) (fun j => by
    rw [own_eq, hko]; split_ifs
    · exact Or.inr ⟨_, rfl⟩
    · exact Or.inl rfl) r (s (N + r.val)) (by rw [own_eq, if_pos le_rfl, hko])
  rw [ea]
  rcases fold_real (score q kp) (fun j => Or.inr ⟨_, hkp j⟩) with e | ⟨b, e⟩
  · rw [e]; exact ⟨a, by simp⟩
  · rw [e]; exact ⟨max a b, (EReal.coe_strictMono.monotone.map_max).symm⟩

/-- The reference's weights: exponentials against a real maximum, zero after the query. -/
theorem wgt_eq (s : ℕ → ℝ) (I : Fin 2048) : ∃ M : ℝ, ∀ x : Fin 2048, wgt (msk s I) x = ((ew s M I.val x.val : ℝ) : EReal) := by
  obtain ⟨M, e⟩ := fold_some (msk s I) (fun j => by
    rw [msk_eq]; split_ifs
    · exact Or.inr ⟨_, rfl⟩
    · exact Or.inl rfl) I (s I.val) (by rw [msk_eq, if_pos le_rfl])
  refine ⟨M, fun x => ?_⟩
  unfold wgt ew
  rw [ninf, e, max_eq_right bot_le, msk_eq, exp_msk]

/-- One head's ratio of sums is softmax attention. -/
theorem head (N : ℕ) (hN : N + 512 ≤ 2048) (r : Fin 512) (q : Fin 128 → EReal) (ko : Fin 512 → Fin 128 → EReal) (kp : Fin N → Fin 128 → EReal)
    (vo : Fin 512 → Fin 128 → EReal) (vp : Fin N → Fin 128 → EReal) (l l' : Fin 128) (s : ℕ → ℝ) (V : ℕ → EReal)
    (hko : ∀ j : Fin 512, score q ko j = ((s (N + j.val) : ℝ) : EReal)) (hkp : ∀ j : Fin N, score q kp j = ((s j.val : ℝ) : EReal))
    (hvo : ∀ j : Fin 512, vo j l = V (N + j.val)) (hvp : ∀ j : Fin N, vp j l = V j.val)
    (hfo : ∀ j : Fin 512, vo j l' = 1) (hfp : ∀ j : Fin N, vp j l' = 1) :
    Ideal.div (acc r q ko kp vo vp l) (acc r q ko kp vo vp l') = attn (msk s ⟨N + r.val, by omega⟩) V := by
  obtain ⟨M, hM⟩ := mx_real N r q ko kp s hko hkp
  obtain ⟨M', hM'⟩ := wgt_eq s ⟨N + r.val, by omega⟩
  rw [acc_eq N hN r q ko kp vo vp l s V M hM hko hkp hvo hvp, acc_eq N hN r q ko kp vo vp l' s (fun _ => 1) M hM hko hkp hfo hfp]
  unfold attn
  simp only [hM', mul_one, ← coe_sum]
  refine ratio (fun x : Fin 2048 => ew s M (N + r.val) x.val) (fun x : Fin 2048 => ew s M' (N + r.val) x.val) (Real.exp (M' - M)) (Real.exp_pos _) (fun x => ?_) (fun x => ?_) ?_ (fun x => V x.val)
  · unfold ew
    split_ifs
    · rw [← Real.exp_add]; congr 1; ring
    · rw [mul_zero]
  · unfold ew
    split_ifs
    · exact (Real.exp_pos _).le
    · exact le_rfl
  · refine Finset.sum_pos' (fun x _ => ?_) ⟨⟨N + r.val, by omega⟩, Finset.mem_univ _, ?_⟩
    · unfold ew
      split_ifs
      · exact (Real.exp_pos _).le
      · exact le_rfl
    · unfold ew
      rw [if_pos le_rfl]
      exact Real.exp_pos _

/-- The decay's lanes of a query against those of a key: one sum less the other. -/
theorem aug_sum (C C' : Fin 128 → ℝ) (o : ℕ) (ho : o + 64 ≤ 256) (h64 : o % 64 = 0) (h : ℕ) (hh : h < 128) (e : ∀ d : Fin 64, hd ⟨o + d.val, by omega⟩ = h) :
    ∑ d : Fin 64, qaugR C ⟨o + d.val, by omega⟩ * kaugR C' ⟨o + d.val, by omega⟩ = C ⟨h, hh⟩ - C' ⟨h, hh⟩ := by
  have key : ∀ d : Fin 64, qaugR C ⟨o + d.val, by omega⟩ * kaugR C' ⟨o + d.val, by omega⟩
      = (if d = 0 then C ⟨h, hh⟩ else 0) + (if d = 3 then - C' ⟨h, hh⟩ else 0) := fun d => by
    have hm : (o + d.val) % 64 = d.val := by omega
    unfold qaugR kaugR
    simp only [hm, e d]
    by_cases h0 : d = 0
    · subst h0; simp
    · by_cases h3 : d = 3
      · subst h3; simp
      · have a0 : d.val ≠ 0 := fun z => h0 (Fin.ext z)
        have a3 : d.val ≠ 3 := fun z => h3 (Fin.ext z)
        rw [if_neg a0, if_neg h0, if_neg h3]
        by_cases hlt : d.val < 3
        · rw [if_neg (by omega)]; simp
        · rw [if_neg hlt, if_neg a3]; simp
  rw [Finset.sum_congr rfl fun d _ => key d, Finset.sum_add_distrib, Finset.sum_ite_eq', Finset.sum_ite_eq']
  simp [sub_eq_add_neg]

/-- A head's score: the scaled product of its query with the key, plus the decay between them. -/
theorem score_eq {n : ℕ} (p b : ℕ) (hp : p < 2) (hb : b < 2) (q : Fin 128 → EReal) (ka : Fin n → Fin 128 → EReal) (j : Fin n) (C C' : Fin 128 → ℝ) (a k : Fin 64 → ℝ)
    (hq : ∀ l : Fin 128, q l = if l.val / 64 = b then ((a ⟨l.val % 64, by omega⟩ : ℝ) : EReal) * ((1/8 : ℝ) : EReal) else ((qaugR C ⟨128 * p + l.val, by omega⟩ : ℝ) : EReal))
    (hk : ∀ l : Fin 128, ka j l = if l.val / 64 = b then ((k ⟨l.val % 64, by omega⟩ : ℝ) : EReal) else ((kaugR C' ⟨128 * p + l.val, by omega⟩ : ℝ) : EReal)) :
    score q ka j = (((∑ x, a x * k x) * (1/8) + C ⟨2 * p + b, by omega⟩ - C' ⟨2 * p + b, by omega⟩ : ℝ) : EReal) := by
  have e : ∀ l : Fin 128, q l * ka j l = ((if l.val / 64 = b then a ⟨l.val % 64, by omega⟩ * (1/8) * k ⟨l.val % 64, by omega⟩
      else qaugR C ⟨128 * p + l.val, by omega⟩ * kaugR C' ⟨128 * p + l.val, by omega⟩ : ℝ) : EReal) := fun l => by
    rw [hq, hk]
    split_ifs
    · rw [← EReal.coe_mul, ← EReal.coe_mul]
    · rw [← EReal.coe_mul]
  unfold score
  rw [Finset.sum_congr rfl fun l _ => e l, ← coe_sum]
  refine congrArg _ ?_
  rw [Fin.sum_univ_add (a := 64) (b := 64)]
  have m0 : ∀ d : Fin 64, d.val % 64 = d.val := fun d => by omega
  have m1 : ∀ d : Fin 64, (64 + d.val) % 64 = d.val := fun d => by omega
  have d0 : ∀ d : Fin 64, d.val / 64 = 0 := fun d => by omega
  have d1 : ∀ d : Fin 64, (64 + d.val) / 64 = 1 := fun d => by omega
  simp only [Fin.val_castAdd, Fin.val_natAdd, m0, m1, d0, d1]
  have own : ∑ d : Fin 64, a d * (1/8) * k d = (∑ x, a x * k x) * (1/8) := by
    rw [Finset.sum_mul]; exact Finset.sum_congr rfl fun d _ => by ring
  obtain rfl | rfl : b = 0 ∨ b = 1 := by omega
  · have A := aug_sum C C' (128 * p + 64) (by omega) (by omega) (2 * p + 0) (by omega) (fun d => by unfold hd; dsimp only; omega)
    simp only [add_assoc] at A
    simp only [if_true, if_false, one_ne_zero]
    rw [A, own]; simp only [add_zero]; ring
  · have A := aug_sum C C' (128 * p) (by omega) (by omega) (2 * p + 1) (by omega) (fun d => by unfold hd; dsimp only; omega)
    simp only [if_true, if_false, zero_ne_one]
    rw [A, own]; ring

/-- The logarithm of the sigmoid of a real is real, and is the reference's. -/
theorem lsg_real (z : ℝ) : ∃ y : ℝ, lsg (z : EReal) = (y : EReal)
    ∧ -(max (-(z : EReal)) 0 + Ideal.log1p (Ideal.exp (-FloatOps.absf (F := Ideal) (φ := .f32) (-(z : EReal))))) = (y : EReal) := by
  have l1 : ∀ u : ℝ, Ideal.log1p (Ideal.exp ((u : ℝ) : EReal)) = ((Real.log (1 + Real.exp u) : ℝ) : EReal) := fun u => by
    have hpos := Real.exp_pos u
    show Ideal.log ((1 : EReal) + ((Real.exp u : ℝ) : EReal)) = _
    rw [← EReal.coe_one, ← EReal.coe_add]
    show (if 1 + Real.exp u ≤ 0 then _ else _) = _
    rw [if_neg (by linarith)]
  have ab : ∀ u : ℝ, FloatOps.absf (F := Ideal) (φ := .f32) (u : EReal) = ((|u| : ℝ) : EReal) := fun u => by
    first
    | rfl
    | (show max (u : EReal) (-(u : EReal)) = _; rw [← EReal.coe_neg, ← EReal.coe_strictMono.monotone.map_max]; rfl)
  refine ⟨min z 0 - Real.log (1 + Real.exp (-|z|)), ?_, ?_⟩
  · unfold lsg
    rw [ab, zero_sub, ← EReal.coe_neg, l1, EReal.coe_sub, EReal.coe_strictMono.monotone.map_min, EReal.coe_zero]
  · rw [← EReal.coe_neg, ab, ← EReal.coe_neg, l1, abs_neg, ← EReal.coe_zero, ← EReal.coe_strictMono.monotone.map_max, ← EReal.coe_add, ← EReal.coe_neg]
    refine congrArg _ ?_
    have : max (-z) 0 = - min z 0 := by rw [← neg_zero, max_neg_neg, neg_zero]
    rw [this]; ring

end Cert.FoxIdeal.RefValue
end
end
-- ==== Proof.FoxRef.lean ====
module
public import proofs.«01_k».proof.Proof.Gen.FoxReferenceIdeal.Run
public import Idealize.ShloMosaic.Lib.Pipeline.ValueKit
public import Idealize.ShloMosaic.Lib.Pipeline.ReadBack
public import Idealize.ShloMosaic.Lib.Pointwise
public import Idealize.ShloMosaic.Lib.Tactic.CleanTypes
@[expose] public section
set_option maxRecDepth 16384
noncomputable section
namespace Cert.FoxReferenceIdeal.RefValue
open Idealize.ShloMosaic Idealize.ShloMosaic.TcCoe Idealize.SL.Sem Cert.FoxReferenceIdeal Cert.FoxReferenceIdeal.Gen

/-- The forget gates' arguments. -/
def zArr (f : FVec Ideal S16x2048x4 .f32) (b : FVec Ideal S4 .f32) : FVec Ideal S16x2048x4 .f32 := (addf f (broadcastInDim S16x2048x4 ![0, 1, 2] bcast_S1x1x4_S16x2048x4_0_1_2 (broadcastInDim S1x1x4 ![2] bcast_S4_S1x1x4_2 b)))

/-- Their log-sigmoids. -/
def lsArr (z : FVec Ideal S16x2048x4 .f32) : FVec Ideal S16x2048x4 .f32 := (Host.negf (select (cmpf .une (subf (Host.negf z) (broadcastInDim S16x2048x4 ![] bcast_S_S16x2048x4 (constant S_ .f32 0x00000000#32))) (subf (Host.negf z) (broadcastInDim S16x2048x4 ![] bcast_S_S16x2048x4 (constant S_ .f32 0x00000000#32)))) (addf (Host.negf z) (broadcastInDim S16x2048x4 ![] bcast_S_S16x2048x4 (constant S_ .f32 0x00000000#32))) (addf (maximumf (Host.negf z) (broadcastInDim S16x2048x4 ![] bcast_S_S16x2048x4 (constant S_ .f32 0x00000000#32))) (Host.log1p (Host.exp (Host.negf (Host.absf (subf (Host.negf z) (broadcastInDim S16x2048x4 ![] bcast_S_S16x2048x4 (constant S_ .f32 0x00000000#32))))))))))

/-- Running sums down the rows. -/
def cumArr (L : FVec Ideal S16x2048x4 .f32) : FVec Ideal S16x2048x4 .f32 := (Host.reduceWindowAdd ![1, 2048, 1] ![1, 1, 1] ![0, 2047, 0] ![0, 0, 0] L (broadcastInDim S_ ![] bcast_S_S_ (constant S_ .f32 0x00000000#32)) reduceWindows_S16x2048x4_S16x2048x4_w1s1p0_0_w2048s1p2047_0_w1s1p0_0 h_S_)

/-- The masked scores. -/
def scArr (q k : FVec Ideal S16x2048x256 .f32) (C : FVec Ideal S16x2048x4 .f32) : FVec Ideal S16x4x2048x2048 .f32 := (select (broadcastInDim S16x4x2048x2048 ![2, 3] bcast_S2048x2048_S16x4x2048x2048_2_3 (cmpi .sge (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0))))) (subf (addf (mulf (Host.dotGeneral dot_S16x2048x4x64_S16x2048x4x64_S16x4x2048x2048_3_3_1_1_02_02 none (shapeCast _ q shapeCasts_S16x2048x256_S16x2048x4x64) (shapeCast _ k shapeCasts_S16x2048x256_S16x2048x4x64)) (broadcastInDim S16x4x2048x2048 ![] bcast_S_S16x4x2048x2048 (constant S_ .f32 0x3E000000#32))) (broadcastInDim S16x4x2048x2048 ![0, 1, 2, 3] bcast_S16x4x2048x1_S16x4x2048x2048_0_1_2_3 (broadcastInDim S16x4x2048x1 ![0, 1, 2] bcast_S16x4x2048_S16x4x2048x1_0_1_2 (transpose S16x4x2048 [0, 2, 1] C transposes_S16x2048x4_S16x4x2048_0_2_1)))) (broadcastInDim S16x4x2048x2048 ![0, 1, 2, 3] bcast_S16x4x1x2048_S16x4x2048x2048_0_1_2_3 (broadcastInDim S16x4x1x2048 ![0, 1, 3] bcast_S16x4x2048_S16x4x1x2048_0_1_3 (transpose S16x4x2048 [0, 2, 1] C transposes_S16x2048x4_S16x4x2048_0_2_1)))) (broadcastInDim S16x4x2048x2048 ![] bcast_S_S16x4x2048x2048 (id (constant S_ .f32 0xFF800000#32))))

/-- Each row's largest score. -/
def mxArr (S : FVec Ideal S16x4x2048x2048 .f32) : FVec Ideal S16x4x2048 .f32 := (Host.reduce FloatOps.maximumf S (constant S_ .f32 0xFF800000#32) reducesTo_S16x4x2048x2048_S16x4x2048_d3 h_S_)

/-- The exponentials given each row's largest. -/
def exOf (S : FVec Ideal S16x4x2048x2048 .f32) (M : FVec Ideal S16x4x2048 .f32) : FVec Ideal S16x4x2048x2048 .f32 := (Host.exp (subf S (broadcastInDim S16x4x2048x2048 ![0, 1, 2, 3] bcast_S16x4x2048x1_S16x4x2048x2048_0_1_2_3 (broadcastInDim S16x4x2048x1 ![0, 1, 2] bcast_S16x4x2048_S16x4x2048x1_0_1_2 (maximumf (broadcastInDim S16x4x2048 ![] bcast_S_S16x4x2048 (constant S_ .f32 0xFF800000#32)) M)))))

/-- The exponentials of the scores less their row's largest. -/
def exArr (S : FVec Ideal S16x4x2048x2048 .f32) : FVec Ideal S16x4x2048x2048 .f32 := exOf S (mxArr S)

/-- The normalised weights applied to the values. -/
def outArr (v : FVec Ideal S16x2048x256 .f32) (E : FVec Ideal S16x4x2048x2048 .f32) : FVec Ideal S16x2048x256 .bf16 := truncf .bf16 (shapeCast _ (transpose S16x2048x4x64 [0, 3, 1, 2] (Host.dotGeneral dot_S16x2048x4x64_S16x4x2048x2048_S16x4x64x2048_1_3_3_2_02_01 none (shapeCast _ v shapeCasts_S16x2048x256_S16x2048x4x64) (Host.divf E (broadcastInDim S16x4x2048x2048 ![0, 1, 2, 3] bcast_S16x4x2048x1_S16x4x2048x2048_0_1_2_3 (broadcastInDim S16x4x2048x1 ![0, 1, 2] bcast_S16x4x2048_S16x4x2048x1_0_1_2 (Host.reduceAdd E (constant S_ .f32 0x00000000#32) reducesTo_S16x4x2048x2048_S16x4x2048_d3 h_S_))))) transposes_S16x4x64x2048_S16x2048x4x64_0_3_1_2) shapeCasts_S16x2048x4x64_S16x2048x256) bitsLt_bf16_f32

/-- The reference's result, stage by stage. -/
theorem res_eq (m : (ℓ : Loc nD τ sig) → Buf (Elt Ideal) ℓ) (c : Dev nD) : Value.res_main_v39 m c = outArr (m (c.tc.loc main_arg2)) (exArr (scArr (m (c.tc.loc main_arg0)) (m (c.tc.loc main_arg1)) (cumArr (lsArr (zArr (m (c.tc.loc main_arg3)) (m (c.tc.loc main_arg4))))))) := rfl

/-- The largest along the last axis of a rank-four array. -/
theorem max4 {n0 n1 n2 n3 : ℕ} (v : FVec Ideal ⟨4, ![n0, n1, n2, n3]⟩ .f32) (w : BitVec 32) (h : (⟨4, ![n0, n1, n2, n3]⟩ : Shape).ReducesTo [3] ⟨3, ![n0, n1, n2]⟩) (hu : 0 < S_.numel) (a : Fin n0) (b : Fin n1) (d : Fin n2) :
    Host.reduce FloatOps.maximumf v (constant S_ .f32 w : FVec Ideal S_ .f32) h hu (ix3 a b d) = Finset.univ.fold max (Ideal.ofBits FTy.f32 w) fun k : Fin n3 => v (ix4 a b d k) := by
  simp only [pointwise]

/-- A row's largest score. -/
theorem mx_at (S : FVec Ideal S16x4x2048x2048 .f32) (b : Fin 16) (h : Fin 4) (i : Fin 2048) :
    mxArr S (ix3 b h i) = Finset.univ.fold max (Ideal.ofBits FTy.f32 4286578688#32) fun x => S (ix4 b h i x) :=
  max4 S _ _ _ b h i

/-- The exponential at an entry, given the rows' largest scores. -/
theorem exOf_at (S : FVec Ideal S16x4x2048x2048 .f32) (M : FVec Ideal S16x4x2048 .f32) (b : Fin 16) (h : Fin 4) (i j : Fin 2048) :
    exOf S M (ix4 b h i j) = Ideal.exp (S (ix4 b h i j) - max (Ideal.ofBits FTy.f32 4286578688#32) (M (ix3 b h i))) := by
  unfold exOf
  pointwise []

/-- The exponential at an entry. -/
theorem ex_at (S : FVec Ideal S16x4x2048x2048 .f32) (b : Fin 16) (h : Fin 4) (i j : Fin 2048) :
    exArr S (ix4 b h i j) = Ideal.exp (S (ix4 b h i j) - max (Ideal.ofBits FTy.f32 4286578688#32) (Finset.univ.fold max (Ideal.ofBits FTy.f32 4286578688#32) fun x => S (ix4 b h i x))) := by
  unfold exArr
  rw [exOf_at, mx_at]

/-- The masked score at an entry. -/
theorem sc_at (q k : FVec Ideal S16x2048x256 .f32) (C : FVec Ideal S16x2048x4 .f32) (b : Fin 16) (h : Fin 4) (i j : Fin 2048) :
    scArr q k C (ix4 b h i j) = Scalar.select (IntOp.cmpi .sge (BitVec.ofNat 32 i.val) (BitVec.ofNat 32 j.val))
      ((∑ x : Fin 64, q (ix3 b i ⟨h.val * 64 + x.val, by omega⟩) * k (ix3 b j ⟨h.val * 64 + x.val, by omega⟩)) * Ideal.ofBits FTy.f32 1040187392#32 + C (ix3 b i h) - C (ix3 b j h)) (Ideal.ofBits FTy.f32 4286578688#32) := by
  unfold scArr
  generalize hG : Scalar.select _ _ (Ideal.ofBits FTy.f32 4286578688#32) = G
  pointwise []
  rw [← hG]
  rfl

/-- The result at an entry. -/
theorem out_at (v : FVec Ideal S16x2048x256 .f32) (E : FVec Ideal S16x4x2048x2048 .f32) (b : Fin 16) (i : Fin 2048) (j : Fin 256) :
    outArr v E (ix3 b i j) = ∑ x, v (ix3 b x j) * Ideal.div (E (ix4 b ⟨j.val / 64, by omega⟩ i x)) (∑ y, E (ix4 b ⟨j.val / 64, by omega⟩ i y)) := by
  unfold outArr
  pointwise []

/-- The forget gate's argument at an entry. -/
theorem z_at (f : FVec Ideal S16x2048x4 .f32) (g : FVec Ideal S4 .f32) (b : Fin 16) (i : Fin 2048) (j : Fin 4) : zArr f g (ix3 b i j) = f (ix3 b i j) + g (ix1 j) := by
  unfold zArr
  pointwise []

/-- The log-sigmoid at an entry. -/
theorem ls_at (z : FVec Ideal S16x2048x4 .f32) (b : Fin 16) (i : Fin 2048) (j : Fin 4) :
    lsArr z (ix3 b i j) = -(max (-z (ix3 b i j)) 0 + Ideal.log1p (Ideal.exp (-FloatOps.absf (-z (ix3 b i j))))) := by
  unfold lsArr
  pointwise []
  simp

/-- A sum over the shifted window is the sum of the rows up to its last. -/
theorem sum_shift (L : ℕ → EReal) (i : ℕ) (hi : i < 2048) :
    (∑ k : Fin 2048, if 2047 ≤ i + k.val then L (i + k.val - 2047) else 0) = ∑ s ∈ Finset.range (i + 1), L s := by
  rw [Fin.sum_univ_eq_sum_range (fun k => if 2047 ≤ i + k then L (i + k - 2047) else 0) 2048, show 2048 = (2047 - i) + (i + 1) by omega, Finset.sum_range_add]
  rw [Finset.sum_eq_zero fun k hk => if_neg (by have := Finset.mem_range.1 hk; omega), zero_add]
  refine Finset.sum_congr rfl fun k hk => ?_
  rw [if_pos (by omega)]
  exact congrArg L (by omega)

/-- Folding additions is summing. -/
theorem foldl_sum {n : ℕ} (g : Fin n → EReal) : (List.finRange n).foldl (fun r k => r + g k) 0 = ∑ k, g k := by
  rw [Fin.sum_univ_def, List.sum_eq_foldl, List.foldl_map]

/-- A running sum at an entry. -/
theorem cum_at (L : FVec Ideal S16x2048x4 .f32) (f : ℕ → EReal) (b : Fin 16) (i : Fin 2048) (j : Fin 4) (hf : ∀ s : Fin 2048, L (ix3 b s j) = f s.val) :
    cumArr L (ix3 b i j) = ∑ s ∈ Finset.range (i.val + 1), f s := by
  unfold cumArr Host.reduceWindowAdd
  rw [Ideal.hostReduceWindowAdd_def]
  unfold Ideal.hostReduceWindowAdd Host.reduceWindow
  have e0 : (broadcastInDim S_ ![] bcast_S_S_ (constant S_ .f32 0x00000000#32 : FVec Ideal S_ .f32)) (Shape.Idx.first h_S_) = (0 : EReal) := by
    pointwise []
  simp only [e0]
  rw [foldl_sum, ← sum_shift f i.val i.isLt]
  refine (Finset.sum_congr rfl fun k _ => (?_ : _ = (fun w : (⟨3, ![1, 2048, 1]⟩ : Shape).Idx => if 2047 ≤ i.val + (w 1).val then f (i.val + (w 1).val - 2047) else 0) ((⟨3, ![1, 2048, 1]⟩ : Shape).rowMajor.symm k))).trans ?_
  · have w0 : ((⟨3, ![1, 2048, 1]⟩ : Shape).rowMajor.symm k 0).val < 1 := ((⟨3, ![1, 2048, 1]⟩ : Shape).rowMajor.symm k 0).isLt
    have w1 : ((⟨3, ![1, 2048, 1]⟩ : Shape).rowMajor.symm k 1).val < 2048 := ((⟨3, ![1, 2048, 1]⟩ : Shape).rowMajor.symm k 1).isLt
    have w2 : ((⟨3, ![1, 2048, 1]⟩ : Shape).rowMajor.symm k 2).val < 1 := ((⟨3, ![1, 2048, 1]⟩ : Shape).rowMajor.symm k 2).isLt
    dsimp only
    by_cases hc : 2047 ≤ i.val + ((⟨3, ![1, 2048, 1]⟩ : Shape).rowMajor.symm k 1).val
    · refine Eq.trans ?_ (if_pos hc).symm
      refine (dif_pos fun a => ?_).trans ?_
      · match a with
        | ⟨0, _⟩ => show 0 ≤ b.val * 1 + ((⟨3, ![1, 2048, 1]⟩ : Shape).rowMajor.symm k 0).val ∧ b.val * 1 + ((⟨3, ![1, 2048, 1]⟩ : Shape).rowMajor.symm k 0).val - 0 < 16; omega
        | ⟨1, _⟩ => show 2047 ≤ i.val * 1 + ((⟨3, ![1, 2048, 1]⟩ : Shape).rowMajor.symm k 1).val ∧ i.val * 1 + ((⟨3, ![1, 2048, 1]⟩ : Shape).rowMajor.symm k 1).val - 2047 < 2048; omega
        | ⟨2, _⟩ => show 0 ≤ j.val * 1 + ((⟨3, ![1, 2048, 1]⟩ : Shape).rowMajor.symm k 2).val ∧ j.val * 1 + ((⟨3, ![1, 2048, 1]⟩ : Shape).rowMajor.symm k 2).val - 0 < 4; omega
      · refine (congrArg L (funext fun a => Fin.ext ?_)).trans (hf ⟨i.val + ((⟨3, ![1, 2048, 1]⟩ : Shape).rowMajor.symm k 1).val - 2047, by omega⟩)
        match a with
        | ⟨0, _⟩ => show b.val * 1 + ((⟨3, ![1, 2048, 1]⟩ : Shape).rowMajor.symm k 0).val - 0 = b.val; omega
        | ⟨1, _⟩ => show i.val * 1 + ((⟨3, ![1, 2048, 1]⟩ : Shape).rowMajor.symm k 1).val - 2047 = i.val + ((⟨3, ![1, 2048, 1]⟩ : Shape).rowMajor.symm k 1).val - 2047; omega
        | ⟨2, _⟩ => show j.val * 1 + ((⟨3, ![1, 2048, 1]⟩ : Shape).rowMajor.symm k 2).val - 0 = j.val; omega
    · refine Eq.trans ?_ (if_neg hc).symm
      refine dif_neg fun hin => hc ?_
      have := (hin 1).1
      change 2047 ≤ i.val * 1 + ((⟨3, ![1, 2048, 1]⟩ : Shape).rowMajor.symm k 1).val at this
      omega
  · rw [Equiv.sum_comp (⟨3, ![1, 2048, 1]⟩ : Shape).rowMajor.symm (fun w => if 2047 ≤ i.val + (w 1).val then f (i.val + (w 1).val - 2047) else 0), sum_idx3]
    simp only [Fin.sum_univ_one]
    rfl

end Cert.FoxReferenceIdeal.RefValue
end
end
-- ==== Proof.FoxValue.lean ====
module
public import proofs.«01_k».proof.Defs
public import proofs.«01_k».proof.Proof.FoxMath
public import proofs.«01_k».proof.Proof.FoxRef
public import Idealize.ShloMosaic.Lib.ReduceAll
public import Idealize.ShloMosaic.Adequacy
public import Idealize.ShloMosaic.Init
@[expose] public section
set_option maxRecDepth 16384

noncomputable section

/-- The side conditions of the precondition's operations. -/
theorem Cert.Pre_finite_scores.holds : Cert.Pre_finite_scores.Facts where
  bcast_S_S16x2048x256 := by decide
  reducesTo_S16x2048x256_S_d0_1_2 := by decide
  h_S_ := by decide
  bcast_S_S16x2048x4 := by decide
  reducesTo_S16x2048x4_S_d0_1_2 := by decide
  bcast_S_S4 := by decide
  reducesTo_S4_S_d0 := by decide

namespace Cert.FoxIdeal.RefValue
open Cert.FoxIdeal Cert.FoxIdeal.Gen Idealize.ShloMosaic Idealize.ShloMosaic.TcCoe Idealize.SL.Sem
variable (m : (ℓ : Loc nD τ sig) → Buf (Elt Ideal) ℓ) (c : Dev nD)

/-- A forget gate's argument; 0 off the four heads. -/
def zA (b : Fin 16) (s : Fin 2048) (l : Fin 128) : EReal :=
  (if h : l.val < 4 then gf m c (ix3 b s ⟨l.val, h⟩) else 0) + (if h : l.val < 4 then gb m c (ix1 ⟨l.val, h⟩) else 0)

/-- The logarithm of the forget gate, as a real. -/
def Z (b : Fin 16) (s : ℕ) (l : Fin 128) : ℝ := (lsg (zA m c b ⟨s % 2048, Nat.mod_lt _ (by norm_num)⟩ l)).toReal

/-- A query's lanes in head `h`, as reals. -/
def Qr (b : Fin 16) (I : Fin 2048) (h : Fin 4) (d : Fin 64) : ℝ := (gq m c (ix3 b I ⟨h.val * 64 + d.val, by omega⟩)).toReal

/-- A key's lanes in head `h`, as reals. -/
def Kr (b : Fin 16) (h : Fin 4) (x : ℕ) (d : Fin 64) : ℝ := (gk m c (ix3 b ⟨x % 2048, Nat.mod_lt _ (by norm_num)⟩ ⟨h.val * 64 + d.val, by omega⟩)).toReal

/-- A score of head `h`. -/
def sc (b : Fin 16) (I : Fin 2048) (h : Fin 4) (x : ℕ) : ℝ :=
  (∑ d, Qr m c b I h d * Kr m c b h x d) * (1/8) + Cum (Z m c b) I.val ⟨h.val, by omega⟩ - Cum (Z m c b) x ⟨h.val, by omega⟩

/-- A value lane down the sequence. -/
def Vr (b : Fin 16) (j : Fin 256) (x : ℕ) : EReal := gv m c (ix3 b ⟨x % 2048, Nat.mod_lt _ (by norm_num)⟩ j)

/-- The attention's result at sequence `b`, row `I`, lane `j`. -/
def res (b : Fin 16) (I : Fin 2048) (j : Fin 256) : EReal := attn (msk (sc m c b I ⟨j.val / 64, by omega⟩) I) (Vr m c b j)

/-- Queries, keys and forget gates are real. -/
def Fin_ : Prop := (∀ i, ∃ r : ℝ, gq m c i = (r : EReal)) ∧ (∀ i, ∃ r : ℝ, gk m c i = (r : EReal))
  ∧ (∀ i, ∃ r : ℝ, gf m c i = (r : EReal)) ∧ (∀ i, ∃ r : ℝ, gb m c i = (r : EReal))

/-- The array that the grid leaves. -/
def layer (y : S16x2048x256.Idx) : EReal := res m c (y 0) (y 1) (y 2)

/-- A number below `+∞` in size is real. -/
theorem real_of_abs (x : Ideal .f32) (h : Ideal.cmp .olt (FloatOps.absf x) (Ideal.ofBits FTy.f32 0x7F800000#32) = 1#1) : ∃ r : ℝ, x = (r : EReal) := by
  have top : (Ideal.ofBits FTy.f32 0x7F800000#32 : EReal) = ⊤ := by simp [Ideal.ofBits, Ideal.ieee]
  rw [top] at h
  have lt : (max x (-x) : EReal) < ⊤ := by
    by_contra hn
    have : Ideal.cmp .olt (FloatOps.absf x) ⊤ = 0#1 := by
      show BitVec.ofBool (decide ((max x (-x) : EReal) < ⊤)) = 0#1
      rw [decide_eq_false hn]; rfl
    rw [this] at h
    exact absurd h (by decide)
  induction x using EReal.rec with
  | bot => simp at lt
  | top => simp at lt
  | coe r => exact ⟨r, rfl⟩

/-- The precondition says that queries, keys and forget gates are real. -/
theorem fin_of_pre [Cert.Pre_finite_scores.Facts] (h : Cert.Pre_FoxIdeal_finite_scores m) : Fin_ m c := by
  have e := congrFun (h c) (fun a => a.elim0)
  dsimp only [Cert.Pre_finite_scores.fn, Cert.Pre_finite_scores.fn_part1] at e
  haveI : Subsingleton Cert.Pre_finite_scores.S_.Idx := ⟨fun a b => funext fun i => i.elim0⟩
  obtain ⟨e123, e4⟩ := IntOp.andi_eq_one.1 e
  obtain ⟨e12, e3⟩ := IntOp.andi_eq_one.1 e123
  obtain ⟨e1, e2⟩ := IntOp.andi_eq_one.1 e12
  refine ⟨fun i => ?_, fun i => ?_, fun i => ?_, fun i => ?_⟩
  · exact real_of_abs _ (Host.reduce_andi_all _ _ _ _ _ e1 i)
  · exact real_of_abs _ (Host.reduce_andi_all _ _ _ _ _ e2 i)
  · exact real_of_abs _ (Host.reduce_andi_all _ _ _ _ _ e3 i)
  · exact real_of_abs _ (Host.reduce_andi_all _ _ _ _ _ e4 i)

/-- A forget gate's argument is real. -/
theorem zA_real (hF : Fin_ m c) (b : Fin 16) (s : Fin 2048) (l : Fin 128) : ∃ r : ℝ, zA m c b s l = (r : EReal) := by
  unfold zA
  by_cases h : l.val < 4
  · rw [dif_pos h, dif_pos h]
    obtain ⟨x, ex⟩ := hF.2.2.1 (ix3 b s ⟨l.val, h⟩)
    obtain ⟨y, ey⟩ := hF.2.2.2 (ix1 ⟨l.val, h⟩)
    exact ⟨x + y, by rw [ex, ey, EReal.coe_add]⟩
  · rw [dif_neg h, dif_neg h]
    exact ⟨0, by simp⟩

/-- The forget gates' logarithms are the reals `Z`. -/
theorem hz (hF : Fin_ m c) (b : Fin 16) : HG m c b (Z m c b) := fun s l => by
  obtain ⟨r, e⟩ := zA_real m c hF b s l
  obtain ⟨y, ey, _⟩ := lsg_real r
  have hs : (⟨s.val % 2048, Nat.mod_lt _ (by norm_num)⟩ : Fin 2048) = s := Fin.ext (Nat.mod_eq_of_lt s.isLt)
  show lsg (zA m c b s l) = _
  unfold Z
  rw [hs, e, ey, EReal.toReal_coe]

/-- A head's ratio at a row is its attention, out of the scratch's lanes. -/
theorem head_tile (N : ℕ) (hN : N + 512 ≤ 2048) (sK sV : Vec Ideal S4x2048x128 .bf16) (p b : ℕ) (hp : p < 2) (hb : b < 2) (hh : Fin 4) (r : Fin 512)
    (q : Fin 128 → EReal) (l : Fin 128) (Q : Fin 64 → ℝ) (K : ℕ → Fin 64 → ℝ) (Cm : ℕ → Fin 128 → ℝ) (V : ℕ → EReal)
    (hq : ∀ l' : Fin 128, q l' = if l'.val / 64 = b then ((Q ⟨l'.val % 64, by omega⟩ : ℝ) : EReal) * ((1/8 : ℝ) : EReal) else ((qaugR (Cm (N + r.val)) ⟨128 * p + l'.val, by omega⟩ : ℝ) : EReal))
    (hk : ∀ (x : Fin 2048) (l' : Fin 128), sK (ix3 hh x l') = if l'.val / 64 = b then ((K x.val ⟨l'.val % 64, by omega⟩ : ℝ) : EReal) else ((kaugR (Cm x.val) ⟨128 * p + l'.val, by omega⟩ : ℝ) : EReal))
    (hv : ∀ x : Fin 2048, sV (ix3 hh x l) = V x.val) (hf : ∀ x : Fin 2048, sV (ix3 hh x (far l)) = 1) :
    Ideal.div
      (acc r q (fun j l => sK (ix3 hh ⟨N + j, by omega⟩ l)) (fun (j : Fin N) l => sK (ix3 hh ⟨j, by omega⟩ l)) (fun j l => sV (ix3 hh ⟨N + j, by omega⟩ l)) (fun (j : Fin N) l => sV (ix3 hh ⟨j, by omega⟩ l)) l)
      (acc r q (fun j l => sK (ix3 hh ⟨N + j, by omega⟩ l)) (fun (j : Fin N) l => sK (ix3 hh ⟨j, by omega⟩ l)) (fun j l => sV (ix3 hh ⟨N + j, by omega⟩ l)) (fun (j : Fin N) l => sV (ix3 hh ⟨j, by omega⟩ l)) (far l))
    = attn (msk (fun x => (∑ d, Q d * K x d) * (1/8) + Cm (N + r.val) ⟨2 * p + b, by omega⟩ - Cm x ⟨2 * p + b, by omega⟩) ⟨N + r.val, by omega⟩) V := by
  refine head N hN r q _ _ _ _ l (far l) (fun x => (∑ d, Q d * K x d) * (1/8) + Cm (N + r.val) ⟨2 * p + b, by omega⟩ - Cm x ⟨2 * p + b, by omega⟩) V (fun j => ?_) (fun j => ?_) (fun j => hv _) (fun j => hv _) (fun j => hf _) (fun j => hf _)
  · exact score_eq p b hp hb q _ j (Cm (N + r.val)) (Cm (N + j.val)) Q (K (N + j.val)) hq (fun l' => hk ⟨N + j.val, by omega⟩ l')
  · exact score_eq p b hp hb q _ j (Cm (N + r.val)) (Cm j.val) Q (K j.val) hq (fun l' => hk ⟨j.val, by omega⟩ l')

/-- The low half's lanes. -/
theorem lanes0 : ∀ l : Fin 128, IntOp.andi (IntOp.cmpi .sge (BitVec.ofNat 32 l) 0#32) (IntOp.cmpi .slt (BitVec.ofNat 32 l) 64#32) = if l.val / 64 = 0 then 1#1 else 0#1 := by
  decide +kernel

/-- The high half's lanes. -/
theorem lanes1 : ∀ l : Fin 128, IntOp.andi (IntOp.cmpi .sge (BitVec.ofNat 32 l) 64#32) (IntOp.cmpi .slt (BitVec.ofNat 32 l) 128#32) = if l.val / 64 = 1 then 1#1 else 0#1 := by
  decide +kernel

/-- The output's halves. -/
theorem lanes2 : ∀ l : Fin 128, IntOp.cmpi .slt (BitVec.ofNat 32 l) 64#32 = if l.val / 64 = 0 then 1#1 else 0#1 := by
  decide +kernel

/-- A selection by a decided word. -/
theorem sel_ite (P : Prop) [Decidable P] (w : BitVec 1) (hw : w = if P then 1#1 else 0#1) (x y : EReal) : Scalar.select w x y = if P then x else y := by
  subst hw
  split_ifs <;> rfl

/-- A query's lanes at a point, head by head. -/
theorem q_lane (hF : Fin_ m c) (t : Fin cfg0.N) (b : Fin 16) (hb : b.val = t.val / 4) (h : Fin 4) (lo hi : BitVec 32) (pp : Fin 128 → Fin 256)
    (hl : ∀ l : Fin 128, IntOp.andi (IntOp.cmpi .sge (BitVec.ofNat 32 l) lo) (IntOp.cmpi .slt (BitVec.ofNat 32 l) hi) = if l.val / 64 = h.val % 2 then 1#1 else 0#1)
    (hp : ∀ l, (pp l).val = 128 * (h.val / 2) + l.val) (sQ : Vec Ideal S2048x256 .bf16)
    (hs : ∀ (s : Fin 2048) (l : Fin 256), sQ (ix2 s l) = ((qaugR (Cum (Z m c b) s.val) l : ℝ) : EReal)) (r : Fin 512) (l : Fin 128) :
    q m c t lo hi pp sQ r l = if l.val / 64 = h.val % 2 then ((Qr m c b ⟨512 * (t.val % 4) + r.val, by omega⟩ h ⟨l.val % 64, by omega⟩ : ℝ) : EReal) * ((1/8 : ℝ) : EReal)
      else ((qaugR (Cum (Z m c b) (512 * (t.val % 4) + r.val)) ⟨128 * (h.val / 2) + l.val, by omega⟩ : ℝ) : EReal) := by
  unfold q
  rw [sel_ite (l.val / 64 = h.val % 2) _ (hl l)]
  split_ifs with hc
  · rw [iblk_q m c t b hb]
    refine congrArg (· * ((1/8 : ℝ) : EReal)) ?_
    have e : pp l = ⟨h.val * 64 + l.val % 64, by omega⟩ := Fin.ext (by rw [hp]; dsimp only; omega)
    rw [e]
    unfold Qr
    obtain ⟨x, ex⟩ := hF.1 (ix3 b ⟨512 * (t.val % 4) + r.val, by omega⟩ ⟨h.val * 64 + l.val % 64, by omega⟩)
    dsimp only
    rw [ex, EReal.toReal_coe]
  · rw [hs]
    have e : pp l = ⟨128 * (h.val / 2) + l.val, by omega⟩ := Fin.ext (by rw [hp])
    rw [e]

/-- One head's half-register of an output row. -/
theorem half (hF : Fin_ m c) (t : Fin cfg0.N) (b : Fin 16) (hb : b.val = t.val / 4) (h : Fin 4) (lo hi : BitVec 32) (pp : Fin 128 → Fin 256)
    (hl : ∀ l : Fin 128, IntOp.andi (IntOp.cmpi .sge (BitVec.ofNat 32 l) lo) (IntOp.cmpi .slt (BitVec.ofNat 32 l) hi) = if l.val / 64 = h.val % 2 then 1#1 else 0#1)
    (hp : ∀ l, (pp l).val = 128 * (h.val / 2) + l.val) (hN : 512 * (t.val % 4) + 512 ≤ 2048) (r : Fin 512) (l : Fin 128) (hlb : l.val / 64 = h.val % 2)
    (sK sV : Vec Ideal S4x2048x128 .bf16) (sQ : Vec Ideal S2048x256 .bf16)
    (hk : ∀ (h : Fin 4) (s : Fin 2048) (l : Fin 128), sK (ix3 h s l) =
      if l.val / 64 = h.val % 2 then gk m c (ix3 b s ⟨128 * (h.val / 2) + l.val, by omega⟩) else ((kaugR (Cum (Z m c b) s.val) ⟨128 * (h.val / 2) + l.val, by omega⟩ : ℝ) : EReal))
    (hv : ∀ (h : Fin 4) (s : Fin 2048) (l : Fin 128), sV (ix3 h s l) = if l.val / 64 = h.val % 2 then gv m c (ix3 b s ⟨128 * (h.val / 2) + l.val, by omega⟩) else 1)
    (hs : ∀ (s : Fin 2048) (l : Fin 256), sQ (ix2 s l) = ((qaugR (Cum (Z m c b) s.val) l : ℝ) : EReal)) :
    Ideal.div
      (acc r (q m c t lo hi pp sQ r) (fun j l => sK (ix3 h ⟨512 * (t.val % 4) + j, by omega⟩ l)) (fun (j : Fin (512 * (t.val % 4))) l => sK (ix3 h ⟨j, by omega⟩ l)) (fun j l => sV (ix3 h ⟨512 * (t.val % 4) + j, by omega⟩ l)) (fun (j : Fin (512 * (t.val % 4))) l => sV (ix3 h ⟨j, by omega⟩ l)) l)
      (acc r (q m c t lo hi pp sQ r) (fun j l => sK (ix3 h ⟨512 * (t.val % 4) + j, by omega⟩ l)) (fun (j : Fin (512 * (t.val % 4))) l => sK (ix3 h ⟨j, by omega⟩ l)) (fun j l => sV (ix3 h ⟨512 * (t.val % 4) + j, by omega⟩ l)) (fun (j : Fin (512 * (t.val % 4))) l => sV (ix3 h ⟨j, by omega⟩ l)) (far l))
    = res m c b ⟨512 * (t.val % 4) + r.val, by omega⟩ ⟨128 * (h.val / 2) + l.val, by omega⟩ := by
  refine (head_tile (512 * (t.val % 4)) hN sK sV (h.val / 2) (h.val % 2) (by omega) (by omega) h r (q m c t lo hi pp sQ r) l
    (Qr m c b ⟨512 * (t.val % 4) + r.val, by omega⟩ h) (Kr m c b h) (Cum (Z m c b)) (Vr m c b ⟨128 * (h.val / 2) + l.val, by omega⟩)
    (fun l' => q_lane m c hF t b hb h lo hi pp hl hp sQ hs r l') (fun x l' => ?_) (fun x => ?_) (fun x => ?_)).trans ?_
  · rw [hk]
    split_ifs with hc
    · have hx : (⟨x.val % 2048, Nat.mod_lt _ (by norm_num)⟩ : Fin 2048) = x := Fin.ext (Nat.mod_eq_of_lt x.isLt)
      have e : (⟨128 * (h.val / 2) + l'.val, by omega⟩ : Fin 256) = ⟨h.val * 64 + l'.val % 64, by omega⟩ := Fin.ext (by dsimp only; omega)
      obtain ⟨y, ey⟩ := hF.2.1 (ix3 b x ⟨h.val * 64 + l'.val % 64, by omega⟩)
      unfold Kr
      dsimp only
      rw [hx, e, ey, EReal.toReal_coe]
    · rfl
  · rw [hv, if_pos hlb]
    have hx : (⟨x.val % 2048, Nat.mod_lt _ (by norm_num)⟩ : Fin 2048) = x := Fin.ext (Nat.mod_eq_of_lt x.isLt)
    unfold Vr
    rw [hx]
  · rw [hv, if_neg]
    show ¬(l.val + 128 - 64) % 128 / 64 = h.val % 2
    omega
  · unfold res
    have eh : (⟨(128 * (h.val / 2) + l.val) / 64, by omega⟩ : Fin 4) = h := Fin.ext (by dsimp only; omega)
    have e2 : (⟨2 * (h.val / 2) + h.val % 2, by omega⟩ : Fin 128) = ⟨h.val, by omega⟩ := Fin.ext (by dsimp only; omega)
    rw [e2]
    dsimp only
    rw [eh]
    rfl

/-- The output tile of a point is the attention's result. -/
theorem point (hF : Fin_ m c) (t : Fin cfg0.N) (b : Fin 16) (hb : b.val = t.val / 4) (r : Fin 512) (j : Fin 256) :
    (outsAt0 m c t.val t.isLt).1 (ix3 0 r j) = res m c b ⟨512 * (t.val % 4) + r.val, by omega⟩ j := by
  obtain ⟨hk, hv, hs⟩ := scr m c b (Z m c b) (hz m c hF b) _ t hb rfl
  refine (out_point m c t (512 * (t.val % 4)) (by omega) rfl r j).trans ?_
  by_cases h : j.val < 128
  · rw [dif_pos h]
    unfold tile
    rw [sel_ite _ _ (lanes2 ⟨j.val, h⟩)]
    by_cases h2 : j.val / 64 = 0
    · rw [if_pos h2]
      refine (half m c hF t b hb 0 0#32 64#32 pl lanes0 (fun l => by show l.val = 128 * (0 / 2) + l.val; omega) (by omega) r ⟨j.val, h⟩ h2 _ _ _ hk hv hs).trans ?_
      exact congrArg (res m c b _) (Fin.ext (by show 128 * (0 / 2) + j.val = j.val; omega))
    · rw [if_neg h2]
      refine (half m c hF t b hb 1 64#32 128#32 pl lanes1 (fun l => by show l.val = 128 * (1 / 2) + l.val; omega) (by omega) r ⟨j.val, h⟩ (by show j.val / 64 = 1; omega) _ _ _ hk hv hs).trans ?_
      exact congrArg (res m c b _) (Fin.ext (by show 128 * (1 / 2) + j.val = j.val; omega))
  · rw [dif_neg h]
    unfold tile
    rw [sel_ite _ _ (lanes2 ⟨j.val - 128, by omega⟩)]
    by_cases h2 : (j.val - 128) / 64 = 0
    · rw [if_pos h2]
      refine (half m c hF t b hb 2 0#32 64#32 ph lanes0 (fun l => by show 128 + l.val = 128 * (2 / 2) + l.val; omega) (by omega) r ⟨j.val - 128, by omega⟩ h2 _ _ _ hk hv hs).trans ?_
      exact congrArg (res m c b _) (Fin.ext (by show 128 * (2 / 2) + (j.val - 128) = j.val; omega))
    · rw [if_neg h2]
      refine (half m c hF t b hb 3 64#32 128#32 ph lanes1 (fun l => by show 128 + l.val = 128 * (3 / 2) + l.val; omega) (by omega) r ⟨j.val - 128, by omega⟩ (by show (j.val - 128) / 64 = 1; omega) _ _ _ hk hv hs).trans ?_
      exact congrArg (res m c b _) (Fin.ext (by show 128 * (3 / 2) + (j.val - 128) = j.val; omega))

/-- The array that the grid leaves is the attention's result. -/
theorem final (hF : Fin_ m c) : (dats m 0 c).arrAt 7 cfg0.N = layer m c := by
  refine (dats m 0 c).arrAt_eq_of_covers 7 _ (by decide +kernel) fun t hf y => ?_
  blk_simp
  rw [after0_7]
  have ht : t.val < 64 := t.isLt
  idx_vars y
  have hy0 : y0.val = 0 := by omega
  obtain rfl : y0 = 0 := Fin.ext hy0
  refine (point m c hF t ⟨t.val / 4, by omega⟩ rfl y1 y2).trans ?_
  have e0 : win0_7.index t = ![t.val / 4, t.val % 4, 0] := (idx t).2.2.2.2.2.2.2
  have a0 : ((((View.whole main_v51).slice (win0_7.rect t)).emb (ix3 0 y1 y2) 0 : Fin _) : ℕ) = t.val / 4 := by
    refine (Pipeline.Window.rect_emb_val win0_7 t (ix3 0 y1 y2) 0 rfl).trans ?_
    rw [e0]
    change t.val / 4 * 1 + 0 = _
    omega
  have a1 : ((((View.whole main_v51).slice (win0_7.rect t)).emb (ix3 0 y1 y2) 1 : Fin _) : ℕ) = 512 * (t.val % 4) + y1.val := by
    refine (Pipeline.Window.rect_emb_val win0_7 t (ix3 0 y1 y2) 1 rfl).trans ?_
    rw [e0]
    change t.val % 4 * 512 + y1.val = _
    omega
  have a2 : ((((View.whole main_v51).slice (win0_7.rect t)).emb (ix3 0 y1 y2) 2 : Fin _) : ℕ) = y2.val := by
    refine (Pipeline.Window.rect_emb_val win0_7 t (ix3 0 y1 y2) 2 rfl).trans ?_
    rw [e0]
    change 0 * 256 + y2.val = _
    omega
  unfold layer
  congr 1
  · exact Fin.ext a0.symm
  · exact Fin.ext a1.symm
  · exact Fin.ext a2.symm

/-- The reference's attention over given scores. -/
theorem ref_attn (qq k v : FVec Ideal Cert.FoxReferenceIdeal.S16x2048x256 .f32) (C : FVec Ideal Cert.FoxReferenceIdeal.S16x2048x4 .f32) (b : Fin 16) (i : Fin 2048) (j : Fin 256) (s : ℕ → ℝ) (V : ℕ → EReal)
    (hs : ∀ x : Fin 2048, (∑ d : Fin 64, qq (ix3 b i ⟨j.val / 64 * 64 + d.val, by omega⟩) * k (ix3 b x ⟨j.val / 64 * 64 + d.val, by omega⟩) : EReal) * Ideal.ofBits FTy.f32 1040187392#32
      + C (ix3 b i ⟨j.val / 64, by omega⟩) - C (ix3 b x ⟨j.val / 64, by omega⟩) = ((s x.val : ℝ) : EReal))
    (hv : ∀ x : Fin 2048, v (ix3 b x j) = V x.val) :
    Cert.FoxReferenceIdeal.RefValue.outArr v (Cert.FoxReferenceIdeal.RefValue.exArr (Cert.FoxReferenceIdeal.RefValue.scArr qq k C)) (ix3 b i j) = attn (msk s i) V := by
  have hS : (fun x : Fin 2048 => Cert.FoxReferenceIdeal.RefValue.scArr qq k C (ix4 b ⟨j.val / 64, by omega⟩ i x)) = msk s i := funext fun x => by
    rw [Cert.FoxReferenceIdeal.RefValue.sc_at]
    unfold msk
    rw [← hs x]
  have hE : ∀ x : Fin 2048, Cert.FoxReferenceIdeal.RefValue.exArr (Cert.FoxReferenceIdeal.RefValue.scArr qq k C) (ix4 b ⟨j.val / 64, by omega⟩ i x) = wgt (msk s i) x := fun x => by
    rw [Cert.FoxReferenceIdeal.RefValue.ex_at, ← hS]
    rfl
  rw [Cert.FoxReferenceIdeal.RefValue.out_at]
  unfold attn
  simp only [hE, hv]

/-- The reference's running sum of the gates' logarithms is the real one. -/
theorem ref_cum (hF : Fin_ m c) (b : Fin 16) (i : Fin 2048) (h : Fin 4) :
    Cert.FoxReferenceIdeal.RefValue.cumArr (Cert.FoxReferenceIdeal.RefValue.lsArr (Cert.FoxReferenceIdeal.RefValue.zArr (gf m c) (gb m c))) (ix3 b i h)
      = ((Cum (Z m c b) i.val ⟨h.val, by omega⟩ : ℝ) : EReal) := by
  unfold Cum
  rw [coe_sum]
  refine Cert.FoxReferenceIdeal.RefValue.cum_at _ (fun s => ((Z m c b s ⟨h.val, by omega⟩ : ℝ) : EReal)) b i h fun s => ?_
  rw [Cert.FoxReferenceIdeal.RefValue.ls_at, Cert.FoxReferenceIdeal.RefValue.z_at]
  have hl : h.val < 4 := h.isLt
  have ez : zA m c b s ⟨h.val, by omega⟩ = gf m c (ix3 b s h) + gb m c (ix1 h) := by
    unfold zA
    rw [dif_pos hl, dif_pos hl]
  obtain ⟨r, e⟩ := zA_real m c hF b s ⟨h.val, by omega⟩
  obtain ⟨y, ey, ey'⟩ := lsg_real r
  have hsm : (⟨s.val % 2048, Nat.mod_lt _ (by norm_num)⟩ : Fin 2048) = s := Fin.ext (Nat.mod_eq_of_lt s.isLt)
  unfold Z
  rw [hsm, ← ez, e, ey, EReal.toReal_coe]
  exact ey'

/-- The reference's result is the attention's. -/
theorem ref_res (hF : Fin_ m c) (b : Fin 16) (i : Fin 2048) (j : Fin 256) :
    Cert.FoxReferenceIdeal.RefValue.outArr (gv m c) (Cert.FoxReferenceIdeal.RefValue.exArr (Cert.FoxReferenceIdeal.RefValue.scArr (gq m c) (gk m c)
      (Cert.FoxReferenceIdeal.RefValue.cumArr (Cert.FoxReferenceIdeal.RefValue.lsArr (Cert.FoxReferenceIdeal.RefValue.zArr (gf m c) (gb m c)))))) (ix3 b i j) = res m c b i j := by
  have hm : ∀ x : Fin 2048, (⟨x.val % 2048, Nat.mod_lt _ (by norm_num)⟩ : Fin 2048) = x := fun x => Fin.ext (Nat.mod_eq_of_lt x.isLt)
  refine ref_attn (gq m c) (gk m c) (gv m c) _ b i j _ _ (fun x => ?_) (fun x => ?_)
  · rw [ref_cum m c hF, ref_cum m c hF, eighth]
    have e : ∀ d : Fin 64, gq m c (ix3 b i ⟨j.val / 64 * 64 + d.val, by omega⟩) * gk m c (ix3 b x ⟨j.val / 64 * 64 + d.val, by omega⟩)
        = ((Qr m c b i ⟨j.val / 64, by omega⟩ d * Kr m c b ⟨j.val / 64, by omega⟩ x.val d : ℝ) : EReal) := fun d => by
      obtain ⟨u, eu⟩ := hF.1 (ix3 b i ⟨j.val / 64 * 64 + d.val, by omega⟩)
      obtain ⟨w, ew⟩ := hF.2.1 (ix3 b x ⟨j.val / 64 * 64 + d.val, by omega⟩)
      unfold Qr Kr
      dsimp only
      rw [hm, eu, ew, EReal.toReal_coe, EReal.toReal_coe, EReal.coe_mul]
    rw [Finset.sum_congr rfl fun d _ => e d, ← coe_sum, ← EReal.coe_mul, ← EReal.coe_add, ← EReal.coe_sub]
    rfl
  · unfold Vr
    rw [hm]

end Cert.FoxIdeal.RefValue

namespace Cert.Proof
open Idealize.ShloMosaic Idealize.SL.Sem

/-- On finite queries, keys and forget gates the attention kernel and its reference end with the same result. -/
theorem fox_algebraic [Cert.Pre_finite_scores.Facts] : Cert.algebraic_FoxIdeal_FoxReferenceIdeal_pre_finite_scores := by
  intro m ρ m' ρ' hpre hagree
  refine ⟨_, Cert.FoxIdeal.Value.run_blocks m ρ, ?_⟩
  refine (θ_run Cert.FoxReferenceIdeal.defs _ _).mono (fun _ h c => ⟨(h c).1.trans ?_, (h c).2⟩) (Cert.FoxReferenceIdeal.Value.run m' ρ')
  have hF := Cert.FoxIdeal.RefValue.fin_of_pre m c hpre
  refine (Cert.FoxReferenceIdeal.RefValue.res_eq m' c).trans ?_
  refine Eq.trans ?_ (Cert.FoxIdeal.RefValue.final m c hF).symm
  rw [(hagree c).1, (hagree c).2.1, (hagree c).2.2.1, (hagree c).2.2.2.1, (hagree c).2.2.2.2]
  funext y
  have key := Cert.FoxIdeal.RefValue.ref_res m c hF (y 0) (y 1) (y 2)
  have hy : y = ix3 (y 0) (y 1) (y 2) := by
    funext a
    fin_cases a <;> rfl
  rw [hy]
  exact key

end Cert.Proof

end
-- ==== Proof.XattnSpec.lean ====
module

public import Idealize.ShloMosaic.Lib.Pipeline.ValueKit
public import Idealize.ShloMosaic.Lib.Pointwise

@[expose] public section

noncomputable section

namespace Cert.XattnSpec

open Idealize.ShloMosaic

/-- The forgetting attention's row after its norm over each head's 64 lanes. -/
def normed64 (y : Fin 256 → EReal) (w : Fin 64 → EReal) (j : Fin 256) : EReal :=
  y j * Ideal.rsqrt ((∑ d : Fin 64, y ⟨j.val / 64 * 64 + d.val, by omega⟩ * y ⟨j.val / 64 * 64 + d.val, by omega⟩) * ((1/64 : ℝ) : EReal) + Ideal.ofBits FTy.f32 897988541#32) * w ⟨j.val % 64, by omega⟩

/-- The four groups' rows side by side. -/
def mixed (f s g h : Fin 256 → EReal) (k : Fin 1024) : EReal :=
  if h0 : k.val < 256 then f ⟨k.val, h0⟩ else if h1 : k.val < 512 then s ⟨k.val - 256, by omega⟩
  else if h2 : k.val < 768 then g ⟨k.val - 512, by omega⟩ else h ⟨k.val - 768, by omega⟩

/-- A row plus a row times a matrix. -/
def plus (x o : Fin 1024 → EReal) (W : Fin 1024 → Fin 1024 → EReal) (n : Fin 1024) : EReal := x n + ∑ k, o k * W k n

/-- A row of 1024 after its root mean square norm. -/
def normed (x ln : Fin 1024 → EReal) (n : Fin 1024) : EReal :=
  x n * Ideal.rsqrt (Ideal.div (∑ k, x k * x k) (Ideal.ofBits FTy.f32 1149239296#32) + Ideal.ofBits FTy.f32 897988541#32) * ln n

/-- The queries of a row. -/
def query (x ln : Fin 1024 → EReal) (W : Fin 1024 → Fin 1024 → EReal) (n : Fin 1024) : EReal := ∑ k, normed x ln k * W k n

/-- A head's query after its norm. -/
def qn (q w : Fin 256 → EReal) (d : Fin 256) : EReal :=
  q d * Ideal.rsqrt (Ideal.div (∑ k, q k * q k) (Ideal.ofBits FTy.f32 1132462080#32) + Ideal.ofBits FTy.f32 897988541#32) * w d

/-- A head's score with memory token `m`, the scale on the query. -/
def lg (q w : Fin 256 → EReal) (K : Fin 256 → Fin 256 → EReal) (m : Fin 256) : EReal :=
  ∑ d, qn q w d * Ideal.ofBits FTy.f32 1031798784#32 * K m d

/-- The weights before they are divided by their sum. -/
def ex (S : Fin 256 → EReal) (m : Fin 256) : EReal := Ideal.exp (S m - Finset.univ.fold max (Ideal.ofBits FTy.f32 4286578688#32) S)

/-- The values weighted by the softmax of the scores. -/
def soft (S : Fin 256 → EReal) (V : Fin 256 → Fin 256 → EReal) (d : Fin 256) : EReal :=
  ∑ m, Ideal.div (ex S m) (∑ m', ex S m') * V m d

/-- A head's output. -/
def head (q w : Fin 256 → EReal) (K V : Fin 256 → Fin 256 → EReal) (d : Fin 256) : EReal := soft (lg q w K) V d

/-- All heads' outputs side by side. -/
def heads (q : Fin 1024 → EReal) (w : Fin 256 → EReal) (K V : Fin 256 → Fin 1024 → EReal) (k : Fin 1024) : EReal :=
  head (fun d => q ⟨k.val / 256 * 256 + d.val, by omega⟩) w (fun m d => K m ⟨k.val / 256 * 256 + d.val, by omega⟩)
    (fun m d => V m ⟨k.val / 256 * 256 + d.val, by omega⟩) ⟨k.val % 256, by omega⟩

/-- The row after the mixing. -/
def mid (x : Fin 1024 → EReal) (f s g h : Fin 256 → EReal) (w : Fin 64 → EReal) (W : Fin 1024 → Fin 1024 → EReal) : Fin 1024 → EReal :=
  plus x (mixed (normed64 f w) s g h) W

/-- The call's result: the mixed row plus its cross-attention. -/
def out (x : Fin 1024 → EReal) (f s g h : Fin 256 → EReal) (w : Fin 64 → EReal) (W : Fin 1024 → Fin 1024 → EReal) (ln : Fin 1024 → EReal)
    (Wq : Fin 1024 → Fin 1024 → EReal) (qw : Fin 256 → EReal) (K V : Fin 256 → Fin 1024 → EReal) (Wo : Fin 1024 → Fin 1024 → EReal) : Fin 1024 → EReal :=
  plus (mid x f s g h w W) (heads (query (mid x f s g h w W) ln Wq) qw K V) Wo

end Cert.XattnSpec

end
end
-- ==== Proof.XattnBlock.lean ====
module

public import proofs.«01_k».proof.Proof.XattnSpec
public import proofs.«01_k».proof.Proof.Gen.XattnIdeal.Value
public import Idealize.ShloMosaic.Lib.Pipeline.ValueKit
public import Idealize.ShloMosaic.Lib.Pipeline.ReadBack
public import Idealize.ShloMosaic.Lib.Pointwise

@[expose] public section
set_option maxRecDepth 16384
noncomputable section
namespace Cert.XattnIdeal.RefValue
open Cert.XattnIdeal Cert.XattnIdeal.Gen Idealize.ShloMosaic Idealize.ShloMosaic.TcCoe Idealize.SL.Sem

/-- The queries of a row, from its norm's pieces. -/
theorem pay14_at (v73 : FVec Ideal S1024x1024 .f32) (v75 : FVec Ideal S1x1024 .f32) (v84 : FVec Ideal S1024x1024 .f32) (v89 : Vec Ideal S1024x1024 .bf16) (r n : Fin 1024) :
    k0_pay14 v73 v75 v84 v89 (ix2 r n) = ∑ k, v73 (ix2 r k) * v84 (ix2 r k) * v75 (ix2 0 k) * v89 (ix2 k n) := by
  pointwise [k0_pay14]

/-- The norm's factor of a row. -/
theorem pay13_at (v31 v32 : FVec Ideal S1024x128 .f32) (v33 : FVec Ideal S1x128 .f32) (v36 : IVec S1024x128 1) (v41 : FVec Ideal S1024x1 .f32) (v43 : FVec Ideal S1024x128 .f32) (v61 v63 v65 : Vec Ideal S1024x256 .bf16) (v68 : Vec Ideal S1024x1024 .f32) (v70 : Vec Ideal S1024x1024 .bf16) (r n : Fin 1024) :
    k0_pay13 v31 v32 v33 v36 v41 v43 v61 v63 v65 v68 v70 (ix2 r n)
      = Ideal.rsqrt (Ideal.div (∑ k, k0_pay11 v31 v32 v33 v36 v41 v43 v61 v63 v65 v68 v70 (ix2 r k) * k0_pay11 v31 v32 v33 v36 v41 v43 v61 v63 v65 v68 v70 (ix2 r k)) (Ideal.ofBits FTy.f32 1149239296#32) + Ideal.ofBits FTy.f32 897988541#32) := by
  unfold k0_pay13
  generalize k0_pay11 v31 v32 v33 v36 v41 v43 v61 v63 v65 v68 v70 = X
  pointwise []

/-- The second head. -/
theorem pay17_at (v91 : FVec Ideal S1024x1024 .f32) (w : Vec Ideal S1x256 .f32) (K V : Vec Ideal S1x256x256 .bf16) (r : Fin 1024) (d : Fin 256) :
    k0_pay17 v91 w K V (ix2 r d) = XattnSpec.head (fun d => v91 (ix2 r ⟨256 + d.val, by omega⟩)) (fun d => w (ix2 0 d)) (fun m d => K (ix3 0 m d)) (fun m d => V (ix3 0 m d)) d := by
  unfold XattnSpec.head XattnSpec.soft XattnSpec.ex XattnSpec.lg XattnSpec.qn
  pointwise [k0_pay17]

/-- The first head. -/
theorem pay15_at (v73 : FVec Ideal S1024x1024 .f32) (v75 : FVec Ideal S1x1024 .f32) (v84 : FVec Ideal S1024x1024 .f32) (v89 : Vec Ideal S1024x1024 .bf16) (w : Vec Ideal S1x256 .f32) (K V : Vec Ideal S1x256x256 .bf16) (r : Fin 1024) (d : Fin 256) :
    k0_pay15 v73 v75 v84 v89 w K V (ix2 r d) = XattnSpec.head (fun d => k0_pay14 v73 v75 v84 v89 (ix2 r ⟨d.val, by omega⟩)) (fun d => w (ix2 0 d)) (fun m d => K (ix3 0 m d)) (fun m d => V (ix3 0 m d)) d := by
  unfold XattnSpec.head XattnSpec.soft XattnSpec.ex XattnSpec.lg XattnSpec.qn k0_pay15
  generalize k0_pay14 v73 v75 v84 v89 = X
  pointwise []

/-- The third head. -/
theorem pay21_at (v91 : FVec Ideal S1024x1024 .f32) (w : Vec Ideal S1x256 .f32) (K V : Vec Ideal S1x256x256 .bf16) (r : Fin 1024) (d : Fin 256) :
    k0_pay21 (k0_pay18 v91) (k0_pay19 w) (k0_pay20 v91) K V (ix2 r d) = XattnSpec.head (fun d => v91 (ix2 r ⟨512 + d.val, by omega⟩)) (fun d => w (ix2 0 d)) (fun m d => K (ix3 0 m d)) (fun m d => V (ix3 0 m d)) d := by
  unfold XattnSpec.head XattnSpec.soft XattnSpec.ex XattnSpec.lg XattnSpec.qn
  pointwise [k0_pay21, k0_pay18, k0_pay19, k0_pay20]

/-- The fourth head, as the last store computes it. -/
def hd3 (v197 : FVec Ideal S1024x256 .f32) (v199 : FVec Ideal S1x256 .f32) (v208 : FVec Ideal S1024x256 .f32) (v215 v228 : Vec Ideal S1x256x256 .bf16) : FVec Ideal S1024x256 .bf16 :=
  have v209 : FVec Ideal S1024x256 .f32 := mulf v197 v208
  have v210 : FVec Ideal S1024x256 .f32 := broadcastTo S1024x256 v199 broadcasts_S1x256_S1024x256
  have v211 : FVec Ideal S1024x256 .f32 := mulf v209 v210
  have cst_85 : Ideal FTy.f32 := Scalar.ofBits .f32 0x3D800000#32
  have v212 : FVec Ideal S1024x256 .f32 := broadcast S1024x256 cst_85
  have v213 : FVec Ideal S1024x256 .f32 := mulf v211 v212
  have v214 : FVec Ideal S1024x256 .bf16 := truncf .bf16 v213 bitsLt_bf16_f32
  have v216 : FVec Ideal S256x256 .bf16 := shapeCast S256x256 v215 shapeCasts_S1x256x256_S256x256
  have cst_88 : FVec Ideal S1024x256 .f32 := constant S1024x256 .f32 0x00000000#32
  have v217 : FVec Ideal S1024x256 .f32 := matmul dot_S1024x256_S256x256_S1024x256_1_1_0_0_n_n none v214 v216 cst_88
  have v218 : FVec Ideal S1024 .f32 := multiReduction .maximumf [1] S1024 v217 0xFF800000#32 reduces_S1024x256_S1024 (.inl rfl) rfl
  have v219 : FVec Ideal S1024x1 .f32 := shapeCast S1024x1 v218 shapeCasts_S1024_S1024x1
  have v220 : FVec Ideal S1024x256 .f32 := broadcastTo S1024x256 v219 broadcasts_S1024x1_S1024x256
  have v221 : FVec Ideal S1024x256 .f32 := subf v217 v220
  have v222 : FVec Ideal S1024x256 .f32 := exp v221
  have v223 : FVec Ideal S1024 .f32 := multiReduction .add [1] S1024 v222 0x00000000#32 reduces_S1024x256_S1024 (.inl rfl) rfl
  have v224 : FVec Ideal S1024x1 .f32 := shapeCast S1024x1 v223 shapeCasts_S1024_S1024x1
  have v225 : FVec Ideal S1024x256 .f32 := broadcastTo S1024x256 v224 broadcasts_S1024x1_S1024x256
  have v226 : FVec Ideal S1024x256 .f32 := divf v222 v225
  have v227 : FVec Ideal S1024x256 .bf16 := truncf .bf16 v226 bitsLt_bf16_f32
  have v229 : FVec Ideal S256x256 .bf16 := shapeCast S256x256 v228 shapeCasts_S1x256x256_S256x256
  have cst_94 : FVec Ideal S1024x256 .f32 := constant S1024x256 .f32 0x00000000#32
  have v230 : FVec Ideal S1024x256 .f32 := matmul dot_S1024x256_S256x256_S1024x256_1_0_0_1_n_n none v227 v229 cst_94
  have v231 : FVec Ideal S1024x256 .bf16 := truncf .bf16 v230 bitsLt_bf16_f32
  v231

/-- The last store, with the fourth head by its name. -/
theorem pay1_eq (v73 : FVec Ideal S1024x1024 .f32) (o0 o1 o2 : FVec Ideal S1024x256 .bf16) (v197 : FVec Ideal S1024x256 .f32) (v199 : FVec Ideal S1x256 .f32) (v208 : FVec Ideal S1024x256 .f32) (K V : Vec Ideal S1x256x256 .bf16) (Wo : Vec Ideal S1024x1024 .bf16) :
    k0_pay1 v73 o0 o1 o2 v197 v199 v208 K V Wo = addf v73 (matmul dot_S1024x1024_S1024x1024_S1024x1024_1_0_0_1_n_n none
      (concatenate S1024x1024 1 [⟨S1024x256, o0⟩, ⟨S1024x256, o1⟩, ⟨S1024x256, o2⟩, ⟨S1024x256, hd3 v197 v199 v208 K V⟩] concatenates_S1024x256_S1024x256_S1024x256_S1024x256_S1024x1024_d1)
      (shapeCast S1024x1024 Wo shapeCasts_S1024x1024_S1024x1024 : FVec Ideal S1024x1024 .bf16) (constant S1024x1024 .f32 0x00000000#32)) := by
  rfl

/-- The fourth head. -/
theorem hd3_at (v91 : FVec Ideal S1024x1024 .f32) (w : Vec Ideal S1x256 .f32) (K V : Vec Ideal S1x256x256 .bf16) (r : Fin 1024) (d : Fin 256) :
    hd3 (k0_pay22 v91) (k0_pay23 w) (k0_pay24 v91) K V (ix2 r d) = XattnSpec.head (fun d => v91 (ix2 r ⟨768 + d.val, by omega⟩)) (fun d => w (ix2 0 d)) (fun m d => K (ix3 0 m d)) (fun m d => V (ix3 0 m d)) d := by
  unfold XattnSpec.head XattnSpec.soft XattnSpec.ex XattnSpec.lg XattnSpec.qn
  pointwise [hd3, k0_pay22, k0_pay23, k0_pay24]

/-- A position among the last heads, counted from the front. -/
theorem mixed_eq (f s g h : Fin 256 → EReal) (x : Fin 1024) :
    XattnSpec.mixed f s g h x = if h_1 : x.val < 256 then f ⟨x.val, h_1⟩ else if h_2 : x.val - 256 < 256 then s ⟨x.val - 256, h_2⟩
      else if h_3 : x.val - 256 - 256 < 256 then g ⟨x.val - 256 - 256, h_3⟩ else h ⟨x.val - 256 - 256 - 256, by omega⟩ := by
  unfold XattnSpec.mixed
  split_ifs <;> first | rfl | (exfalso; omega) | (congr 1)

/-- The last store: the mixed row plus the output projection of the heads. -/
theorem pay1_at (v73 : FVec Ideal S1024x1024 .f32) (o0 o1 o2 : FVec Ideal S1024x256 .bf16) (v197 : FVec Ideal S1024x256 .f32) (v199 : FVec Ideal S1x256 .f32) (v208 : FVec Ideal S1024x256 .f32) (K V : Vec Ideal S1x256x256 .bf16) (Wo : Vec Ideal S1024x1024 .bf16) (r n : Fin 1024) :
    k0_pay1 v73 o0 o1 o2 v197 v199 v208 K V Wo (ix2 r n)
      = XattnSpec.plus (fun k => v73 (ix2 r k)) (XattnSpec.mixed (fun d => o0 (ix2 r d)) (fun d => o1 (ix2 r d)) (fun d => o2 (ix2 r d))
          (fun d => hd3 v197 v199 v208 K V (ix2 r d))) (fun k n => Wo (ix2 k n)) n := by
  rw [pay1_eq]
  generalize hd3 v197 v199 v208 K V = o3
  unfold XattnSpec.plus
  simp only [mixed_eq]
  generalize hG : (_ + _ : EReal) = G
  pointwise []
  rw [← hG]

/-- Which lanes lie in the first head of a pair. -/
theorem cmp64 : ∀ l : Fin 128, IntOp.cmpi .slt (BitVec.ofNat 32 l.val) 64#32 = if l.val < 64 then 1#1 else 0#1 := by
  decide +kernel

/-- A pair of heads' masked sums, each lane with its own head's. -/
theorem mask (f : Fin 128 → EReal) (l : Fin 128) :
    Scalar.select (IntOp.cmpi .slt (BitVec.ofNat 32 l.val) 64#32) (∑ x : Fin 128, Scalar.select (IntOp.cmpi .slt (BitVec.ofNat 32 x.val) 64#32) (f x) 0)
      (∑ x : Fin 128, Scalar.select (IntOp.cmpi .slt (BitVec.ofNat 32 x.val) 64#32) 0 (f x)) = ∑ d : Fin 64, f ⟨l.val / 64 * 64 + d.val, by omega⟩ := by
  simp only [cmp64, Scalar.select]
  rw [Fin.sum_univ_add (a := 64) (b := 64), Fin.sum_univ_add (a := 64) (b := 64)]
  have e0 : ∀ i : Fin 64, (Fin.castAdd 64 i).val < 64 := fun i => i.isLt
  have e1 : ∀ i : Fin 64, ¬ (Fin.natAdd 64 i).val < 64 := fun i => by simp
  simp only [e0, e1, if_true, if_false]
  by_cases hl : l.val < 64
  · simp only [hl, if_true]
    rw [Finset.sum_eq_zero (s := Finset.univ) (f := fun x : Fin 64 => if (0#1 : BitVec 1) = 1 then f (Fin.natAdd 64 x) else 0) fun x _ => by simp, add_zero]
    refine Finset.sum_congr rfl fun d _ => ?_
    exact congrArg f (Fin.ext (by simp; omega))
  · simp only [hl, if_false]
    have z : ((0#1 : BitVec 1) = 1) = False := by simp
    simp only [z, if_false]
    rw [Finset.sum_eq_zero (s := Finset.univ) fun x _ => by simp, zero_add]
    refine Finset.sum_congr rfl fun d _ => ?_
    exact congrArg f (Fin.ext (by simp; omega))

/-- One sixty-fourth. -/
theorem sixtyfourth : Ideal.ofBits FTy.f32 1015021568#32 = ((1/64 : ℝ) : EReal) := by
  simp [Ideal.ofBits, Ideal.ieee, -EReal.coe_mul]
  norm_num

/-- The norm over each head's 64 lanes, at a lane of the first pair of heads. -/
theorem lo_at (v0 : Vec Ideal S1024x256 .bf16) (v3 : Vec Ideal S1x256 .f32) (r : Fin 1024) (l : Fin 128) (w : Fin 64 → EReal) (hw : ∀ j : Fin 256, v3 (ix2 0 j) = w ⟨j.val % 64, by omega⟩) :
    v0 (ix2 r ⟨l.val, by omega⟩) * Ideal.rsqrt (Scalar.select (IntOp.cmpi .slt (BitVec.ofNat 32 l.val) 64#32)
          (∑ x : Fin 128, Scalar.select (IntOp.cmpi .slt (BitVec.ofNat 32 x.val) 64#32) (v0 (ix2 r ⟨x.val, by omega⟩) * v0 (ix2 r ⟨x.val, by omega⟩)) 0)
          (∑ x : Fin 128, Scalar.select (IntOp.cmpi .slt (BitVec.ofNat 32 x.val) 64#32) 0 (v0 (ix2 r ⟨x.val, by omega⟩) * v0 (ix2 r ⟨x.val, by omega⟩)))
        * Ideal.ofBits FTy.f32 1015021568#32 + Ideal.ofBits FTy.f32 897988541#32) * v3 (ix2 0 ⟨l.val, by omega⟩)
      = XattnSpec.normed64 (fun d => v0 (ix2 r d)) w ⟨l.val, by omega⟩ := by
  rw [mask (fun x : Fin 128 => v0 (ix2 r ⟨x.val, by omega⟩) * v0 (ix2 r ⟨x.val, by omega⟩)) l, hw, sixtyfourth]
  rfl

/-- The norm over each head's 64 lanes, at a lane of the second pair of heads. -/
theorem hi_at (v0 : Vec Ideal S1024x256 .bf16) (v3 : Vec Ideal S1x256 .f32) (r : Fin 1024) (l : Fin 128) (w : Fin 64 → EReal) (hw : ∀ j : Fin 256, v3 (ix2 0 j) = w ⟨j.val % 64, by omega⟩) :
    v0 (ix2 r ⟨128 + l.val, by omega⟩) * Ideal.rsqrt (Scalar.select (IntOp.cmpi .slt (BitVec.ofNat 32 l.val) 64#32)
          (∑ x : Fin 128, Scalar.select (IntOp.cmpi .slt (BitVec.ofNat 32 x.val) 64#32) (v0 (ix2 r ⟨128 + x.val, by omega⟩) * v0 (ix2 r ⟨128 + x.val, by omega⟩)) 0)
          (∑ x : Fin 128, Scalar.select (IntOp.cmpi .slt (BitVec.ofNat 32 x.val) 64#32) 0 (v0 (ix2 r ⟨128 + x.val, by omega⟩) * v0 (ix2 r ⟨128 + x.val, by omega⟩)))
        * Ideal.ofBits FTy.f32 1015021568#32 + Ideal.ofBits FTy.f32 897988541#32) * v3 (ix2 0 ⟨128 + l.val, by omega⟩)
      = XattnSpec.normed64 (fun d => v0 (ix2 r d)) w ⟨128 + l.val, by omega⟩ := by
  rw [mask (fun x : Fin 128 => v0 (ix2 r ⟨128 + x.val, by omega⟩) * v0 (ix2 r ⟨128 + x.val, by omega⟩)) l, hw, sixtyfourth]
  unfold XattnSpec.normed64
  have e : ∀ d : Fin 64, 128 + (l.val / 64 * 64 + d.val) = (128 + l.val) / 64 * 64 + d.val := fun d => by omega
  simp only [e]

/-- The forgetting attention's rows after their norm. -/
def fk (v31 v32 : FVec Ideal S1024x128 .f32) (v33 : FVec Ideal S1x128 .f32) (v36 : IVec S1024x128 1) (v41 : FVec Ideal S1024x1 .f32) (v43 : FVec Ideal S1024x128 .f32) : FVec Ideal S1024x256 .bf16 :=
  have v44 : FVec Ideal S1024 .f32 := multiReduction .add [1] S1024 v43 0x00000000#32 reduces_S1024x128_S1024 (.inl rfl) rfl
  have v45 : FVec Ideal S1024x1 .f32 := shapeCast S1024x1 v44 shapeCasts_S1024_S1024x1
  have v46 : FVec Ideal S1024x1 .f32 := shapeCast S1024x1 v41 shapeCasts_S1024x1_S1024x1
  have v47 : FVec Ideal S1024x128 .f32 := broadcastTo S1024x128 v46 broadcasts_S1024x1_S1024x128
  have v48 : FVec Ideal S1024x1 .f32 := shapeCast S1024x1 v45 shapeCasts_S1024x1_S1024x1
  have v49 : FVec Ideal S1024x128 .f32 := broadcastTo S1024x128 v48 broadcasts_S1024x1_S1024x128
  have v50 : FVec Ideal S1024x128 .f32 := select v36 v47 v49
  have cst_13 : Ideal FTy.f32 := Scalar.ofBits .f32 0x3C800000#32
  have v51 : FVec Ideal S1024x128 .f32 := broadcast S1024x128 cst_13
  have v52 : FVec Ideal S1024x128 .f32 := mulf v50 v51
  have cst_14 : Ideal FTy.f32 := Scalar.ofBits .f32 0x358637BD#32
  have v53 : FVec Ideal S1024x128 .f32 := broadcast S1024x128 cst_14
  have v54 : FVec Ideal S1024x128 .f32 := addf v52 v53
  have v55 : FVec Ideal S1024x128 .f32 := rsqrt v54
  have v56 : FVec Ideal S1024x128 .f32 := mulf v32 v55
  have v57 : FVec Ideal S1024x128 .f32 := broadcastTo S1024x128 v33 broadcasts_S1x128_S1024x128
  have v58 : FVec Ideal S1024x128 .f32 := mulf v56 v57
  have v59 : FVec Ideal S1024x256 .f32 := concatenate S1024x256 1 [⟨S1024x128, v31⟩, ⟨S1024x128, v58⟩] concatenates_S1024x128_S1024x128_S1024x256_d1
  have v60 : FVec Ideal S1024x256 .bf16 := truncf .bf16 v59 bitsLt_bf16_f32
  v60

/-- The mixing, with the normed rows by their name. -/
theorem pay11_eq (v31 v32 : FVec Ideal S1024x128 .f32) (v33 : FVec Ideal S1x128 .f32) (v36 : IVec S1024x128 1) (v41 : FVec Ideal S1024x1 .f32) (v43 : FVec Ideal S1024x128 .f32) (s g h : Vec Ideal S1024x256 .bf16) (x : Vec Ideal S1024x1024 .f32) (W : Vec Ideal S1024x1024 .bf16) :
    k0_pay11 v31 v32 v33 v36 v41 v43 s g h x W = addf (shapeCast S1024x1024 x shapeCasts_S1024x1024_S1024x1024 : FVec Ideal S1024x1024 .f32) (matmul dot_S1024x1024_S1024x1024_S1024x1024_1_0_0_1_n_n none
      (concatenate S1024x1024 1 [⟨S1024x256, fk v31 v32 v33 v36 v41 v43⟩, ⟨S1024x256, (shapeCast S1024x256 s shapeCasts_S1024x256_S1024x256 : FVec Ideal S1024x256 .bf16)⟩, ⟨S1024x256, (shapeCast S1024x256 g shapeCasts_S1024x256_S1024x256 : FVec Ideal S1024x256 .bf16)⟩, ⟨S1024x256, (shapeCast S1024x256 h shapeCasts_S1024x256_S1024x256 : FVec Ideal S1024x256 .bf16)⟩] concatenates_S1024x256_S1024x256_S1024x256_S1024x256_S1024x1024_d1)
      (shapeCast S1024x1024 W shapeCasts_S1024x1024_S1024x1024 : FVec Ideal S1024x1024 .bf16) (constant S1024x1024 .f32 0x00000000#32)) := by
  rfl

/-- The normed rows at an entry. -/
theorem fk_at (v0 : Vec Ideal S1024x256 .bf16) (v3 : Vec Ideal S1x256 .f32) (r : Fin 1024) (k : Fin 256) (w : Fin 64 → EReal) (hw : ∀ j : Fin 256, v3 (ix2 0 j) = w ⟨j.val % 64, by omega⟩) :
    fk (k0_pay4 v0 v3) (k0_pay5 v0) (k0_pay6 v3) k0_pay7 (k0_pay9 v0) (k0_pay10 v0) (ix2 r k) = XattnSpec.normed64 (fun d => v0 (ix2 r d)) w k := by
  generalize hG : XattnSpec.normed64 _ _ _ = G
  pointwise [fk, k0_pay4, k0_pay5, k0_pay6, k0_pay7, k0_pay9, k0_pay10, k0_pay8, k0_pay2, k0_pay3]
  rw [← hG]
  by_cases h2 : k.val < 128
  · rw [dif_pos h2]
    exact lo_at v0 v3 r ⟨k.val, h2⟩ w hw
  · rw [dif_neg h2]
    have q := hi_at v0 v3 r ⟨k.val - 128, by omega⟩ w hw
    have e : (⟨128 + (k.val - 128), by omega⟩ : Fin 256) = k := Fin.ext (by simp; omega)
    refine q.trans ?_
    simp only [e]

/-- A row plus the product of four pieces side by side with a matrix. -/
theorem cat_at (o0 o1 o2 o3 : FVec Ideal S1024x256 .bf16) (x : FVec Ideal S1024x1024 .f32) (W : Vec Ideal S1024x1024 .bf16) (r n : Fin 1024) :
    addf x (matmul dot_S1024x1024_S1024x1024_S1024x1024_1_0_0_1_n_n none
      (concatenate S1024x1024 1 [⟨S1024x256, o0⟩, ⟨S1024x256, o1⟩, ⟨S1024x256, o2⟩, ⟨S1024x256, o3⟩] concatenates_S1024x256_S1024x256_S1024x256_S1024x256_S1024x1024_d1)
      (shapeCast S1024x1024 W shapeCasts_S1024x1024_S1024x1024 : FVec Ideal S1024x1024 .bf16) (constant S1024x1024 .f32 0x00000000#32)) (ix2 r n)
      = XattnSpec.plus (fun k => x (ix2 r k)) (XattnSpec.mixed (fun d => o0 (ix2 r d)) (fun d => o1 (ix2 r d)) (fun d => o2 (ix2 r d))
          (fun d => o3 (ix2 r d))) (fun k n => W (ix2 k n)) n := by
  unfold XattnSpec.plus
  simp only [mixed_eq]
  generalize hG : (_ + _ : EReal) = G
  pointwise []
  rw [← hG]

/-- The mixing: a row plus the output projection of the four groups. -/
theorem pay11_at (v0 : Vec Ideal S1024x256 .bf16) (v3 : Vec Ideal S1x256 .f32) (s g h : Vec Ideal S1024x256 .bf16) (x : Vec Ideal S1024x1024 .f32) (W : Vec Ideal S1024x1024 .bf16) (r n : Fin 1024)
    (w : Fin 64 → EReal) (hw : ∀ j : Fin 256, v3 (ix2 0 j) = w ⟨j.val % 64, by omega⟩) :
    k0_pay11 (k0_pay4 v0 v3) (k0_pay5 v0) (k0_pay6 v3) k0_pay7 (k0_pay9 v0) (k0_pay10 v0) s g h x W (ix2 r n)
      = XattnSpec.plus (fun k => x (ix2 r k)) (XattnSpec.mixed (XattnSpec.normed64 (fun d => v0 (ix2 r d)) w) (fun d => s (ix2 r d)) (fun d => g (ix2 r d)) (fun d => h (ix2 r d))) (fun k n => W (ix2 k n)) n := by
  rw [pay11_eq]
  refine (cat_at _ _ _ _ _ _ r n).trans ?_
  have e : (fun d => fk (k0_pay4 v0 v3) (k0_pay5 v0) (k0_pay6 v3) k0_pay7 (k0_pay9 v0) (k0_pay10 v0) (ix2 r d)) = XattnSpec.normed64 (fun d => v0 (ix2 r d)) w :=
    funext fun k => fk_at v0 v3 r k w hw
  rw [e]
  simp only [shapeCast_id]

/-- The windows' block numbers at each grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0]
    ∧ win0_5.index t = ![0, 0] ∧ win0_6.index t = ![0, 0] ∧ win0_7.index t = ![0, 0] ∧ win0_8.index t = ![0, 0] ∧ win0_9.index t = ![0, 0]
    ∧ win0_10.index t = ![t.val / 2, 0, 0] ∧ win0_11.index t = ![t.val / 2, 0, 0] ∧ win0_12.index t = ![0, 0] ∧ win0_13.index t = ![t.val, 0] := by
  decide +kernel

/-- A row of point `t`'s input block is a row of the input. -/
theorem iblk0 (m : (ℓ : Loc nD τ sig) → Buf (Elt Ideal) ℓ) (c : Dev nD) (t : Fin cfg0.N) (r : Fin 1024) (k : Fin 1024) (b : Fin 16) (s : Fin 2048) (h : 2048 * b.val + s.val = 1024 * t.val + r.val) :
    iblk m c 0 t (ix2 r k) = m ((c.tc : Thread nD τ).loc main_arg0) (ix3 b s k) := by
  blk_ext! [iblk, V, idx t]

/-- A row of the forgetting attention's output. -/
theorem iblk1 (m : (ℓ : Loc nD τ sig) → Buf (Elt Ideal) ℓ) (c : Dev nD) (t : Fin cfg0.N) (r : Fin 1024) (k : Fin 256) (b : Fin 16) (s : Fin 2048) (h : 2048 * b.val + s.val = 1024 * t.val + r.val) :
    iblk m c 1 t (ix2 r k) = m ((c.tc : Thread nD τ).loc main_arg1) (ix3 b s k) := by
  blk_ext! [iblk, V, idx t]

/-- A row of the second group. -/
theorem iblk2 (m : (ℓ : Loc nD τ sig) → Buf (Elt Ideal) ℓ) (c : Dev nD) (t : Fin cfg0.N) (r : Fin 1024) (k : Fin 256) (b : Fin 16) (s : Fin 2048) (h : 2048 * b.val + s.val = 1024 * t.val + r.val) :
    iblk m c 2 t (ix2 r k) = m ((c.tc : Thread nD τ).loc main_arg2) (ix3 b s k) := by
  blk_ext! [iblk, V, idx t]

/-- A row of the third group. -/
theorem iblk3 (m : (ℓ : Loc nD τ sig) → Buf (Elt Ideal) ℓ) (c : Dev nD) (t : Fin cfg0.N) (r : Fin 1024) (k : Fin 256) (b : Fin 16) (s : Fin 2048) (h : 2048 * b.val + s.val = 1024 * t.val + r.val) :
    iblk m c 3 t (ix2 r k) = m ((c.tc : Thread nD τ).loc main_arg3) (ix3 b s k) := by
  blk_ext! [iblk, V, idx t]

/-- A row of the fourth group. -/
theorem iblk4 (m : (ℓ : Loc nD τ sig) → Buf (Elt Ideal) ℓ) (c : Dev nD) (t : Fin cfg0.N) (r : Fin 1024) (k : Fin 256) (b : Fin 16) (s : Fin 2048) (h : 2048 * b.val + s.val = 1024 * t.val + r.val) :
    iblk m c 4 t (ix2 r k) = m ((c.tc : Thread nD τ).loc main_arg4) (ix3 b s k) := by
  blk_ext! [iblk, V, idx t]

/-- The norm's weights, once for each head. -/
theorem iblk5 (m : (ℓ : Loc nD τ sig) → Buf (Elt Ideal) ℓ) (c : Dev nD) (t : Fin cfg0.N) (k : Fin 256) :
    iblk m c 5 t (ix2 0 k) = m ((c.tc : Thread nD τ).loc main_arg5) (ix1 ⟨k.val % 64, by omega⟩) := by
  blk_ext! [iblk, V, idx t]

/-- The mixing's weights. -/
theorem iblk6 (m : (ℓ : Loc nD τ sig) → Buf (Elt Ideal) ℓ) (c : Dev nD) (t : Fin cfg0.N) (r k : Fin 1024) :
    iblk m c 6 t (ix2 r k) = m ((c.tc : Thread nD τ).loc main_arg6) (ix2 r k) := by
  blk_ext! [iblk, V, idx t]

/-- The row norm's weights. -/
theorem iblk7 (m : (ℓ : Loc nD τ sig) → Buf (Elt Ideal) ℓ) (c : Dev nD) (t : Fin cfg0.N) (k : Fin 1024) :
    iblk m c 7 t (ix2 0 k) = m ((c.tc : Thread nD τ).loc main_arg7) (ix1 k) := by
  blk_ext! [iblk, V, idx t]

/-- The queries' weights. -/
theorem iblk8 (m : (ℓ : Loc nD τ sig) → Buf (Elt Ideal) ℓ) (c : Dev nD) (t : Fin cfg0.N) (r k : Fin 1024) :
    iblk m c 8 t (ix2 r k) = m ((c.tc : Thread nD τ).loc main_arg8) (ix2 r k) := by
  blk_ext! [iblk, V, idx t]

/-- The query norm's weights. -/
theorem iblk9 (m : (ℓ : Loc nD τ sig) → Buf (Elt Ideal) ℓ) (c : Dev nD) (t : Fin cfg0.N) (k : Fin 256) :
    iblk m c 9 t (ix2 0 k) = m ((c.tc : Thread nD τ).loc main_arg9) (ix1 k) := by
  blk_ext! [iblk, V, idx t]

/-- The keys of the point's sequence. -/
theorem iblk10 (m : (ℓ : Loc nD τ sig) → Buf (Elt Ideal) ℓ) (c : Dev nD) (t : Fin cfg0.N) (j : Fin 256) (k : Fin 1024) (b : Fin 16) (h : b.val = t.val / 2) :
    iblk m c 10 t (ix3 0 j k) = m ((c.tc : Thread nD τ).loc main_arg10) (ix3 b j k) := by
  blk_ext! [iblk, V, idx t]

/-- The values of the point's sequence. -/
theorem iblk11 (m : (ℓ : Loc nD τ sig) → Buf (Elt Ideal) ℓ) (c : Dev nD) (t : Fin cfg0.N) (j : Fin 256) (k : Fin 1024) (b : Fin 16) (h : b.val = t.val / 2) :
    iblk m c 11 t (ix3 0 j k) = m ((c.tc : Thread nD τ).loc main_arg11) (ix3 b j k) := by
  blk_ext! [iblk, V, idx t]

/-- The output projection's weights. -/
theorem iblk12 (m : (ℓ : Loc nD τ sig) → Buf (Elt Ideal) ℓ) (c : Dev nD) (t : Fin cfg0.N) (r k : Fin 1024) :
    iblk m c 12 t (ix2 r k) = m ((c.tc : Thread nD τ).loc main_arg12) (ix2 r k) := by
  blk_ext! [iblk, V, idx t]

/-- What the body stores, as a function of its blocks and their lanes. -/
def body (x0 : Vec Ideal S1024x1024 .f32) (x1 x2 x3 x4 : Vec Ideal S1024x256 .bf16) (x5 : Vec Ideal S1x256 .f32) (x6 : Vec Ideal S1024x1024 .bf16) (x7 : Vec Ideal S1x1024 .f32) (x8 : Vec Ideal S1024x1024 .bf16) (x9 : Vec Ideal S1x256 .f32)
    (ka va kb vb kc vc kd vd : Vec Ideal S1x256x256 .bf16) (x12 : Vec Ideal S1024x1024 .bf16) : FVec Ideal S1024x1024 .f32 :=
  let v73 := k0_pay11 (k0_pay4 x1 x5) (k0_pay5 x1) (k0_pay6 x5) k0_pay7 (k0_pay9 x1) (k0_pay10 x1) x2 x3 x4 x0 x6
  let v75 := k0_pay12 x7
  let v84 := k0_pay13 (k0_pay4 x1 x5) (k0_pay5 x1) (k0_pay6 x5) k0_pay7 (k0_pay9 x1) (k0_pay10 x1) x2 x3 x4 x0 x6
  let v91 := k0_pay14 v73 v75 v84 x8
  k0_pay1 v73 (k0_pay16 (k0_pay15 v73 v75 v84 x8 x9 ka va)) (k0_pay17 v91 x9 kb vb) (k0_pay21 (k0_pay18 v91) (k0_pay19 x9) (k0_pay20 v91) kc vc) (k0_pay22 v91) (k0_pay23 x9) (k0_pay24 v91) kd vd x12

/-- Four heads side by side are the heads of the whole row. -/
theorem heads_mixed (q : Fin 1024 → EReal) (w : Fin 256 → EReal) (K V : Fin 256 → Fin 1024 → EReal) :
    XattnSpec.mixed (XattnSpec.head (fun d => q ⟨d.val, by omega⟩) w (fun m d => K m ⟨d.val, by omega⟩) (fun m d => V m ⟨d.val, by omega⟩))
      (XattnSpec.head (fun d => q ⟨256 + d.val, by omega⟩) w (fun m d => K m ⟨256 + d.val, by omega⟩) (fun m d => V m ⟨256 + d.val, by omega⟩))
      (XattnSpec.head (fun d => q ⟨512 + d.val, by omega⟩) w (fun m d => K m ⟨512 + d.val, by omega⟩) (fun m d => V m ⟨512 + d.val, by omega⟩))
      (XattnSpec.head (fun d => q ⟨768 + d.val, by omega⟩) w (fun m d => K m ⟨768 + d.val, by omega⟩) (fun m d => V m ⟨768 + d.val, by omega⟩))
      = XattnSpec.heads q w K V := by
  have key : ∀ (k : Fin 1024) (o : ℕ) (ho : o + 256 ≤ 1024) (l : Fin 256) (e : k.val / 256 * 256 = o) (el : k.val % 256 = l.val),
      XattnSpec.head (fun d => q ⟨o + d.val, by omega⟩) w (fun m d => K m ⟨o + d.val, by omega⟩) (fun m d => V m ⟨o + d.val, by omega⟩) l = XattnSpec.heads q w K V k := by
    intro k o ho l e el
    subst e
    unfold XattnSpec.heads
    congr 1
    exact Fin.ext el.symm
  funext k
  unfold XattnSpec.mixed
  split_ifs with h0 h1 h2
  · rw [← key k 0 (by omega) ⟨k.val, h0⟩ (by omega) (by simp; omega)]
    simp only [Nat.zero_add]
  · exact key k 256 (by omega) _ (by omega) (by simp; omega)
  · exact key k 512 (by omega) _ (by omega) (by simp; omega)
  · exact key k 768 (by omega) _ (by omega) (by simp; omega)

/-- The body's result at an entry, from rows of its blocks. -/
theorem body_at (x0 : Vec Ideal S1024x1024 .f32) (x1 x2 x3 x4 : Vec Ideal S1024x256 .bf16) (x5 : Vec Ideal S1x256 .f32) (x6 : Vec Ideal S1024x1024 .bf16) (x7 : Vec Ideal S1x1024 .f32) (x8 : Vec Ideal S1024x1024 .bf16) (x9 : Vec Ideal S1x256 .f32)
    (ka va kb vb kc vc kd vd : Vec Ideal S1x256x256 .bf16) (x12 : Vec Ideal S1024x1024 .bf16) (r n : Fin 1024) (w : Fin 64 → EReal) (hw : ∀ j : Fin 256, x5 (ix2 0 j) = w ⟨j.val % 64, by omega⟩)
    (K V : Fin 256 → Fin 1024 → EReal) (hka : ∀ m d, ka (ix3 0 m d) = K m ⟨d.val, by omega⟩) (hva : ∀ m d, va (ix3 0 m d) = V m ⟨d.val, by omega⟩)
    (hkb : ∀ m d, kb (ix3 0 m d) = K m ⟨256 + d.val, by omega⟩) (hvb : ∀ m d, vb (ix3 0 m d) = V m ⟨256 + d.val, by omega⟩)
    (hkc : ∀ m d, kc (ix3 0 m d) = K m ⟨512 + d.val, by omega⟩) (hvc : ∀ m d, vc (ix3 0 m d) = V m ⟨512 + d.val, by omega⟩)
    (hkd : ∀ m d, kd (ix3 0 m d) = K m ⟨768 + d.val, by omega⟩) (hvd : ∀ m d, vd (ix3 0 m d) = V m ⟨768 + d.val, by omega⟩) :
    body x0 x1 x2 x3 x4 x5 x6 x7 x8 x9 ka va kb vb kc vc kd vd x12 (ix2 r n)
      = XattnSpec.out (fun k => x0 (ix2 r k)) (fun k => x1 (ix2 r k)) (fun k => x2 (ix2 r k)) (fun k => x3 (ix2 r k)) (fun k => x4 (ix2 r k)) w (fun k n => x6 (ix2 k n)) (fun k => x7 (ix2 0 k)) (fun k n => x8 (ix2 k n)) (fun k => x9 (ix2 0 k)) K V (fun k n => x12 (ix2 k n)) n := by
  have hX : ∀ k, k0_pay11 (k0_pay4 x1 x5) (k0_pay5 x1) (k0_pay6 x5) k0_pay7 (k0_pay9 x1) (k0_pay10 x1) x2 x3 x4 x0 x6 (ix2 r k)
      = XattnSpec.mid (fun k => x0 (ix2 r k)) (fun k => x1 (ix2 r k)) (fun k => x2 (ix2 r k)) (fun k => x3 (ix2 r k)) (fun k => x4 (ix2 r k)) w (fun k n => x6 (ix2 k n)) k :=
    fun k => pay11_at x1 x5 x2 x3 x4 x0 x6 r k w hw
  have hQ : ∀ k, k0_pay14 (k0_pay11 (k0_pay4 x1 x5) (k0_pay5 x1) (k0_pay6 x5) k0_pay7 (k0_pay9 x1) (k0_pay10 x1) x2 x3 x4 x0 x6) (k0_pay12 x7) (k0_pay13 (k0_pay4 x1 x5) (k0_pay5 x1) (k0_pay6 x5) k0_pay7 (k0_pay9 x1) (k0_pay10 x1) x2 x3 x4 x0 x6) x8 (ix2 r k)
      = XattnSpec.query (XattnSpec.mid (fun k => x0 (ix2 r k)) (fun k => x1 (ix2 r k)) (fun k => x2 (ix2 r k)) (fun k => x3 (ix2 r k)) (fun k => x4 (ix2 r k)) w (fun k n => x6 (ix2 k n))) (fun k => x7 (ix2 0 k)) (fun k n => x8 (ix2 k n)) k := by
    intro k
    rw [pay14_at]
    have h12 : ∀ k, k0_pay12 x7 (ix2 0 k) = x7 (ix2 0 k) := fun k => by pointwise [k0_pay12]
    simp only [pay13_at, hX, h12]
    rfl
  unfold body XattnSpec.out
  rw [pay1_at]
  have h16 : ∀ v : FVec Ideal S1024x256 .f32, ∀ d : Fin 256, k0_pay16 v (ix2 r d) = v (ix2 r d) := fun v d => by pointwise [k0_pay16]
  simp only [h16, hd3_at, pay15_at, pay17_at, pay21_at, hX, hQ, hka, hva, hkb, hvb, hkc, hvc, hkd, hvd]
  rw [← heads_mixed]

/-- What the body leaves in its block of the result. -/
theorem out_eq (x0 : Vec Ideal S1024x1024 .f32) (x1 x2 x3 x4 : Vec Ideal S1024x256 .bf16) (x5 : Vec Ideal S1x256 .f32) (x6 : Vec Ideal S1024x1024 .bf16) (x7 : Vec Ideal S1x1024 .f32) (x8 : Vec Ideal S1024x1024 .bf16) (x9 : Vec Ideal S1x256 .f32)
    (x10 x11 : Vec Ideal S1x256x1024 .bf16) (x12 : Vec Ideal S1024x1024 .bf16) :
    out0_13 x0 x1 x2 x3 x4 x5 x6 x7 x8 x9 x10 x11 x12
      = body x0 x1 x2 x3 x4 x5 x6 x7 x8 x9 (View.ld x10 r0_4) (View.ld x11 r0_4) (View.ld x10 r0_5) (View.ld x11 r0_5) (View.ld x10 r0_6) (View.ld x11 r0_6) (View.ld x10 r0_7) (View.ld x11 r0_7) x12 := by
  have e0 : ∀ x : Vec Ideal S1024x256 .bf16, View.ld x r0_0 = x := fun x => View.ld_unit_lit _ x (by decide)
  have e1 : ∀ x : Vec Ideal S1x256 .f32, View.ld x r0_1 = x := fun x => View.ld_unit_lit _ x (by decide)
  have e2 : ∀ x : Vec Ideal S1024x1024 .f32, View.ld x r0_2 = x := fun x => View.ld_unit_lit _ x (by decide)
  have e4 : ∀ x : Vec Ideal S1024x1024 .bf16, View.ld x r0_2 = x := fun x => View.ld_unit_lit _ x (by decide)
  have e3 : ∀ x : Vec Ideal S1x1024 .f32, View.ld x r0_3 = x := fun x => View.ld_unit_lit _ x (by decide)
  unfold out0_13 body
  refine (View.canon_unit_zero (by decide) _ _).trans ?_
  unfold k0_pay34 k0_pay33 k0_pay32 k0_pay31 k0_pay30 k0_pay29 k0_pay28 k0_pay27 k0_pay26 k0_pay25
  rw [e0, e0, e0, e0, e1, e1, e2, e3, e4, e4, e4]

/-- The lanes of the first head. -/
theorem ld4 (x : Vec Ideal S1x256x1024 .bf16) (m d : Fin 256) : View.ld x r0_4 (ix3 0 m d) = x (ix3 0 m ⟨d.val, by omega⟩) := by
  refine congrArg x (funext fun a => Fin.ext ?_)
  fin_cases a <;> simp [LoadRect.idx]

/-- The lanes of the second head. -/
theorem ld5 (x : Vec Ideal S1x256x1024 .bf16) (m d : Fin 256) : View.ld x r0_5 (ix3 0 m d) = x (ix3 0 m ⟨256 + d.val, by omega⟩) := by
  pointwise []

/-- The lanes of the third head. -/
theorem ld6 (x : Vec Ideal S1x256x1024 .bf16) (m d : Fin 256) : View.ld x r0_6 (ix3 0 m d) = x (ix3 0 m ⟨512 + d.val, by omega⟩) := by
  refine congrArg x (funext fun a => Fin.ext ?_)
  fin_cases a <;> simp [LoadRect.idx]

/-- The lanes of the fourth head. -/
theorem ld7 (x : Vec Ideal S1x256x1024 .bf16) (m d : Fin 256) : View.ld x r0_7 (ix3 0 m d) = x (ix3 0 m ⟨768 + d.val, by omega⟩) := by
  refine congrArg x (funext fun a => Fin.ext ?_)
  fin_cases a <;> simp [LoadRect.idx]

/-- A point's block of the result is the layer's result at its rows. -/
theorem block (m : (ℓ : Loc nD τ sig) → Buf (Elt Ideal) ℓ) (c : Dev nD) (t : Fin cfg0.N) (b : Fin 16) (s : Fin 2048) (r : Fin 1024) (h : 2048 * b.val + s.val = 1024 * t.val + r.val) (n : Fin 1024) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r n)
      = XattnSpec.out (fun k => m ((c.tc : Thread nD τ).loc main_arg0) (ix3 b s k)) (fun k => m ((c.tc : Thread nD τ).loc main_arg1) (ix3 b s k)) (fun k => m ((c.tc : Thread nD τ).loc main_arg2) (ix3 b s k)) (fun k => m ((c.tc : Thread nD τ).loc main_arg3) (ix3 b s k)) (fun k => m ((c.tc : Thread nD τ).loc main_arg4) (ix3 b s k))
        (fun d => m ((c.tc : Thread nD τ).loc main_arg5) (ix1 d)) (fun k n => m ((c.tc : Thread nD τ).loc main_arg6) (ix2 k n)) (fun k => m ((c.tc : Thread nD τ).loc main_arg7) (ix1 k)) (fun k n => m ((c.tc : Thread nD τ).loc main_arg8) (ix2 k n)) (fun k => m ((c.tc : Thread nD τ).loc main_arg9) (ix1 k))
        (fun x k => m ((c.tc : Thread nD τ).loc main_arg10) (ix3 b x k)) (fun x k => m ((c.tc : Thread nD τ).loc main_arg11) (ix3 b x k)) (fun k n => m ((c.tc : Thread nD τ).loc main_arg12) (ix2 k n)) n := by
  rw [out_eq]
  have ht : t.val < 32 := t.isLt
  have hb : b.val = t.val / 2 := by omega
  have hk := fun x k => iblk10 m c t x k b hb
  have hv := fun x k => iblk11 m c t x k b hb
  refine (body_at _ _ _ _ _ _ _ _ _ _ _ _ _ _ _ _ _ _ _ r n (fun d => m ((c.tc : Thread nD τ).loc main_arg5) (ix1 d)) (iblk5 m c t) (fun x k => m ((c.tc : Thread nD τ).loc main_arg10) (ix3 b x k)) (fun x k => m ((c.tc : Thread nD τ).loc main_arg11) (ix3 b x k))
    (fun x d => (ld4 _ x d).trans (hk _ _)) (fun x d => (ld4 _ x d).trans (hv _ _)) (fun x d => (ld5 _ x d).trans (hk _ _)) (fun x d => (ld5 _ x d).trans (hv _ _))
    (fun x d => (ld6 _ x d).trans (hk _ _)) (fun x d => (ld6 _ x d).trans (hv _ _)) (fun x d => (ld7 _ x d).trans (hk _ _)) (fun x d => (ld7 _ x d).trans (hv _ _))).trans ?_
  simp only [fun k => iblk0 m c t r k b s h, fun k => iblk1 m c t r k b s h, fun k => iblk2 m c t r k b s h, fun k => iblk3 m c t r k b s h, fun k => iblk4 m c t r k b s h, iblk6, iblk7, iblk8, iblk9, iblk12]

end Cert.XattnIdeal.RefValue

end
end
-- ==== Proof.XattnRef.lean ====
module

public import proofs.«01_k».proof.Proof.XattnSpec
public import proofs.«01_k».proof.Proof.FoxMath
public import proofs.«01_k».proof.Proof.Gen.XattnReferenceIdeal.Run
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section
set_option maxRecDepth 16384
noncomputable section
namespace Cert.XattnReferenceIdeal.RefValue
open Idealize.ShloMosaic Idealize.ShloMosaic.TcCoe Idealize.SL.Sem Cert.XattnReferenceIdeal Cert.XattnReferenceIdeal.Gen

/-- The forgetting attention's rows after their norm. -/
def fnArr (a1 : FVec Ideal S16x2048x256 .f32) (a5 : FVec Ideal S64 .f32) : FVec Ideal S16x2048x256 .f32 := (shapeCast _ (mulf (mulf (shapeCast _ a1 shapeCasts_S16x2048x256_S16x2048x4x64) (broadcastInDim S16x2048x4x64 ![0, 1, 2, 3] bcast_S16x2048x4x1_S16x2048x4x64_0_1_2_3 (Host.rsqrt (addf (Host.divf (broadcastInDim S16x2048x4x1 ![0, 1, 2] bcast_S16x2048x4_S16x2048x4x1_0_1_2 (Host.reduceAdd (mulf (shapeCast _ a1 shapeCasts_S16x2048x256_S16x2048x4x64) (shapeCast _ a1 shapeCasts_S16x2048x256_S16x2048x4x64)) (constant S_ .f32 0x00000000#32) reducesTo_S16x2048x4x64_S16x2048x4_d3 h_S_)) (broadcastInDim S16x2048x4x1 ![] bcast_S_S16x2048x4x1 (constant S_ .f32 0x42800000#32))) (broadcastInDim S16x2048x4x1 ![] bcast_S_S16x2048x4x1 (constant S_ .f32 0x358637BD#32)))))) (broadcastInDim S16x2048x4x64 ![0, 1, 2, 3] bcast_S1x1x1x64_S16x2048x4x64_0_1_2_3 (broadcastInDim S1x1x1x64 ![3] bcast_S64_S1x1x1x64_3 a5))) shapeCasts_S16x2048x4x64_S16x2048x256)

/-- The rows after the mixing. -/
def xArr (a0 : FVec Ideal S16x2048x1024 .f32) (f a2 a3 a4 : FVec Ideal S16x2048x256 .f32) (a6 : FVec Ideal S1024x1024 .f32) : FVec Ideal S16x2048x1024 .f32 := (addf a0 (Host.dotGeneral dot_S16x2048x1024_S1024x1024_S16x2048x1024_2_0_01_1_n_n none ((concatenate S16x2048x1024 2 [⟨S16x2048x256, (f : (⟨S16x2048x256, .f32⟩ : BufTy).Contents (Elt Ideal))⟩, ⟨S16x2048x256, (a2 : (⟨S16x2048x256, .f32⟩ : BufTy).Contents (Elt Ideal))⟩, ⟨S16x2048x256, (a3 : (⟨S16x2048x256, .f32⟩ : BufTy).Contents (Elt Ideal))⟩, ⟨S16x2048x256, (a4 : (⟨S16x2048x256, .f32⟩ : BufTy).Contents (Elt Ideal))⟩] concatenates_S16x2048x256_S16x2048x256_S16x2048x256_S16x2048x256_S16x2048x1024_d2 : FVec Ideal S16x2048x1024 .f32)) a6))

/-- The rows after the norm. -/
def hArr (X : FVec Ideal S16x2048x1024 .f32) (a7 : FVec Ideal S1024 .f32) : FVec Ideal S16x2048x1024 .f32 := (mulf (mulf X (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf X X) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 a7)))

/-- The queries. -/
def qArr (H : FVec Ideal S16x2048x1024 .f32) (a8 : FVec Ideal S1024x1024 .f32) : FVec Ideal S16x2048x1024 .f32 := (Host.dotGeneral dot_S16x2048x1024_S1024x1024_S16x2048x1024_2_0_01_1_n_n none H a8)

/-- The queries after their norm. -/
def nArr (Q : FVec Ideal S16x2048x1024 .f32) (a9 : FVec Ideal S256 .f32) : FVec Ideal S16x2048x4x256 .f32 := (mulf (mulf (shapeCast _ Q shapeCasts_S16x2048x1024_S16x2048x4x256) (broadcastInDim S16x2048x4x256 ![0, 1, 2, 3] bcast_S16x2048x4x1_S16x2048x4x256_0_1_2_3 (Host.rsqrt (addf (Host.divf (broadcastInDim S16x2048x4x1 ![0, 1, 2] bcast_S16x2048x4_S16x2048x4x1_0_1_2 (Host.reduceAdd (mulf (shapeCast _ Q shapeCasts_S16x2048x1024_S16x2048x4x256) (shapeCast _ Q shapeCasts_S16x2048x1024_S16x2048x4x256)) (constant S_ .f32 0x00000000#32) reducesTo_S16x2048x4x256_S16x2048x4_d3 h_S_)) (broadcastInDim S16x2048x4x1 ![] bcast_S_S16x2048x4x1 (constant S_ .f32 0x43800000#32))) (broadcastInDim S16x2048x4x1 ![] bcast_S_S16x2048x4x1 (constant S_ .f32 0x358637BD#32)))))) (broadcastInDim S16x2048x4x256 ![0, 1, 2, 3] bcast_S1x1x1x256_S16x2048x4x256_0_1_2_3 (broadcastInDim S1x1x1x256 ![3] bcast_S256_S1x1x1x256_3 a9)))

/-- The scores. -/
def sArr (N : FVec Ideal S16x2048x4x256 .f32) (a10 : FVec Ideal S16x256x1024 .f32) : FVec Ideal S16x4x2048x256 .f32 := (mulf (Host.dotGeneral dot_S16x2048x4x256_S16x256x4x256_S16x4x2048x256_3_3_1_1_02_02 none N (shapeCast _ a10 shapeCasts_S16x256x1024_S16x256x4x256)) (broadcastInDim S16x4x2048x256 ![] bcast_S_S16x4x2048x256 (constant S_ .f32 0x3D800000#32)))

/-- Each row's largest score. -/
def mxArr (S : FVec Ideal S16x4x2048x256 .f32) : FVec Ideal S16x4x2048 .f32 := (Host.reduce FloatOps.maximumf S (constant S_ .f32 0xFF800000#32) reducesTo_S16x4x2048x256_S16x4x2048_d3 h_S_)

/-- The exponentials given each row's largest. -/
def exOf (S : FVec Ideal S16x4x2048x256 .f32) (M : FVec Ideal S16x4x2048 .f32) : FVec Ideal S16x4x2048x256 .f32 := (Host.exp (subf S (broadcastInDim S16x4x2048x256 ![0, 1, 2, 3] bcast_S16x4x2048x1_S16x4x2048x256_0_1_2_3 (broadcastInDim S16x4x2048x1 ![0, 1, 2] bcast_S16x4x2048_S16x4x2048x1_0_1_2 (maximumf (broadcastInDim S16x4x2048 ![] bcast_S_S16x4x2048 (constant S_ .f32 0xFF800000#32)) M)))))

/-- The exponentials of the scores less their row's largest. -/
def exArr (S : FVec Ideal S16x4x2048x256 .f32) : FVec Ideal S16x4x2048x256 .f32 := exOf S (mxArr S)

/-- The heads' outputs. -/
def oArr (a11 : FVec Ideal S16x256x1024 .f32) (E : FVec Ideal S16x4x2048x256 .f32) : FVec Ideal S16x2048x1024 .f32 := (shapeCast _ (transpose S16x2048x4x256 [0, 3, 1, 2] (Host.dotGeneral dot_S16x256x4x256_S16x4x2048x256_S16x4x256x2048_1_3_3_2_02_01 none (shapeCast _ a11 shapeCasts_S16x256x1024_S16x256x4x256) (Host.divf E (broadcastInDim S16x4x2048x256 ![0, 1, 2, 3] bcast_S16x4x2048x1_S16x4x2048x256_0_1_2_3 (broadcastInDim S16x4x2048x1 ![0, 1, 2] bcast_S16x4x2048_S16x4x2048x1_0_1_2 (Host.reduceAdd E (constant S_ .f32 0x00000000#32) reducesTo_S16x4x2048x256_S16x4x2048_d3 h_S_))))) transposes_S16x4x256x2048_S16x2048x4x256_0_3_1_2) shapeCasts_S16x2048x4x256_S16x2048x1024)

/-- The result. -/
def outArr (X O : FVec Ideal S16x2048x1024 .f32) (a12 : FVec Ideal S1024x1024 .f32) : FVec Ideal S32768x1024 .f32 := shapeCast _ (addf X (Host.dotGeneral dot_S16x2048x1024_S1024x1024_S16x2048x1024_2_0_01_1_n_n none O a12)) shapeCasts_S16x2048x1024_S32768x1024

/-- The rows after the mixing, of the arguments. -/
abbrev XM (m : (ℓ : Loc nD τ sig) → Buf (Elt Ideal) ℓ) (c : Dev nD) : FVec Ideal S16x2048x1024 .f32 := xArr (m (c.tc.loc main_arg0)) (fnArr (m (c.tc.loc main_arg1)) (m (c.tc.loc main_arg5))) (m (c.tc.loc main_arg2)) (m (c.tc.loc main_arg3)) (m (c.tc.loc main_arg4)) (m (c.tc.loc main_arg6))

/-- The reference's result, stage by stage. -/
theorem res_eq (m : (ℓ : Loc nD τ sig) → Buf (Elt Ideal) ℓ) (c : Dev nD) : Value.res_main_v67 m c = outArr (XM m c) (oArr (m (c.tc.loc main_arg11)) (exArr (sArr (nArr (qArr (hArr (XM m c) (m (c.tc.loc main_arg7))) (m (c.tc.loc main_arg8))) (m (c.tc.loc main_arg9))) (m (c.tc.loc main_arg10))))) (m (c.tc.loc main_arg12)) := rfl

/-- A position among the last heads, counted from the front. -/
theorem mixed_eq (f s g h : Fin 256 → EReal) (x : Fin 1024) :
    XattnSpec.mixed f s g h x = if h_1 : x.val < 256 then f ⟨x.val, h_1⟩ else if h_2 : x.val - 256 < 256 then s ⟨x.val - 256, h_2⟩
      else if h_3 : x.val - 256 - 256 < 256 then g ⟨x.val - 256 - 256, h_3⟩ else h ⟨x.val - 256 - 256 - 256, by omega⟩ := by
  unfold XattnSpec.mixed
  split_ifs <;> first | rfl | (exfalso; omega) | (congr 1)

/-- Sixty-four. -/
theorem sixtyfour : Ideal.ofBits FTy.f32 1115684864#32 = ((64 : ℝ) : EReal) := by
  simp [Ideal.ofBits, Ideal.ieee, -EReal.coe_mul]
  norm_num

/-- One sixteenth. -/
theorem sixteenth : Ideal.ofBits FTy.f32 1031798784#32 = ((1/16 : ℝ) : EReal) := by
  simp [Ideal.ofBits, Ideal.ieee, -EReal.coe_mul]
  norm_num

/-- The largest score starts from the bottom. -/
theorem ninf : (Ideal.ofBits FTy.f32 4286578688#32 : EReal) = ⊥ := by
  simp [Ideal.ofBits, Ideal.ieee]

/-- The normed rows at an entry. -/
theorem fn_at (a1 : FVec Ideal S16x2048x256 .f32) (a5 : FVec Ideal S64 .f32) (b : Fin 16) (i : Fin 2048) (j : Fin 256) :
    fnArr a1 a5 (ix3 b i j) = XattnSpec.normed64 (fun d => a1 (ix3 b i d)) (fun d => a5 (ix1 d)) j := by
  generalize hG : XattnSpec.normed64 _ _ _ = G
  unfold fnArr
  pointwise []
  rw [← hG, sixtyfour, Ideal.div_coe (by norm_num)]
  rfl

/-- The mixed rows at an entry. -/
theorem x_at (a0 : FVec Ideal S16x2048x1024 .f32) (f a2 a3 a4 : FVec Ideal S16x2048x256 .f32) (a6 : FVec Ideal S1024x1024 .f32) (b : Fin 16) (i : Fin 2048) (j : Fin 1024) :
    xArr a0 f a2 a3 a4 a6 (ix3 b i j) = XattnSpec.plus (fun k => a0 (ix3 b i k)) (XattnSpec.mixed (fun d => f (ix3 b i d)) (fun d => a2 (ix3 b i d)) (fun d => a3 (ix3 b i d)) (fun d => a4 (ix3 b i d))) (fun k n => a6 (ix2 k n)) j := by
  unfold XattnSpec.plus
  simp only [mixed_eq]
  generalize hG : (_ + _ : EReal) = G
  unfold xArr
  pointwise []
  rw [← hG]

/-- A normed row at an entry. -/
theorem h_at (X : FVec Ideal S16x2048x1024 .f32) (a7 : FVec Ideal S1024 .f32) (b : Fin 16) (i : Fin 2048) (j : Fin 1024) :
    hArr X a7 (ix3 b i j) = XattnSpec.normed (fun k => X (ix3 b i k)) (fun k => a7 (ix1 k)) j := by
  unfold hArr XattnSpec.normed
  pointwise []

/-- A query at an entry. -/
theorem q_at (H : FVec Ideal S16x2048x1024 .f32) (a8 : FVec Ideal S1024x1024 .f32) (b : Fin 16) (i : Fin 2048) (j : Fin 1024) :
    qArr H a8 (ix3 b i j) = ∑ k, H (ix3 b i k) * a8 (ix2 k j) := by
  unfold qArr
  pointwise []

/-- A normed query at an entry. -/
theorem n_at (Q : FVec Ideal S16x2048x1024 .f32) (a9 : FVec Ideal S256 .f32) (b : Fin 16) (i : Fin 2048) (h : Fin 4) (d : Fin 256) :
    nArr Q a9 (ix4 b i h d) = XattnSpec.qn (fun d => Q (ix3 b i ⟨h.val * 256 + d.val, by omega⟩)) (fun d => a9 (ix1 d)) d := by
  unfold nArr XattnSpec.qn
  pointwise []

/-- A score at an entry. -/
theorem s_at (N : FVec Ideal S16x2048x4x256 .f32) (a10 : FVec Ideal S16x256x1024 .f32) (b : Fin 16) (i : Fin 2048) (h : Fin 4) (k : Fin 256) :
    sArr N a10 (ix4 b h i k) = ∑ d, N (ix4 b i h d) * Ideal.ofBits FTy.f32 1031798784#32 * a10 (ix3 b k ⟨h.val * 256 + d.val, by omega⟩) := by
  have e : sArr N a10 (ix4 b h i k) = (∑ d, N (ix4 b i h d) * a10 (ix3 b k ⟨h.val * 256 + d.val, by omega⟩)) * Ideal.ofBits FTy.f32 1031798784#32 := by
    unfold sArr
    pointwise []
  rw [e, sixteenth, Cert.FoxIdeal.RefValue.sum_mul_real _ _ (by norm_num)]
  exact Finset.sum_congr rfl fun d _ => mul_right_comm _ _ _

/-- The largest along the last axis of a rank-four array. -/
theorem max4 {n0 n1 n2 n3 : ℕ} (v : FVec Ideal ⟨4, ![n0, n1, n2, n3]⟩ .f32) (w : BitVec 32) (h : (⟨4, ![n0, n1, n2, n3]⟩ : Shape).ReducesTo [3] ⟨3, ![n0, n1, n2]⟩) (hu : 0 < S_.numel) (a : Fin n0) (b : Fin n1) (d : Fin n2) :
    Host.reduce FloatOps.maximumf v (constant S_ .f32 w : FVec Ideal S_ .f32) h hu (ix3 a b d) = Finset.univ.fold max (Ideal.ofBits FTy.f32 w) fun k : Fin n3 => v (ix4 a b d k) := by
  simp only [pointwise]

/-- A row's largest score. -/
theorem mx_at (S : FVec Ideal S16x4x2048x256 .f32) (b : Fin 16) (h : Fin 4) (i : Fin 2048) :
    mxArr S (ix3 b h i) = Finset.univ.fold max (Ideal.ofBits FTy.f32 4286578688#32) fun x => S (ix4 b h i x) :=
  max4 S _ _ _ b h i

/-- The exponential at an entry, given the rows' largest scores. -/
theorem exOf_at (S : FVec Ideal S16x4x2048x256 .f32) (M : FVec Ideal S16x4x2048 .f32) (b : Fin 16) (h : Fin 4) (i : Fin 2048) (j : Fin 256) :
    exOf S M (ix4 b h i j) = Ideal.exp (S (ix4 b h i j) - max (Ideal.ofBits FTy.f32 4286578688#32) (M (ix3 b h i))) := by
  unfold exOf
  pointwise []

/-- The exponential at an entry. -/
theorem ex_at (S : FVec Ideal S16x4x2048x256 .f32) (b : Fin 16) (h : Fin 4) (i : Fin 2048) (j : Fin 256) :
    exArr S (ix4 b h i j) = XattnSpec.ex (fun x => S (ix4 b h i x)) j := by
  unfold exArr
  rw [exOf_at, mx_at]
  unfold XattnSpec.ex
  rw [ninf, max_eq_right bot_le]

/-- The heads' outputs at an entry. -/
theorem o_at (a11 : FVec Ideal S16x256x1024 .f32) (E : FVec Ideal S16x4x2048x256 .f32) (b : Fin 16) (i : Fin 2048) (j : Fin 1024) :
    oArr a11 E (ix3 b i j) = ∑ x, Ideal.div (E (ix4 b ⟨j.val / 256, by omega⟩ i x)) (∑ y, E (ix4 b ⟨j.val / 256, by omega⟩ i y)) * a11 (ix3 b x j) := by
  have e : oArr a11 E (ix3 b i j) = ∑ x, a11 (ix3 b x j) * Ideal.div (E (ix4 b ⟨j.val / 256, by omega⟩ i x)) (∑ y, E (ix4 b ⟨j.val / 256, by omega⟩ i y)) := by
    unfold oArr
    pointwise []
  rw [e]
  exact Finset.sum_congr rfl fun d _ => mul_comm _ _

/-- The result at an entry. -/
theorem out_at (X O : FVec Ideal S16x2048x1024 .f32) (a12 : FVec Ideal S1024x1024 .f32) (y : Fin 32768) (j : Fin 1024) :
    outArr X O a12 (ix2 y j) = XattnSpec.plus (fun k => X (ix3 ⟨y.val / 2048, by omega⟩ ⟨y.val % 2048, by omega⟩ k)) (fun k => O (ix3 ⟨y.val / 2048, by omega⟩ ⟨y.val % 2048, by omega⟩ k)) (fun k n => a12 (ix2 k n)) j := by
  unfold outArr XattnSpec.plus
  pointwise []

/-- The heads' outputs of a row. -/
theorem heads_at (X : FVec Ideal S16x2048x1024 .f32) (a7 : FVec Ideal S1024 .f32) (a8 : FVec Ideal S1024x1024 .f32) (a9 : FVec Ideal S256 .f32) (a10 a11 : FVec Ideal S16x256x1024 .f32) (b : Fin 16) (i : Fin 2048) (j : Fin 1024) :
    oArr a11 (exArr (sArr (nArr (qArr (hArr X a7) a8) a9) a10)) (ix3 b i j)
      = XattnSpec.heads (XattnSpec.query (fun k => X (ix3 b i k)) (fun k => a7 (ix1 k)) (fun k n => a8 (ix2 k n))) (fun d => a9 (ix1 d)) (fun m k => a10 (ix3 b m k)) (fun m k => a11 (ix3 b m k)) j := by
  rw [o_at]
  have es : ∀ m : Fin 256, sArr (nArr (qArr (hArr X a7) a8) a9) a10 (ix4 b ⟨j.val / 256, by omega⟩ i m)
      = XattnSpec.lg (fun d => XattnSpec.query (fun k => X (ix3 b i k)) (fun k => a7 (ix1 k)) (fun k n => a8 (ix2 k n)) ⟨j.val / 256 * 256 + d.val, by omega⟩) (fun d => a9 (ix1 d)) (fun m d => a10 (ix3 b m ⟨j.val / 256 * 256 + d.val, by omega⟩)) m := by
    intro m
    rw [s_at]
    simp only [n_at, q_at, h_at]
    rfl
  simp only [ex_at, es]
  unfold XattnSpec.heads XattnSpec.head XattnSpec.soft
  refine Finset.sum_congr rfl fun m _ => ?_
  have ej : (⟨j.val / 256 * 256 + j.val % 256, by omega⟩ : Fin 1024) = j := Fin.ext (by simp; omega)
  simp only [ej]

/-- The reference's result, by row. -/
theorem ref_eq (m : (ℓ : Loc nD τ sig) → Buf (Elt Ideal) ℓ) (c : Dev nD) (y : S32768x1024.Idx) :
    Value.res_main_v67 m c y = XattnSpec.out
      (fun k => m ((c.tc : Thread nD τ).loc main_arg0) (ix3 ⟨(y 0).val / 2048, by have := (y 0).isLt; simp at this; omega⟩ ⟨(y 0).val % 2048, by omega⟩ k))
      (fun k => m ((c.tc : Thread nD τ).loc main_arg1) (ix3 ⟨(y 0).val / 2048, by have := (y 0).isLt; simp at this; omega⟩ ⟨(y 0).val % 2048, by omega⟩ k))
      (fun k => m ((c.tc : Thread nD τ).loc main_arg2) (ix3 ⟨(y 0).val / 2048, by have := (y 0).isLt; simp at this; omega⟩ ⟨(y 0).val % 2048, by omega⟩ k))
      (fun k => m ((c.tc : Thread nD τ).loc main_arg3) (ix3 ⟨(y 0).val / 2048, by have := (y 0).isLt; simp at this; omega⟩ ⟨(y 0).val % 2048, by omega⟩ k))
      (fun k => m ((c.tc : Thread nD τ).loc main_arg4) (ix3 ⟨(y 0).val / 2048, by have := (y 0).isLt; simp at this; omega⟩ ⟨(y 0).val % 2048, by omega⟩ k))
      (fun d => m ((c.tc : Thread nD τ).loc main_arg5) (ix1 d)) (fun k n => m ((c.tc : Thread nD τ).loc main_arg6) (ix2 k n)) (fun k => m ((c.tc : Thread nD τ).loc main_arg7) (ix1 k))
      (fun k n => m ((c.tc : Thread nD τ).loc main_arg8) (ix2 k n)) (fun k => m ((c.tc : Thread nD τ).loc main_arg9) (ix1 k))
      (fun x k => m ((c.tc : Thread nD τ).loc main_arg10) (ix3 ⟨(y 0).val / 2048, by have := (y 0).isLt; simp at this; omega⟩ x k))
      (fun x k => m ((c.tc : Thread nD τ).loc main_arg11) (ix3 ⟨(y 0).val / 2048, by have := (y 0).isLt; simp at this; omega⟩ x k))
      (fun k n => m ((c.tc : Thread nD τ).loc main_arg12) (ix2 k n)) (y 1) := by
  rw [res_eq]
  idx_vars y
  rw [out_at]
  simp only [heads_at, x_at, fn_at]
  rfl

end Cert.XattnReferenceIdeal.RefValue

end
end
-- ==== Proof.XattnValue.lean ====
module

public import proofs.«01_k».proof.Defs
public import proofs.«01_k».proof.Proof.XattnBlock
public import proofs.«01_k».proof.Proof.XattnRef
public import Idealize.ShloMosaic.Adequacy
public import Idealize.ShloMosaic.Init

@[expose] public section

set_option maxRecDepth 16384

noncomputable section

namespace Cert.XattnIdeal.RefValue

open Cert.XattnIdeal Cert.XattnIdeal.Gen Idealize.ShloMosaic Idealize.ShloMosaic.TcCoe Idealize.SL.Sem

variable (m : (ℓ : Loc nD τ sig) → Buf (Elt Ideal) ℓ) (c : Dev nD)

/-- The layer's result at row `s` of sequence `b`. -/
def row (b : Fin 16) (s : Fin 2048) : Fin 1024 → EReal :=
  XattnSpec.out (fun k => m ((c.tc : Thread nD τ).loc main_arg0) (ix3 b s k)) (fun k => m ((c.tc : Thread nD τ).loc main_arg1) (ix3 b s k)) (fun k => m ((c.tc : Thread nD τ).loc main_arg2) (ix3 b s k)) (fun k => m ((c.tc : Thread nD τ).loc main_arg3) (ix3 b s k)) (fun k => m ((c.tc : Thread nD τ).loc main_arg4) (ix3 b s k))
    (fun d => m ((c.tc : Thread nD τ).loc main_arg5) (ix1 d)) (fun k n => m ((c.tc : Thread nD τ).loc main_arg6) (ix2 k n)) (fun k => m ((c.tc : Thread nD τ).loc main_arg7) (ix1 k)) (fun k n => m ((c.tc : Thread nD τ).loc main_arg8) (ix2 k n)) (fun k => m ((c.tc : Thread nD τ).loc main_arg9) (ix1 k))
    (fun x k => m ((c.tc : Thread nD τ).loc main_arg10) (ix3 b x k)) (fun x k => m ((c.tc : Thread nD τ).loc main_arg11) (ix3 b x k)) (fun k n => m ((c.tc : Thread nD τ).loc main_arg12) (ix2 k n))

/-- The layer's result as the array that the call returns. -/
def layer (y : S32768x1024.Idx) : EReal :=
  row m c ⟨(y 0).val / 2048, by have := (y 0).isLt; simp at this; omega⟩ ⟨(y 0).val % 2048, by omega⟩ (y 1)

/-- The array that the grid leaves is the layer's result. -/
theorem final : (dats m 0 c).arrAt 13 cfg0.N = layer m c := by
  refine (dats m 0 c).arrAt_eq_of_covers 13 _ (by decide +kernel) fun t hf y => ?_
  blk_simp
  rw [after0_13]
  have ht : t.val < 32 := t.isLt
  idx_vars y
  refine (block m c t ⟨(1024 * t.val + y0.val) / 2048, by omega⟩ ⟨(1024 * t.val + y0.val) % 2048, by omega⟩ y0 (by simp; omega) y1).trans ?_
  have e0 := (idx t).2.2.2.2.2.2.2.2.2.2.2.2.2
  have a0 : ((((View.whole main_v20).slice (win0_13.rect t)).emb (ix2 y0 y1) 0 : Fin _) : ℕ) = 1024 * t.val + y0.val := by
    refine (Pipeline.Window.rect_emb_val win0_13 t (ix2 y0 y1) 0 rfl).trans ?_
    rw [e0]
    change t.val * 1024 + y0.val = _
    omega
  have a1 : ((((View.whole main_v20).slice (win0_13.rect t)).emb (ix2 y0 y1) 1 : Fin _) : ℕ) = y1.val := by
    refine (Pipeline.Window.rect_emb_val win0_13 t (ix2 y0 y1) 1 rfl).trans ?_
    rw [e0]
    change 0 * 1024 + y1.val = _
    omega
  change row m c _ _ _ = _
  unfold layer
  congr 1
  · exact Fin.ext (by simp only [a0])
  · exact Fin.ext (by simp only [a0])
  · exact Fin.ext a1.symm

end Cert.XattnIdeal.RefValue

namespace Cert.Proof

open Idealize.ShloMosaic Idealize.SL.Sem

/-- The mixing and cross-attention kernel and its reference end with the same result. -/
theorem xattn_algebraic [Cert.XattnIdeal.Facts] [Cert.XattnReferenceIdeal.Facts] : Cert.algebraic_XattnIdeal_XattnReferenceIdeal := by
  intro m ρ m' ρ' _ hagree
  refine ⟨_, Cert.XattnIdeal.Value.run_blocks m ρ, ?_⟩
  refine (θ_run Cert.XattnReferenceIdeal.defs _ _).mono (fun _ h c => ⟨(h c).1.trans ?_, (h c).2⟩) (Cert.XattnReferenceIdeal.Value.run m' ρ')
  funext y
  refine (Cert.XattnReferenceIdeal.RefValue.ref_eq m' c y).trans ?_
  refine Eq.trans ?_ (congrFun (Cert.XattnIdeal.RefValue.final m c) y).symm
  obtain ⟨h0, h1, h2, h3, h4, h5, h6, h7, h8, h9, h10, h11, h12⟩ := hagree c
  unfold Cert.XattnIdeal.RefValue.layer Cert.XattnIdeal.RefValue.row
  simp only [h0, h1, h2, h3, h4, h5, h6, h7, h8, h9, h10, h11, h12]

end Cert.Proof

end
end
-- ==== Proof.lean ====
module

public import proofs.«01_k».proof.Defs
public import proofs.«01_k».proof.Proof.Gen.Fox
public import proofs.«01_k».proof.Proof.Gen.Fox.Frame
public import proofs.«01_k».proof.Proof.Gen.FoxIdeal
public import proofs.«01_k».proof.Proof.Gen.FoxIdeal.Frame
public import proofs.«01_k».proof.Proof.Gen.FoxReferenceIdeal
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnReferenceIdeal
public import proofs.«01_k».proof.Proof.Gen.FoxIdeal.Value
public import proofs.«01_k».proof.Proof.Gen.FoxReferenceIdeal.Run
public import proofs.«01_k».proof.Proof.Gen.FfnIdeal.Value
public import proofs.«01_k».proof.Proof.Gen.FfnReferenceIdeal.Run
public import proofs.«01_k».proof.Proof.Gen.Xattn
public import proofs.«01_k».proof.Proof.Gen.Xattn.Frame
public import proofs.«01_k».proof.Proof.Gen.XattnIdeal
public import proofs.«01_k».proof.Proof.Gen.XattnIdeal.Frame
public import proofs.«01_k».proof.Proof.Gen.XattnIdeal.Value
public import proofs.«01_k».proof.Proof.Gen.XattnReferenceIdeal
public import proofs.«01_k».proof.Proof.Gen.XattnReferenceIdeal.Run
public import proofs.«01_k».proof.Proof.FfnValue
public import proofs.«01_k».proof.Proof.FoxValue
public import proofs.«01_k».proof.Proof.XattnValue
public import Idealize.ShloMosaic.Adequacy
public import Idealize.ShloMosaic.Init

@[expose] public section

noncomputable section

namespace Cert.Proof

open Idealize.ShloMosaic Idealize.SL.Sem

/-- The attention reference runs, keeps its arguments and uses no semaphore. -/
theorem fox_reference_frame : Cert.quiescent_FoxReferenceIdeal := fun m ρ _ =>
  (θ_run Cert.FoxReferenceIdeal.defs _ _).mono (fun r h => ⟨fun c => (h c).2, sem_eq_zero_of_no_sems (by decide) r.2⟩)
    (Cert.FoxReferenceIdeal.Value.run (F := Ideal) m ρ)

/-- The feed forward reference runs, keeps its arguments and uses no semaphore. -/
theorem ffn_reference_frame : Cert.quiescent_FfnReferenceIdeal := fun m ρ _ =>
  (θ_run Cert.FfnReferenceIdeal.defs _ _).mono (fun r h => ⟨fun c => (h c).2, sem_eq_zero_of_no_sems (by decide) r.2⟩)
    (Cert.FfnReferenceIdeal.Value.run (F := Ideal) m ρ)

/-- The mixing and cross-attention reference runs, keeps its arguments and uses no semaphore. -/
theorem xattn_reference_frame : Cert.quiescent_XattnReferenceIdeal := fun m ρ _ =>
  (θ_run Cert.XattnReferenceIdeal.defs _ _).mono (fun r h => ⟨fun c => (h c).2, sem_eq_zero_of_no_sems (by decide) r.2⟩)
    (Cert.XattnReferenceIdeal.Value.run (F := Ideal) m ρ)

/-- The one named constant: the mask's value is −∞. -/
theorem fox_preserves : Cert.preserves_Fox_FoxIdeal :=
  IdealRules.named_const.statement Cert.FoxIdeal.κ "mask" .f32 0xF149F2CA#32 ⊥ rfl

/-- Everything certified. -/
theorem claim : Cert.Claim :=
  haveI : Cert.Pre_finite_scores.Facts := Cert.Pre_finite_scores.holds
  ⟨Cert.Fox.Gen.facts, Cert.FoxIdeal.Gen.facts, Cert.FoxReferenceIdeal.Gen.facts, Cert.Ffn.Gen.facts, Cert.FfnIdeal.Gen.facts, Cert.FfnReferenceIdeal.Gen.facts,
  Cert.Xattn.Gen.facts, Cert.XattnIdeal.Gen.facts, Cert.XattnReferenceIdeal.Gen.facts, Cert.Pre_finite_scores.holds,
  fun m ρ _ => Cert.Fox.Gen.frame m ρ, fun m ρ _ => Cert.FoxIdeal.Gen.frame m ρ, fun m ρ _ => Cert.FoxIdeal.Gen.frame m ρ,
  fox_reference_frame, fun m ρ _ => fox_reference_frame m ρ trivial,
  fun m ρ _ => Cert.Ffn.Gen.frame m ρ, fun m ρ _ => Cert.FfnIdeal.Gen.frame m ρ, ffn_reference_frame,
  fun m ρ _ => Cert.Xattn.Gen.frame m ρ, fun m ρ _ => Cert.XattnIdeal.Gen.frame m ρ, xattn_reference_frame,
  fox_preserves, fox_algebraic, trivial, ffn_algebraic, trivial, xattn_algebraic⟩

end Cert.Proof

end
end
